-- ==== Defs.lean ====
def Pre_Kernel [hPre_routed : Cert.Pre_routed.Facts] (m : (ℓ : Loc Cert.Kernel.nD Cert.Kernel.τ Cert.Kernel.sig) → Buf (Elt Bits) ℓ) : Prop :=
  ∀ c : Dev Cert.Kernel.nD,
    (Cert.Pre_routed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_routed : Cert.Pre_routed.Facts] (m : (ℓ : Loc Cert.KernelIdeal.nD Cert.KernelIdeal.τ Cert.KernelIdeal.sig) → Buf (Elt Ideal) ℓ) : Prop :=
  ∀ c : Dev Cert.KernelIdeal.nD,
    (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_routed : Cert.Pre_routed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] [hPre_routed : Cert.Pre_routed.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] [hPre_routed : Cert.Pre_routed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v29) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v9_0)) (v1 : (c : Dev Cert.Kernel3Ideal.nD) → Buf (Elt Ideal) ((c.tc : Thread Cert.Kernel3Ideal.nD Cert.Kernel3Ideal.τ).loc Cert.Kernel3Ideal.main_v9_1)) (v2 : (c : Dev Cert.Kernel3Ideal.nD) → Buf (Elt Ideal) ((c.tc : Thread Cert.Kernel3Ideal.nD Cert.Kernel3Ideal.τ).loc Cert.Kernel3Ideal.main_v9_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9_0) = v0 c
          ∧ r.2.mem ((c.tc : Thread Cert.Kernel3Ideal.nD Cert.Kernel3Ideal.τ).loc Cert.Kernel3Ideal.main_v9_1) = v1 c
          ∧ r.2.mem ((c.tc : Thread Cert.Kernel3Ideal.nD Cert.Kernel3Ideal.τ).loc Cert.Kernel3Ideal.main_v9_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v49) = v0 c
          ∧ r.2.mem ((c.tc : Thread Cert.Reference3Ideal.nD Cert.Reference3Ideal.τ).loc Cert.Reference3Ideal.main_v50) = v1 c
          ∧ r.2.mem ((c.tc : Thread Cert.Reference3Ideal.nD Cert.Reference3Ideal.τ).loc Cert.Reference3Ideal.main_v51) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_routed : Cert.Pre_routed.Facts),
    quiescent_Kernel (hKernel := hKernel) (hPre_routed := hPre_routed)
    ∧ quiescent_KernelIdeal (hKernelIdeal := hKernelIdeal) (hPre_routed := hPre_routed)
    ∧ quiescent_ReferenceIdeal (hReferenceIdeal := hReferenceIdeal) (hPre_routed := hPre_routed)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal) (hPre_routed := hPre_routed)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_routed.lean ====
abbrev S64 : Shape := ⟨1, ![64]⟩
abbrev S81920x16x128 : Shape := ⟨3, ![81920, 16, 128]⟩
abbrev S1x64x2048x512 : Shape := ⟨4, ![1, 64, 2048, 512]⟩
abbrev S1x64x512x2048 : Shape := ⟨4, ![1, 64, 512, 2048]⟩
abbrev S_ : Shape := ⟨0, ![]⟩

class Facts : Prop where
  bcast_S_S64 : S_.BroadcastsInDim S64 (![] : Fin 0 → Fin S64.rank)
  reducesTo_S64_S_d0 : S64.ReducesTo [0] S_
  h_S_ : 0 < S_.numel

variable [Facts]

def fn {F : FTy → Type} [FloatOps F] (main_arg0 : IVec S64 32) (main_arg1 : FVec F S81920x16x128 .bf16) (main_arg2 : FVec F S1x64x2048x512 .f32) (main_arg3 : FVec F S1x64x2048x512 .f32) (main_arg4 : FVec F S1x64x512x2048 .f32) : IVec S_ 1 :=
  let main_c : IVec S_ 32 := constantI S_ 32 0#32
  let main_v0 : IVec S64 32 := broadcastInDim S64 ![] bcast_S_S64 main_c
  let main_v1 : IVec S64 1 := cmpi .sge main_arg0 main_v0
  let main_c_0 : IVec S_ 1 := constantI S_ 1 1#1
  let main_v2 : IVec S_ 1 := (fun x v => Host.reduce IntOp.andi x v reducesTo_S64_S_d0 h_S_) main_v1 main_c_0
  let main_c_1 : IVec S_ 32 := constantI S_ 32 8192#32
  let main_v3 : IVec S64 32 := broadcastInDim S64 ![] bcast_S_S64 main_c_1
  let main_v4 : IVec S64 1 := cmpi .sle main_arg0 main_v3
  let main_c_2 : IVec S_ 1 := constantI S_ 1 1#1
  let main_v5 : IVec S_ 1 := (fun x v => Host.reduce IntOp.andi x v reducesTo_S64_S_d0 h_S_) main_v4 main_c_2
  let main_v6 : IVec S_ 1 := andi main_v2 main_v5
  let main_c_3 : IVec S_ 32 := constantI S_ 32 0#32
  let main_v7 : IVec S_ 32 := (fun x v => Host.reduce IntOp.addi x v reducesTo_S64_S_d0 h_S_) main_arg0 main_c_3
  let main_c_4 : IVec S_ 32 := constantI S_ 32 65536#32
  let main_v8 : IVec S_ 1 := cmpi .eq main_v7 main_c_4
  let main_v9 : IVec S_ 1 := andi main_v6 main_v8
  main_v9
-- ==== Kernel.lean ====
abbrev S64 : Shape := ⟨1, ![64]⟩
abbrev S81920x16x128 : Shape := ⟨3, ![81920, 16, 128]⟩
abbrev S1x64x2048x512 : Shape := ⟨4, ![1, 64, 2048, 512]⟩
abbrev S1x64x512x2048 : Shape := ⟨4, ![1, 64, 512, 2048]⟩
abbrev S_ : Shape := ⟨0, ![]⟩
abbrev S320 : Shape := ⟨1, ![320]⟩
abbrev S1x64 : Shape := ⟨2, ![1, 64]⟩
abbrev S320x1 : Shape := ⟨2, ![320, 1]⟩
abbrev S320x64 : Shape := ⟨2, ![320, 64]⟩
abbrev S1 : Shape := ⟨1, ![1]⟩
abbrev S64x2048x512 : Shape := ⟨3, ![64, 2048, 512]⟩
abbrev S64x512x2048 : Shape := ⟨3, ![64, 512, 2048]⟩
abbrev S256x16x128 : Shape := ⟨3, ![256, 16, 128]⟩
abbrev S2x2048x512 : Shape := ⟨3, ![2, 2048, 512]⟩
abbrev S2x512x2048 : Shape := ⟨3, ![2, 512, 2048]⟩
abbrev S2048x512 : Shape := ⟨2, ![2048, 512]⟩
abbrev S512x2048 : Shape := ⟨2, ![512, 2048]⟩
abbrev S2x3 : Shape := ⟨2, ![2, 3]⟩
abbrev S1x1 : Shape := ⟨2, ![1, 1]⟩
abbrev S1x2048x512 : Shape := ⟨3, ![1, 2048, 512]⟩
abbrev S1x512x2048 : Shape := ⟨3, ![1, 512, 2048]⟩
abbrev S256x2048 : Shape := ⟨2, ![256, 2048]⟩
abbrev S256x512 : Shape := ⟨2, ![256, 512]⟩

abbrev nBuf : Space → Nat
  | .hbm => 130
  | .vmem => 10
  | .smem => 5
  | _ => 0

abbrev hbmTy0_0 (i : Nat) : BufTy := match i % 128 with
  | 0 => ⟨S64, .i32⟩
  | 1 => ⟨S81920x16x128, .bf16⟩
  | 2 => ⟨S1x64x2048x512, .f32⟩
  | 3 => ⟨S1x64x2048x512, .f32⟩
  | 4 => ⟨S1x64x512x2048, .f32⟩
  | 5 => ⟨S_, .i32⟩
  | 6 => ⟨S64, .i32⟩
  | 7 => ⟨S64, .i32⟩
  | 8 => ⟨S_, .i32⟩
  | 9 => ⟨S64, .i32⟩
  | 10 => ⟨S64, .i32⟩
  | 11 => ⟨S_, .i32⟩
  | 12 => ⟨S_, .i32⟩
  | 13 => ⟨S64, .i32⟩
  | 14 => ⟨S64, .i32⟩
  | 15 => ⟨S64, .i32⟩
  | 16 => ⟨S_, .i32⟩
  | 17 => ⟨S64, .i32⟩
  | 18 => ⟨S64, .i1⟩
  | 19 => ⟨S64, .i32⟩
  | 20 => ⟨S64, .i32⟩
  | 21 => ⟨S_, .i32⟩
  | 22 => ⟨S64, .i32⟩
  | 23 => ⟨S64, .i1⟩
  | 24 => ⟨S64, .i1⟩
  | 25 => ⟨S_, .i32⟩
  | 26 => ⟨S64, .i32⟩
  | 27 => ⟨S64, .i32⟩
  | 28 => ⟨S64, .i32⟩
  | 29 => ⟨S_, .i32⟩
  | 30 => ⟨S64, .i32⟩
  | 31 => ⟨S64, .i32⟩
  | 32 => ⟨S_, .i32⟩
  | 33 => ⟨S_, .i32⟩
  | 34 => ⟨S64, .i32⟩
  | 35 => ⟨S320, .i32⟩
  | 36 => ⟨S_, .i32⟩
  | 37 => ⟨S320, .i32⟩
  | 38 => ⟨S320, .i32⟩
  | 39 => ⟨S1x64, .i32⟩
  | 40 => ⟨S320x1, .i32⟩
  | 41 => ⟨S320x64, .i32⟩
  | 42 => ⟨S320x64, .i32⟩
  | 43 => ⟨S320x64, .i1⟩
  | 44 => ⟨S320x64, .i32⟩
  | 45 => ⟨S_, .i32⟩
  | 46 => ⟨S320, .i32⟩
  | 47 => ⟨S_, .i32⟩
  | 48 => ⟨S320, .i32⟩
  | 49 => ⟨S1, .i32⟩
  | 50 => ⟨S_, .i32⟩
  | 51 => ⟨S_, .i32⟩
  | 52 => ⟨S_, .i32⟩
  | 53 => ⟨S_, .i32⟩
  | 54 => ⟨S_, .i32⟩
  | 55 => ⟨S_, .i32⟩
  | 56 => ⟨S_, .i1⟩
  | 57 => ⟨S_, .i32⟩
  | 58 => ⟨S_, .i32⟩
  | 59 => ⟨S_, .i1⟩
  | 60 => ⟨S_, .i1⟩
  | 61 => ⟨S_, .i32⟩
  | 62 => ⟨S_, .i32⟩
  | 63 => ⟨S_, .i32⟩
  | 64 => ⟨S1x64, .i32⟩
  | 65 => ⟨S320x1, .i32⟩
  | 66 => ⟨S320x64, .i32⟩
  | 67 => ⟨S320x64, .i32⟩
  | 68 => ⟨S320x64, .i1⟩
  | 69 => ⟨S1x64, .i32⟩
  | 70 => ⟨S_, .i32⟩
  | 71 => ⟨S_, .i32⟩
  | 72 => ⟨S320x64, .i32⟩
  | 73 => ⟨S320x64, .i32⟩
  | 74 => ⟨S320x64, .i32⟩
  | 75 => ⟨S_, .i32⟩
  | 76 => ⟨S320, .i32⟩
  | 77 => ⟨S1, .i32⟩
  | 78 => ⟨S_, .i32⟩
  | 79 => ⟨S320, .i32⟩
  | 80 => ⟨S320, .i1⟩
  | 81 => ⟨S1x64, .i32⟩
  | 82 => ⟨S320x1, .i32⟩
  | 83 => ⟨S320x64, .i32⟩
  | 84 => ⟨S320x64, .i32⟩
  | 85 => ⟨S320x64, .i1⟩
  | 86 => ⟨S320x64, .i32⟩
  | 87 => ⟨S_, .i32⟩
  | 88 => ⟨S320, .i32⟩
  | 89 => ⟨S_, .i32⟩
  | 90 => ⟨S320, .i32⟩
  | 91 => ⟨S1x64, .i32⟩
  | 92 => ⟨S320x1, .i32⟩
  | 93 => ⟨S320x64, .i32⟩
  | 94 => ⟨S320x64, .i32⟩
  | 95 => ⟨S320x64, .i1⟩
  | 96 => ⟨S1x64, .i32⟩
  | 97 => ⟨S_, .i32⟩
  | 98 => ⟨S1x64, .i32⟩
  | 99 => ⟨S1x64, .i1⟩
  | 100 => ⟨S320x64, .i1⟩
  | 101 => ⟨S320x64, .i1⟩
  | 102 => ⟨S320x64, .i32⟩
  | 103 => ⟨S_, .i32⟩
  | 104 => ⟨S320, .i32⟩
  | 105 => ⟨S_, .i32⟩
  | 106 => ⟨S_, .i32⟩
  | 107 => ⟨S_, .i32⟩
  | 108 => ⟨S_, .i1⟩
  | 109 => ⟨S_, .i32⟩
  | 110 => ⟨S_, .i32⟩
  | 111 => ⟨S320, .i32⟩
  | 112 => ⟨S320, .i32⟩
  | 113 => ⟨S_, .i32⟩
  | 114 => ⟨S320, .i32⟩
  | 115 => ⟨S320, .i1⟩
  | 116 => ⟨S_, .i32⟩
  | 117 => ⟨S320, .i32⟩
  | 118 => ⟨S320, .i1⟩
  | 119 => ⟨S_, .i32⟩
  | 120 => ⟨S_, .i1⟩
  | 121 => ⟨S320, .i1⟩
  | 122 => ⟨S320, .i1⟩
  | 123 => ⟨S320, .i1⟩
  | 124 => ⟨S320, .i32⟩
  | 125 => ⟨S320, .i32⟩
  | 126 => ⟨S64x2048x512, .f32⟩
  | 127 => ⟨S64x2048x512, .f32⟩
  | _ => ⟨S64, .i32⟩

abbrev hbmTy0_1 (i : Nat) : BufTy := match i % 128 with
  | 0 => ⟨S64x512x2048, .f32⟩
  | 1 => ⟨S81920x16x128, .bf16⟩
  | _ => ⟨S64, .i32⟩

abbrev hbmTy (i : Nat) : BufTy := match i / 128 with
  | 0 => hbmTy0_0 i
  | 1 => hbmTy0_1 i
  | _ => ⟨S64, .i32⟩

abbrev bufTy : (tb : Table) → Fin (tcTables nBuf tb) → BufTy
  | .hbm, ⟨i, _⟩ => hbmTy i
  | .local _ .vmem, ⟨0, _⟩ => ⟨S256x16x128, .bf16⟩
  | .local _ .vmem, ⟨1, _⟩ => ⟨S256x16x128, .bf16⟩
  | .local _ .vmem, ⟨2, _⟩ => ⟨S256x16x128, .bf16⟩
  | .local _ .vmem, ⟨3, _⟩ => ⟨S256x16x128, .bf16⟩
  | .local _ .vmem, ⟨4, _⟩ => ⟨S2x2048x512, .f32⟩
  | .local _ .vmem, ⟨5, _⟩ => ⟨S2x2048x512, .f32⟩
  | .local _ .vmem, ⟨6, _⟩ => ⟨S2x512x2048, .f32⟩
  | .local _ .vmem, ⟨7, _⟩ => ⟨S2048x512, .bf16⟩
  | .local _ .vmem, ⟨8, _⟩ => ⟨S2048x512, .bf16⟩
  | .local _ .vmem, ⟨9, _⟩ => ⟨S512x2048, .bf16⟩
  | .local _ .smem, ⟨0, _⟩ => ⟨S320, .i32⟩
  | .local _ .smem, ⟨1, _⟩ => ⟨S1, .i32⟩
  | .local _ .smem, ⟨2, _⟩ => ⟨S320, .i32⟩
  | .local _ .smem, ⟨3, _⟩ => ⟨S320, .i32⟩
  | .local _ .smem, ⟨4, _⟩ => ⟨S320, .i32⟩
  | _, _ => ⟨S64, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v4 : Ref sig .tc := ⟨.hbm, 28, rfl⟩
abbrev main_c_2 : Ref sig .tc := ⟨.hbm, 29, rfl⟩
abbrev main_v5 : Ref sig .tc := ⟨.hbm, 30, rfl⟩
abbrev main_v6 : Ref sig .tc := ⟨.hbm, 31, rfl⟩
abbrev main_call1_call0_c : Ref sig .tc := ⟨.hbm, 32, rfl⟩
abbrev main_call1_call0_v0 : Ref sig .tc := ⟨.hbm, 33, rfl⟩
abbrev main_v7 : Ref sig .tc := ⟨.hbm, 34, rfl⟩
abbrev main_v8 : Ref sig .tc := ⟨.hbm, 35, rfl⟩
abbrev main_c_3 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_c_4 : Ref sig .tc := ⟨.hbm, 45, rfl⟩
abbrev main_v17 : Ref sig .tc := ⟨.hbm, 46, rfl⟩
abbrev main_c_5 : Ref sig .tc := ⟨.hbm, 47, rfl⟩
abbrev main_v18 : Ref sig .tc := ⟨.hbm, 48, rfl⟩
abbrev main_v20 : Ref sig .tc := ⟨.hbm, 49, rfl⟩
abbrev main_v21 : Ref sig .tc := ⟨.hbm, 50, rfl⟩
abbrev main_c_6 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_call2_v5 : Ref sig .tc := ⟨.hbm, 57, rfl⟩
abbrev main_call2_c : Ref sig .tc := ⟨.hbm, 58, rfl⟩
abbrev main_call2_v6 : Ref sig .tc := ⟨.hbm, 59, rfl⟩
abbrev main_call2_v7 : Ref sig .tc := ⟨.hbm, 60, rfl⟩
abbrev main_call2_c_0 : Ref sig .tc := ⟨.hbm, 61, rfl⟩
abbrev main_call2_v8 : Ref sig .tc := ⟨.hbm, 62, rfl⟩
abbrev main_v22 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_c_7 : Ref sig .tc := ⟨.hbm, 70, rfl⟩
abbrev main_call3_v0 : Ref sig .tc := ⟨.hbm, 71, rfl⟩
abbrev main_call3_v1 : Ref sig .tc := ⟨.hbm, 72, rfl⟩
abbrev main_call3_v2 : Ref sig .tc := ⟨.hbm, 73, rfl⟩
abbrev main_v30 : Ref sig .tc := ⟨.hbm, 74, rfl⟩
abbrev main_c_8 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_c_9 : Ref sig .tc := ⟨.hbm, 87, rfl⟩
abbrev main_v43 : Ref sig .tc := ⟨.hbm, 88, rfl⟩
abbrev main_c_10 : Ref sig .tc := ⟨.hbm, 89, rfl⟩
abbrev main_v44 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_c_11 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_c_12 : Ref sig .tc := ⟨.hbm, 103, rfl⟩
abbrev main_v57 : Ref sig .tc := ⟨.hbm, 104, rfl⟩
abbrev main_c_13 : Ref sig .tc := ⟨.hbm, 105, rfl⟩
abbrev main_call4_v0 : Ref sig .tc := ⟨.hbm, 106, rfl⟩
abbrev main_call4_c : Ref sig .tc := ⟨.hbm, 107, rfl⟩
abbrev main_call4_v1 : Ref sig .tc := ⟨.hbm, 108, rfl⟩
abbrev main_call4_c_0 : Ref sig .tc := ⟨.hbm, 109, rfl⟩
abbrev main_call4_v2 : Ref sig .tc := ⟨.hbm, 110, rfl⟩
abbrev main_call4_v3 : Ref sig .tc := ⟨.hbm, 111, rfl⟩
abbrev main_call4_v4 : Ref sig .tc := ⟨.hbm, 112, rfl⟩
abbrev main_call4_c_1 : Ref sig .tc := ⟨.hbm, 113, rfl⟩
abbrev main_call4_v5 : Ref sig .tc := ⟨.hbm, 114, rfl⟩
abbrev main_call4_v6 : Ref sig .tc := ⟨.hbm, 115, rfl⟩
abbrev main_call4_c_2 : Ref sig .tc := ⟨.hbm, 116, rfl⟩
abbrev main_call4_v7 : Ref sig .tc := ⟨.hbm, 117, rfl⟩
abbrev main_call4_v8 : Ref sig .tc := ⟨.hbm, 118, rfl⟩
abbrev main_call4_c_3 : Ref sig .tc := ⟨.hbm, 119, rfl⟩
abbrev main_call4_v9 : Ref sig .tc := ⟨.hbm, 120, rfl⟩
abbrev main_call4_v10 : Ref sig .tc := ⟨.hbm, 121, rfl⟩
abbrev main_call4_v11 : Ref sig .tc := ⟨.hbm, 122, rfl⟩
abbrev main_call4_v12 : Ref sig .tc := ⟨.hbm, 123, rfl⟩
abbrev main_call4_v13 : Ref sig .tc := ⟨.hbm, 124, rfl⟩
abbrev main_call4_v14 : Ref sig .tc := ⟨.hbm, 125, rfl⟩
abbrev main_v59 : Ref sig .tc := ⟨.hbm, 126, rfl⟩
abbrev main_v60 : Ref sig .tc := ⟨.hbm, 127, rfl⟩
abbrev main_v61 : Ref sig .tc := ⟨.hbm, 128, rfl⟩
abbrev main_v62 : Ref sig .tc := ⟨.hbm, 129, rfl⟩
abbrev main_v19 : Ref sig .tc := ⟨.smem, 0, rfl⟩
abbrev main_v23 : Ref sig .tc := ⟨.smem, 1, rfl⟩
abbrev main_v58 : Ref sig .tc := ⟨.smem, 2, rfl⟩
abbrev main_v45 : Ref sig .tc := ⟨.smem, 3, rfl⟩
abbrev main_v36 : Ref sig .tc := ⟨.smem, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![320], ![false]⟩

abbrev pre0 : Pipeline.Prefetch sig := ⟨5, ![main_v19.idx, main_v23.idx, main_v58.idx, main_v45.idx, main_v36.idx], fun | 0 => main_v19.names | 1 => main_v23.names | 2 => main_v58.names | 3 => main_v45.names | 4 => main_v36.names | ⟨_ + 5, h⟩ => absurd h (Nat.not_lt.2 (Nat.le_add_left _ _)), fun | 0 => rfl | 1 => rfl | 2 => rfl | 3 => rfl | 4 => rfl | ⟨_ + 5, h⟩ => absurd h (Nat.not_lt.2 (Nat.le_add_left _ _))⟩

def k0_off1 (i : grid0.Coords) : Fin 1 → Nat :=
  let arg0 : BitVec 32 := BitVec.ofNat 32 (i 0).val
  let c1_i32 : BitVec 32 := 1#32
  let v2 : BitVec 32 := Scalar.subi arg0 c1_i32
  let c0_i32 : BitVec 32 := 0#32
  let v3 : BitVec 32 := Scalar.maxsi v2 c0_i32
  let v4 : Index := Scalar.indexCast v3
  ![v4.toNat]
def k0_off2 (i : grid0.Coords) : Fin 1 → Nat :=
  let arg0 : BitVec 32 := BitVec.ofNat 32 (i 0).val
  let v7 : Index := Scalar.indexCast arg0
  ![v7.toNat]
def k0_cond1 (i : grid0.Coords) : BitVec 1 :=
  let arg0 : BitVec 32 := BitVec.ofNat 32 (i 0).val
  let c0_i32_1 : BitVec 32 := 0#32
  let v13 : BitVec 1 := Scalar.cmpi .eq arg0 c0_i32_1
  let v14 : BitVec 32 := Scalar.extui v13
  let c0_i32_2 : BitVec 32 := 0#32
  let v15 : BitVec 1 := Scalar.cmpi .ne v14 c0_i32_2
  v15

def k0_off3 (v27 : BitVec 32) : Fin 2 → Nat :=
  let c0_i32_9 : BitVec 32 := 0#32
  ![v27.toNat, 0]

def k0_off4 (v27 : BitVec 32) : Fin 3 → Nat :=
  let c0_i32_10 : BitVec 32 := 0#32
  let c0_i32_11 : BitVec 32 := 0#32
  ![v27.toNat, 0, 0]
def k0_off5 (v26 : BitVec 32) : Fin 3 → Nat :=
  let c0_i32_12 : BitVec 32 := 0#32
  let c0_i32_13 : BitVec 32 := 0#32
  ![v26.toNat, 0, 0]

def k0_off6 (v27 : BitVec 32) : Fin 2 → Nat :=
  let c1_i32_14 : BitVec 32 := 1#32
  ![v27.toNat, 1]
def k0_off7 (v27 : BitVec 32) : Fin 3 → Nat :=
  let c0_i32_15 : BitVec 32 := 0#32
  let c0_i32_16 : BitVec 32 := 0#32
  ![v27.toNat, 0, 0]
def k0_off8 (v27 : BitVec 32) : Fin 2 → Nat :=
  let c2_i32 : BitVec 32 := 2#32
  ![v27.toNat, 2]
def k0_off9 (v27 : BitVec 32) : Fin 3 → Nat :=
  let c0_i32_19 : BitVec 32 := 0#32
  let c0_i32_20 : BitVec 32 := 0#32
  ![v27.toNat, 0, 0]

def k0_chk1 (i : grid0.Coords) (v27 : BitVec 32) : Prop :=
  (∀ (k0_h1 : k0_cond1 i = 1#1), ∀ a, (k0_off3 v27) a + S1x1.size a ≤ S2x3.size a) ∧
  (∀ (k0_h1 : k0_cond1 i = 1#1), ∀ a, (k0_off4 v27) a + S1x2048x512.size a ≤ S2x2048x512.size a) ∧
  (∀ (k0_h1 : k0_cond1 i = 1#1), ∀ a, (k0_off6 v27) a + S1x1.size a ≤ S2x3.size a) ∧
  (∀ (k0_h1 : k0_cond1 i = 1#1), ∀ a, (k0_off7 v27) a + S1x2048x512.size a ≤ S2x2048x512.size a) ∧
  (∀ (k0_h1 : k0_cond1 i = 1#1), ∀ a, (k0_off8 v27) a + S1x1.size a ≤ S2x3.size a) ∧
  (∀ (k0_h1 : k0_cond1 i = 1#1), ∀ a, (k0_off9 v27) a + S1x512x2048.size a ≤ S2x512x2048.size a)
theorem k0_off3_inb : ∀ (i : grid0.Coords) (v27 : BitVec 32) (k0_hw1 : k0_chk1 i v27), ∀ (k0_h1 : k0_cond1 i = 1#1), ∀ a, (k0_off3 v27) a + S1x1.size a ≤ S2x3.size a := fun i v27 k0_hw1 k0_h1 => k0_hw1.1 k0_h1
theorem k0_off4_inb : ∀ (i : grid0.Coords) (v27 : BitVec 32) (k0_hw1 : k0_chk1 i v27), ∀ (k0_h1 : k0_cond1 i = 1#1), ∀ a, (k0_off4 v27) a + S1x2048x512.size a ≤ S2x2048x512.size a := fun i v27 k0_hw1 k0_h1 => k0_hw1.2.1 k0_h1
theorem k0_off6_inb : ∀ (i : grid0.Coords) (v27 : BitVec 32) (k0_hw1 : k0_chk1 i v27), ∀ (k0_h1 : k0_cond1 i = 1#1), ∀ a, (k0_off6 v27) a + S1x1.size a ≤ S2x3.size a := fun i v27 k0_hw1 k0_h1 => k0_hw1.2.2.1 k0_h1
theorem k0_off7_inb : ∀ (i : grid0.Coords) (v27 : BitVec 32) (k0_hw1 : k0_chk1 i v27), ∀ (k0_h1 : k0_cond1 i = 1#1), ∀ a, (k0_off7 v27) a + S1x2048x512.size a ≤ S2x2048x512.size a := fun i v27 k0_hw1 k0_h1 => k0_hw1.2.2.2.1 k0_h1
theorem k0_off8_inb : ∀ (i : grid0.Coords) (v27 : BitVec 32) (k0_hw1 : k0_chk1 i v27), ∀ (k0_h1 : k0_cond1 i = 1#1), ∀ a, (k0_off8 v27) a + S1x1.size a ≤ S2x3.size a := fun i v27 k0_hw1 k0_h1 => k0_hw1.2.2.2.2.1 k0_h1
theorem k0_off9_inb : ∀ (i : grid0.Coords) (v27 : BitVec 32) (k0_hw1 : k0_chk1 i v27), ∀ (k0_h1 : k0_cond1 i = 1#1), ∀ a, (k0_off9 v27) a + S1x512x2048.size a ≤ S2x512x2048.size a := fun i v27 k0_hw1 k0_h1 => k0_hw1.2.2.2.2.2 k0_h1

def k0_off10 (v26 : BitVec 32) : Fin 3 → Nat :=
  let c0_i32_21 : BitVec 32 := 0#32
  let c0_i32_22 : BitVec 32 := 0#32
  ![v26.toNat, 0, 0]

def k0_chk2 (i : grid0.Coords) (v26 : BitVec 32) : Prop :=
  (∀ (k0_h1 : k0_cond1 i = 1#1), ∀ a, (k0_off5 v26) a + S1x2048x512.size a ≤ S64x2048x512.size a) ∧
  (∀ (k0_h1 : k0_cond1 i = 1#1), ∀ a, (k0_off10 v26) a + S1x512x2048.size a ≤ S64x512x2048.size a)
theorem k0_off5_inb : ∀ (i : grid0.Coords) (v26 : BitVec 32) (k0_hw2 : k0_chk2 i v26), ∀ (k0_h1 : k0_cond1 i = 1#1), ∀ a, (k0_off5 v26) a + S1x2048x512.size a ≤ S64x2048x512.size a := fun i v26 k0_hw2 k0_h1 => k0_hw2.1 k0_h1
theorem k0_off10_inb : ∀ (i : grid0.Coords) (v26 : BitVec 32) (k0_hw2 : k0_chk2 i v26), ∀ (k0_h1 : k0_cond1 i = 1#1), ∀ a, (k0_off10 v26) a + S1x512x2048.size a ≤ S64x512x2048.size a := fun i v26 k0_hw2 k0_h1 => k0_hw2.2 k0_h1

def k0_off11 (i : grid0.Coords) : Fin 1 → Nat :=
  let arg0 : BitVec 32 := BitVec.ofNat 32 (i 0).val
  let v26 : Index := Scalar.indexCast arg0
  ![v26.toNat]
def k0_off12 (v12 : BitVec 32) : Fin 2 → Nat :=
  let c0_i32_7 : BitVec 32 := 0#32
  ![v12.toNat, 0]
def k0_cond2 (i : grid0.Coords) (v0 : BitVec 32) (v5 : BitVec 32) (v8 : BitVec 32) : BitVec 1 :=
  let arg0 : BitVec 32 := BitVec.ofNat 32 (i 0).val
  let v1 : BitVec 1 := Scalar.cmpi .slt arg0 v0
  let c0_i32_0 : BitVec 32 := 0#32
  let v6 : BitVec 1 := Scalar.cmpi .eq arg0 c0_i32_0
  let v9 : BitVec 1 := Scalar.cmpi .ne v8 v5
  let v10 : BitVec 1 := Scalar.ori v6 v9
  let v16 : BitVec 1 := Scalar.andi v1 v10
  let v17 : BitVec 32 := Scalar.extui v16
  let c0_i32_3 : BitVec 32 := 0#32
  let v18 : BitVec 1 := Scalar.cmpi .ne v17 c0_i32_3
  v18

def k0_off13 (v12 : BitVec 32) : Fin 3 → Nat :=
  let c0_i32_8 : BitVec 32 := 0#32
  let c0_i32_9 : BitVec 32 := 0#32
  ![v12.toNat, 0, 0]
def k0_off14 (v27 : BitVec 32) : Fin 3 → Nat :=
  let c0_i32_10 : BitVec 32 := 0#32
  let c0_i32_11 : BitVec 32 := 0#32
  ![v27.toNat, 0, 0]

def k0_off15 (v12 : BitVec 32) : Fin 2 → Nat :=
  let c1_i32_12 : BitVec 32 := 1#32
  ![v12.toNat, 1]
def k0_off16 (v12 : BitVec 32) : Fin 3 → Nat :=
  let c0_i32_13 : BitVec 32 := 0#32
  let c0_i32_14 : BitVec 32 := 0#32
  ![v12.toNat, 0, 0]
def k0_off17 (v12 : BitVec 32) : Fin 2 → Nat :=
  let c2_i32 : BitVec 32 := 2#32
  ![v12.toNat, 2]
def k0_off18 (v12 : BitVec 32) : Fin 3 → Nat :=
  let c0_i32_17 : BitVec 32 := 0#32
  let c0_i32_18 : BitVec 32 := 0#32
  ![v12.toNat, 0, 0]
def k0_off19 (v27 : BitVec 32) : Fin 3 → Nat :=
  let c0_i32_19 : BitVec 32 := 0#32
  let c0_i32_20 : BitVec 32 := 0#32
  ![v27.toNat, 0, 0]

def k0_chk4 (i : grid0.Coords) (v0 : BitVec 32) (v5 : BitVec 32) (v8 : BitVec 32) (v27 : BitVec 32) : Prop :=
  (∀ (k0_h2 : k0_cond2 i v0 v5 v8 = 1#1), ∀ a, (k0_off14 v27) a + S1x2048x512.size a ≤ S64x2048x512.size a) ∧
  (∀ (k0_h2 : k0_cond2 i v0 v5 v8 = 1#1), ∀ a, (k0_off19 v27) a + S1x512x2048.size a ≤ S64x512x2048.size a)
theorem k0_off14_inb : ∀ (i : grid0.Coords) (v0 : BitVec 32) (v5 : BitVec 32) (v8 : BitVec 32) (v27 : BitVec 32) (k0_hw4 : k0_chk4 i v0 v5 v8 v27), ∀ (k0_h2 : k0_cond2 i v0 v5 v8 = 1#1), ∀ a, (k0_off14 v27) a + S1x2048x512.size a ≤ S64x2048x512.size a := fun i v0 v5 v8 v27 k0_hw4 k0_h2 => k0_hw4.1 k0_h2
theorem k0_off19_inb : ∀ (i : grid0.Coords) (v0 : BitVec 32) (v5 : BitVec 32) (v8 : BitVec 32) (v27 : BitVec 32) (k0_hw4 : k0_chk4 i v0 v5 v8 v27), ∀ (k0_h2 : k0_cond2 i v0 v5 v8 = 1#1), ∀ a, (k0_off19 v27) a + S1x512x2048.size a ≤ S64x512x2048.size a := fun i v0 v5 v8 v27 k0_hw4 k0_h2 => k0_hw4.2 k0_h2

def k0_off20 (i : grid0.Coords) : Fin 1 → Nat :=
  let arg0 : BitVec 32 := BitVec.ofNat 32 (i 0).val
  let v46 : Index := Scalar.indexCast arg0
  ![v46.toNat]
def k0_off21 (i : grid0.Coords) : Fin 1 → Nat :=
  let arg0 : BitVec 32 := BitVec.ofNat 32 (i 0).val
  let v93 : Index := Scalar.indexCast arg0
  ![v93.toNat]
def k0_off22 (v12 : BitVec 32) : Fin 2 → Nat :=
  let c1_i32_49 : BitVec 32 := 1#32
  let v95 : BitVec 32 := Scalar.subi c1_i32_49 v12
  let c0_i32_50 : BitVec 32 := 0#32
  ![v95.toNat, 0]
def k0_cond3 (v47 : BitVec 32) : BitVec 1 :=
  let c1_i32_21 : BitVec 32 := 1#32
  let v48 : BitVec 1 := Scalar.cmpi .eq v47 c1_i32_21
  let v49 : BitVec 32 := Scalar.extui v48
  let c0_i32_22 : BitVec 32 := 0#32
  let v50 : BitVec 1 := Scalar.cmpi .ne v49 c0_i32_22
  v50

def k0_off23 (v12 : BitVec 32) : Fin 3 → Nat :=
  let c1_i32_49 : BitVec 32 := 1#32
  let v95 : BitVec 32 := Scalar.subi c1_i32_49 v12
  let c0_i32_51 : BitVec 32 := 0#32
  let c0_i32_52 : BitVec 32 := 0#32
  ![v95.toNat, 0, 0]
def k0_off24 (v94 : BitVec 32) : Fin 3 → Nat :=
  let c0_i32_53 : BitVec 32 := 0#32
  let c0_i32_54 : BitVec 32 := 0#32
  ![v94.toNat, 0, 0]

def k0_off25 (v12 : BitVec 32) : Fin 2 → Nat :=
  let c1_i32_49 : BitVec 32 := 1#32
  let v95 : BitVec 32 := Scalar.subi c1_i32_49 v12
  let c1_i32_55 : BitVec 32 := 1#32
  ![v95.toNat, 1]
def k0_off26 (v12 : BitVec 32) : Fin 3 → Nat :=
  let c1_i32_49 : BitVec 32 := 1#32
  let v95 : BitVec 32 := Scalar.subi c1_i32_49 v12
  let c0_i32_56 : BitVec 32 := 0#32
  let c0_i32_57 : BitVec 32 := 0#32
  ![v95.toNat, 0, 0]
def k0_off27 (v12 : BitVec 32) : Fin 2 → Nat :=
  let c1_i32_49 : BitVec 32 := 1#32
  let v95 : BitVec 32 := Scalar.subi c1_i32_49 v12
  let c2_i32_60 : BitVec 32 := 2#32
  ![v95.toNat, 2]
def k0_off28 (v12 : BitVec 32) : Fin 3 → Nat :=
  let c1_i32_49 : BitVec 32 := 1#32
  let v95 : BitVec 32 := Scalar.subi c1_i32_49 v12
  let c0_i32_61 : BitVec 32 := 0#32
  let c0_i32_62 : BitVec 32 := 0#32
  ![v95.toNat, 0, 0]

def k0_chk5 (i : grid0.Coords) (v0 : BitVec 32) (v5 : BitVec 32) (v8 : BitVec 32) (v12 : BitVec 32) (v47 : BitVec 32) : Prop :=
  (∀ (k0_h2 : k0_cond2 i v0 v5 v8 = 1#1), ∀ (k0_h3 : k0_cond3 v47 = 1#1), ∀ a, (k0_off22 v12) a + S1x1.size a ≤ S2x3.size a) ∧
  (∀ (k0_h2 : k0_cond2 i v0 v5 v8 = 1#1), ∀ (k0_h3 : k0_cond3 v47 = 1#1), ∀ a, (k0_off23 v12) a + S1x2048x512.size a ≤ S2x2048x512.size a) ∧
  (∀ (k0_h2 : k0_cond2 i v0 v5 v8 = 1#1), ∀ (k0_h3 : k0_cond3 v47 = 1#1), ∀ a, (k0_off25 v12) a + S1x1.size a ≤ S2x3.size a) ∧
  (∀ (k0_h2 : k0_cond2 i v0 v5 v8 = 1#1), ∀ (k0_h3 : k0_cond3 v47 = 1#1), ∀ a, (k0_off26 v12) a + S1x2048x512.size a ≤ S2x2048x512.size a) ∧
  (∀ (k0_h2 : k0_cond2 i v0 v5 v8 = 1#1), ∀ (k0_h3 : k0_cond3 v47 = 1#1), ∀ a, (k0_off27 v12) a + S1x1.size a ≤ S2x3.size a) ∧
  (∀ (k0_h2 : k0_cond2 i v0 v5 v8 = 1#1), ∀ (k0_h3 : k0_cond3 v47 = 1#1), ∀ a, (k0_off28 v12) a + S1x512x2048.size a ≤ S2x512x2048.size a)
theorem k0_off22_inb : ∀ (i : grid0.Coords) (v0 : BitVec 32) (v5 : BitVec 32) (v8 : BitVec 32) (v12 : BitVec 32) (v47 : BitVec 32) (k0_hw5 : k0_chk5 i v0 v5 v8 v12 v47), ∀ (k0_h2 : k0_cond2 i v0 v5 v8 = 1#1), ∀ (k0_h3 : k0_cond3 v47 = 1#1), ∀ a, (k0_off22 v12) a + S1x1.size a ≤ S2x3.size a := fun i v0 v5 v8 v12 v47 k0_hw5 k0_h2 k0_h3 => k0_hw5.1 k0_h2 k0_h3
theorem k0_off23_inb : ∀ (i : grid0.Coords) (v0 : BitVec 32) (v5 : BitVec 32) (v8 : BitVec 32) (v12 : BitVec 32) (v47 : BitVec 32) (k0_hw5 : k0_chk5 i v0 v5 v8 v12 v47), ∀ (k0_h2 : k0_cond2 i v0 v5 v8 = 1#1), ∀ (k0_h3 : k0_cond3 v47 = 1#1), ∀ a, (k0_off23 v12) a + S1x2048x512.size a ≤ S2x2048x512.size a := fun i v0 v5 v8 v12 v47 k0_hw5 k0_h2 k0_h3 => k0_hw5.2.1 k0_h2 k0_h3
theorem k0_off25_inb : ∀ (i : grid0.Coords) (v0 : BitVec 32) (v5 : BitVec 32) (v8 : BitVec 32) (v12 : BitVec 32) (v47 : BitVec 32) (k0_hw5 : k0_chk5 i v0 v5 v8 v12 v47), ∀ (k0_h2 : k0_cond2 i v0 v5 v8 = 1#1), ∀ (k0_h3 : k0_cond3 v47 = 1#1), ∀ a, (k0_off25 v12) a + S1x1.size a ≤ S2x3.size a := fun i v0 v5 v8 v12 v47 k0_hw5 k0_h2 k0_h3 => k0_hw5.2.2.1 k0_h2 k0_h3
theorem k0_off26_inb : ∀ (i : grid0.Coords) (v0 : BitVec 32) (v5 : BitVec 32) (v8 : BitVec 32) (v12 : BitVec 32) (v47 : BitVec 32) (k0_hw5 : k0_chk5 i v0 v5 v8 v12 v47), ∀ (k0_h2 : k0_cond2 i v0 v5 v8 = 1#1), ∀ (k0_h3 : k0_cond3 v47 = 1#1), ∀ a, (k0_off26 v12) a + S1x2048x512.size a ≤ S2x2048x512.size a := fun i v0 v5 v8 v12 v47 k0_hw5 k0_h2 k0_h3 => k0_hw5.2.2.2.1 k0_h2 k0_h3
theorem k0_off27_inb : ∀ (i : grid0.Coords) (v0 : BitVec 32) (v5 : BitVec 32) (v8 : BitVec 32) (v12 : BitVec 32) (v47 : BitVec 32) (k0_hw5 : k0_chk5 i v0 v5 v8 v12 v47), ∀ (k0_h2 : k0_cond2 i v0 v5 v8 = 1#1), ∀ (k0_h3 : k0_cond3 v47 = 1#1), ∀ a, (k0_off27 v12) a + S1x1.size a ≤ S2x3.size a := fun i v0 v5 v8 v12 v47 k0_hw5 k0_h2 k0_h3 => k0_hw5.2.2.2.2.1 k0_h2 k0_h3
theorem k0_off28_inb : ∀ (i : grid0.Coords) (v0 : BitVec 32) (v5 : BitVec 32) (v8 : BitVec 32) (v12 : BitVec 32) (v47 : BitVec 32) (k0_hw5 : k0_chk5 i v0 v5 v8 v12 v47), ∀ (k0_h2 : k0_cond2 i v0 v5 v8 = 1#1), ∀ (k0_h3 : k0_cond3 v47 = 1#1), ∀ a, (k0_off28 v12) a + S1x512x2048.size a ≤ S2x512x2048.size a := fun i v0 v5 v8 v12 v47 k0_hw5 k0_h2 k0_h3 => k0_hw5.2.2.2.2.2 k0_h2 k0_h3

def k0_off29 (v94 : BitVec 32) : Fin 3 → Nat :=
  let c0_i32_63 : BitVec 32 := 0#32
  let c0_i32_64 : BitVec 32 := 0#32
  ![v94.toNat, 0, 0]

def k0_chk6 (i : grid0.Coords) (v0 : BitVec 32) (v5 : BitVec 32) (v8 : BitVec 32) (v47 : BitVec 32) (v94 : BitVec 32) : Prop :=
  (∀ (k0_h2 : k0_cond2 i v0 v5 v8 = 1#1), ∀ (k0_h3 : k0_cond3 v47 = 1#1), ∀ a, (k0_off24 v94) a + S1x2048x512.size a ≤ S64x2048x512.size a) ∧
  (∀ (k0_h2 : k0_cond2 i v0 v5 v8 = 1#1), ∀ (k0_h3 : k0_cond3 v47 = 1#1), ∀ a, (k0_off29 v94) a + S1x512x2048.size a ≤ S64x512x2048.size a)
theorem k0_off24_inb : ∀ (i : grid0.Coords) (v0 : BitVec 32) (v5 : BitVec 32) (v8 : BitVec 32) (v47 : BitVec 32) (v94 : BitVec 32) (k0_hw6 : k0_chk6 i v0 v5 v8 v47 v94), ∀ (k0_h2 : k0_cond2 i v0 v5 v8 = 1#1), ∀ (k0_h3 : k0_cond3 v47 = 1#1), ∀ a, (k0_off24 v94) a + S1x2048x512.size a ≤ S64x2048x512.size a := fun i v0 v5 v8 v47 v94 k0_hw6 k0_h2 k0_h3 => k0_hw6.1 k0_h2 k0_h3
theorem k0_off29_inb : ∀ (i : grid0.Coords) (v0 : BitVec 32) (v5 : BitVec 32) (v8 : BitVec 32) (v47 : BitVec 32) (v94 : BitVec 32) (k0_hw6 : k0_chk6 i v0 v5 v8 v47 v94), ∀ (k0_h2 : k0_cond2 i v0 v5 v8 = 1#1), ∀ (k0_h3 : k0_cond3 v47 = 1#1), ∀ a, (k0_off29 v94) a + S1x512x2048.size a ≤ S64x512x2048.size a := fun i v0 v5 v8 v47 v94 k0_hw6 k0_h2 k0_h3 => k0_hw6.2 k0_h2 k0_h3

def k0_off30 (v12 : BitVec 32) : Fin 3 → Nat :=
  let v54 : Index := Scalar.indexCast v12
  let c0_26 : Index := 0#32
  let c0_27 : Index := 0#32
  ![v54.toNat, 0, 0]
def k0_off31 (v12 : BitVec 32) : Fin 3 → Nat :=
  let v60 : Index := Scalar.indexCast v12
  let c0_30 : Index := 0#32
  let c0_31 : Index := 0#32
  ![v60.toNat, 0, 0]

def k0_chk3 (i : grid0.Coords) (v0 : BitVec 32) (v5 : BitVec 32) (v8 : BitVec 32) (v12 : BitVec 32) : Prop :=
  (∀ (k0_h2 : k0_cond2 i v0 v5 v8 = 1#1), ∀ a, (k0_off12 v12) a + S1x1.size a ≤ S2x3.size a) ∧
  (∀ (k0_h2 : k0_cond2 i v0 v5 v8 = 1#1), ∀ a, (k0_off13 v12) a + S1x2048x512.size a ≤ S2x2048x512.size a) ∧
  (∀ (k0_h2 : k0_cond2 i v0 v5 v8 = 1#1), ∀ a, (k0_off15 v12) a + S1x1.size a ≤ S2x3.size a) ∧
  (∀ (k0_h2 : k0_cond2 i v0 v5 v8 = 1#1), ∀ a, (k0_off16 v12) a + S1x2048x512.size a ≤ S2x2048x512.size a) ∧
  (∀ (k0_h2 : k0_cond2 i v0 v5 v8 = 1#1), ∀ a, (k0_off17 v12) a + S1x1.size a ≤ S2x3.size a) ∧
  (∀ (k0_h2 : k0_cond2 i v0 v5 v8 = 1#1), ∀ a, (k0_off18 v12) a + S1x512x2048.size a ≤ S2x512x2048.size a) ∧
  (∀ (k0_h2 : k0_cond2 i v0 v5 v8 = 1#1), ∀ a, (k0_off30 v12) a + S1x2048x512.size a ≤ S2x2048x512.size a) ∧
  (∀ (k0_h2 : k0_cond2 i v0 v5 v8 = 1#1), ∀ a, (k0_off31 v12) a + S1x512x2048.size a ≤ S2x512x2048.size a)
theorem k0_off12_inb : ∀ (i : grid0.Coords) (v0 : BitVec 32) (v5 : BitVec 32) (v8 : BitVec 32) (v12 : BitVec 32) (k0_hw3 : k0_chk3 i v0 v5 v8 v12), ∀ (k0_h2 : k0_cond2 i v0 v5 v8 = 1#1), ∀ a, (k0_off12 v12) a + S1x1.size a ≤ S2x3.size a := fun i v0 v5 v8 v12 k0_hw3 k0_h2 => k0_hw3.1 k0_h2
theorem k0_off13_inb : ∀ (i : grid0.Coords) (v0 : BitVec 32) (v5 : BitVec 32) (v8 : BitVec 32) (v12 : BitVec 32) (k0_hw3 : k0_chk3 i v0 v5 v8 v12), ∀ (k0_h2 : k0_cond2 i v0 v5 v8 = 1#1), ∀ a, (k0_off13 v12) a + S1x2048x512.size a ≤ S2x2048x512.size a := fun i v0 v5 v8 v12 k0_hw3 k0_h2 => k0_hw3.2.1 k0_h2
theorem k0_off15_inb : ∀ (i : grid0.Coords) (v0 : BitVec 32) (v5 : BitVec 32) (v8 : BitVec 32) (v12 : BitVec 32) (k0_hw3 : k0_chk3 i v0 v5 v8 v12), ∀ (k0_h2 : k0_cond2 i v0 v5 v8 = 1#1), ∀ a, (k0_off15 v12) a + S1x1.size a ≤ S2x3.size a := fun i v0 v5 v8 v12 k0_hw3 k0_h2 => k0_hw3.2.2.1 k0_h2
theorem k0_off16_inb : ∀ (i : grid0.Coords) (v0 : BitVec 32) (v5 : BitVec 32) (v8 : BitVec 32) (v12 : BitVec 32) (k0_hw3 : k0_chk3 i v0 v5 v8 v12), ∀ (k0_h2 : k0_cond2 i v0 v5 v8 = 1#1), ∀ a, (k0_off16 v12) a + S1x2048x512.size a ≤ S2x2048x512.size a := fun i v0 v5 v8 v12 k0_hw3 k0_h2 => k0_hw3.2.2.2.1 k0_h2
theorem k0_off17_inb : ∀ (i : grid0.Coords) (v0 : BitVec 32) (v5 : BitVec 32) (v8 : BitVec 32) (v12 : BitVec 32) (k0_hw3 : k0_chk3 i v0 v5 v8 v12), ∀ (k0_h2 : k0_cond2 i v0 v5 v8 = 1#1), ∀ a, (k0_off17 v12) a + S1x1.size a ≤ S2x3.size a := fun i v0 v5 v8 v12 k0_hw3 k0_h2 => k0_hw3.2.2.2.2.1 k0_h2
theorem k0_off18_inb : ∀ (i : grid0.Coords) (v0 : BitVec 32) (v5 : BitVec 32) (v8 : BitVec 32) (v12 : BitVec 32) (k0_hw3 : k0_chk3 i v0 v5 v8 v12), ∀ (k0_h2 : k0_cond2 i v0 v5 v8 = 1#1), ∀ a, (k0_off18 v12) a + S1x512x2048.size a ≤ S2x512x2048.size a := fun i v0 v5 v8 v12 k0_hw3 k0_h2 => k0_hw3.2.2.2.2.2.1 k0_h2
theorem k0_off30_inb : ∀ (i : grid0.Coords) (v0 : BitVec 32) (v5 : BitVec 32) (v8 : BitVec 32) (v12 : BitVec 32) (k0_hw3 : k0_chk3 i v0 v5 v8 v12), ∀ (k0_h2 : k0_cond2 i v0 v5 v8 = 1#1), ∀ a, (k0_off30 v12) a + S1x2048x512.size a ≤ S2x2048x512.size a := fun i v0 v5 v8 v12 k0_hw3 k0_h2 => k0_hw3.2.2.2.2.2.2.1 k0_h2
theorem k0_off31_inb : ∀ (i : grid0.Coords) (v0 : BitVec 32) (v5 : BitVec 32) (v8 : BitVec 32) (v12 : BitVec 32) (k0_hw3 : k0_chk3 i v0 v5 v8 v12), ∀ (k0_h2 : k0_cond2 i v0 v5 v8 = 1#1), ∀ a, (k0_off31 v12) a + S1x512x2048.size a ≤ S2x512x2048.size a := fun i v0 v5 v8 v12 k0_hw3 k0_h2 => k0_hw3.2.2.2.2.2.2.2 k0_h2

def k0_cond4 (i : grid0.Coords) (v0 : BitVec 32) (v5 : BitVec 32) (v8 : BitVec 32) : BitVec 1 :=
  let arg0 : BitVec 32 := BitVec.ofNat 32 (i 0).val
  let v1 : BitVec 1 := Scalar.cmpi .slt arg0 v0
  let c0_i32_0 : BitVec 32 := 0#32
  let v6 : BitVec 1 := Scalar.cmpi .eq arg0 c0_i32_0
  let v9 : BitVec 1 := Scalar.cmpi .ne v8 v5
  let v10 : BitVec 1 := Scalar.ori v6 v9
  let v_true : BitVec 1 := 1#1
  let v19 : BitVec 1 := Scalar.xori v10 v_true
  let v20 : BitVec 1 := Scalar.andi v1 v19
  let v21 : BitVec 32 := Scalar.extui v20
  let c0_i32_4 : BitVec 32 := 0#32
  let v22 : BitVec 1 := Scalar.cmpi .ne v21 c0_i32_4
  v22

def k0_cond5 (i : grid0.Coords) (v0 : BitVec 32) : BitVec 1 :=
  let arg0 : BitVec 32 := BitVec.ofNat 32 (i 0).val
  let v1 : BitVec 1 := Scalar.cmpi .slt arg0 v0
  let true_5 : BitVec 1 := 1#1
  let v23 : BitVec 1 := Scalar.xori v1 true_5
  let v24 : BitVec 32 := Scalar.extui v23
  let c0_i32_6 : BitVec 32 := 0#32
  let v25 : BitVec 1 := Scalar.cmpi .ne v24 c0_i32_6
  v25

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  let c0_i32_1 : BitVec 32 := 0#32
  ![v2.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x16x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x16x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S64 : Shape := ⟨1, ![64]⟩
abbrev S81920x16x128 : Shape := ⟨3, ![81920, 16, 128]⟩
abbrev S1x64x2048x512 : Shape := ⟨4, ![1, 64, 2048, 512]⟩
abbrev S1x64x512x2048 : Shape := ⟨4, ![1, 64, 512, 2048]⟩
abbrev S_ : Shape := ⟨0, ![]⟩
abbrev S320 : Shape := ⟨1, ![320]⟩
abbrev S1x64 : Shape := ⟨2, ![1, 64]⟩
abbrev S320x1 : Shape := ⟨2, ![320, 1]⟩
abbrev S320x64 : Shape := ⟨2, ![320, 64]⟩
abbrev S320x256x2048 : Shape := ⟨3, ![320, 256, 2048]⟩
abbrev S64x2048x512 : Shape := ⟨3, ![64, 2048, 512]⟩
abbrev S320x2048x512 : Shape := ⟨3, ![320, 2048, 512]⟩
abbrev S64x512x2048 : Shape := ⟨3, ![64, 512, 2048]⟩
abbrev S320x512x2048 : Shape := ⟨3, ![320, 512, 2048]⟩
abbrev S320x256x512 : Shape := ⟨3, ![320, 256, 512]⟩
abbrev S1 : Shape := ⟨1, ![1]⟩
abbrev S320x1x1 : Shape := ⟨3, ![320, 1, 1]⟩

abbrev nBuf : Space → Nat
  | .hbm => 107
  | .vmem => 0
  | .smem => 0
  | _ => 0

abbrev bufTy : (tb : Table) → Fin (tcTables nBuf tb) → BufTy
  | .hbm, ⟨0, _⟩ => ⟨S64, .i32⟩
  | .hbm, ⟨1, _⟩ => ⟨S81920x16x128, .bf16⟩
  | .hbm, ⟨2, _⟩ => ⟨S1x64x2048x512, .f32⟩
  | .hbm, ⟨3, _⟩ => ⟨S1x64x2048x512, .f32⟩
  | .hbm, ⟨4, _⟩ => ⟨S1x64x512x2048, .f32⟩
  | .hbm, ⟨5, _⟩ => ⟨S_, .i32⟩
  | .hbm, ⟨6, _⟩ => ⟨S64, .i32⟩
  | .hbm, ⟨7, _⟩ => ⟨S64, .i32⟩
  | .hbm, ⟨8, _⟩ => ⟨S_, .i32⟩
  | .hbm, ⟨9, _⟩ => ⟨S64, .i32⟩
  | .hbm, ⟨10, _⟩ => ⟨S64, .i32⟩
  | .hbm, ⟨11, _⟩ => ⟨S_, .i32⟩
  | .hbm, ⟨12, _⟩ => ⟨S_, .i32⟩
  | .hbm, ⟨13, _⟩ => ⟨S64, .i32⟩
  | .hbm, ⟨14, _⟩ => ⟨S64, .i32⟩
  | .hbm, ⟨15, _⟩ => ⟨S64, .i32⟩
  | .hbm, ⟨16, _⟩ => ⟨S_, .i32⟩
  | .hbm, ⟨17, _⟩ => ⟨S64, .i32⟩
  | .hbm, ⟨18, _⟩ => ⟨S64, .i1⟩
  | .hbm, ⟨19, _⟩ => ⟨S64, .i32⟩
  | .hbm, ⟨20, _⟩ => ⟨S64, .i32⟩
  | .hbm, ⟨21, _⟩ => ⟨S_, .i32⟩
  | .hbm, ⟨22, _⟩ => ⟨S64, .i32⟩
  | .hbm, ⟨23, _⟩ => ⟨S64, .i1⟩
  | .hbm, ⟨24, _⟩ => ⟨S64, .i1⟩
  | .hbm, ⟨25, _⟩ => ⟨S_, .i32⟩
  | .hbm, ⟨26, _⟩ => ⟨S64, .i32⟩
  | .hbm, ⟨27, _⟩ => ⟨S64, .i32⟩
  | .hbm, ⟨28, _⟩ => ⟨S64, .i32⟩
  | .hbm, ⟨29, _⟩ => ⟨S_, .i32⟩
  | .hbm, ⟨30, _⟩ => ⟨S64, .i32⟩
  | .hbm, ⟨31, _⟩ => ⟨S64, .i32⟩
  | .hbm, ⟨32, _⟩ => ⟨S_, .i32⟩
  | .hbm, ⟨33, _⟩ => ⟨S_, .i32⟩
  | .hbm, ⟨34, _⟩ => ⟨S64, .i32⟩
  | .hbm, ⟨35, _⟩ => ⟨S320, .i32⟩
  | .hbm, ⟨36, _⟩ => ⟨S_, .i32⟩
  | .hbm, ⟨37, _⟩ => ⟨S320, .i32⟩
  | .hbm, ⟨38, _⟩ => ⟨S320, .i32⟩
  | .hbm, ⟨39, _⟩ => ⟨S1x64, .i32⟩
  | .hbm, ⟨40, _⟩ => ⟨S320x1, .i32⟩
  | .hbm, ⟨41, _⟩ => ⟨S320x64, .i32⟩
  | .hbm, ⟨42, _⟩ => ⟨S320x64, .i32⟩
  | .hbm, ⟨43, _⟩ => ⟨S320x64, .i1⟩
  | .hbm, ⟨44, _⟩ => ⟨S320x64, .i32⟩
  | .hbm, ⟨45, _⟩ => ⟨S_, .i32⟩
  | .hbm, ⟨46, _⟩ => ⟨S320, .i32⟩
  | .hbm, ⟨47, _⟩ => ⟨S_, .i32⟩
  | .hbm, ⟨48, _⟩ => ⟨S320, .i32⟩
  | .hbm, ⟨49, _⟩ => ⟨S320, .i32⟩
  | .hbm, ⟨50, _⟩ => ⟨S81920x16x128, .f32⟩
  | .hbm, ⟨51, _⟩ => ⟨S320x256x2048, .f32⟩
  | .hbm, ⟨52, _⟩ => ⟨S64x2048x512, .f32⟩
  | .hbm, ⟨53, _⟩ => ⟨S_, .i32⟩
  | .hbm, ⟨54, _⟩ => ⟨S320, .i32⟩
  | .hbm, ⟨55, _⟩ => ⟨S320, .i1⟩
  | .hbm, ⟨56, _⟩ => ⟨S_, .i32⟩
  | .hbm, ⟨57, _⟩ => ⟨S320, .i32⟩
  | .hbm, ⟨58, _⟩ => ⟨S320, .i32⟩
  | .hbm, ⟨59, _⟩ => ⟨S320, .i32⟩
  | .hbm, ⟨60, _⟩ => ⟨S320x1, .i32⟩
  | .hbm, ⟨61, _⟩ => ⟨S320x2048x512, .f32⟩
  | .hbm, ⟨62, _⟩ => ⟨S64x2048x512, .f32⟩
  | .hbm, ⟨63, _⟩ => ⟨S_, .i32⟩
  | .hbm, ⟨64, _⟩ => ⟨S320, .i32⟩
  | .hbm, ⟨65, _⟩ => ⟨S320, .i1⟩
  | .hbm, ⟨66, _⟩ => ⟨S_, .i32⟩
  | .hbm, ⟨67, _⟩ => ⟨S320, .i32⟩
  | .hbm, ⟨68, _⟩ => ⟨S320, .i32⟩
  | .hbm, ⟨69, _⟩ => ⟨S320, .i32⟩
  | .hbm, ⟨70, _⟩ => ⟨S320x1, .i32⟩
  | .hbm, ⟨71, _⟩ => ⟨S320x2048x512, .f32⟩
  | .hbm, ⟨72, _⟩ => ⟨S64x512x2048, .f32⟩
  | .hbm, ⟨73, _⟩ => ⟨S_, .i32⟩
  | .hbm, ⟨74, _⟩ => ⟨S320, .i32⟩
  | .hbm, ⟨75, _⟩ => ⟨S320, .i1⟩
  | .hbm, ⟨76, _⟩ => ⟨S_, .i32⟩
  | .hbm, ⟨77, _⟩ => ⟨S320, .i32⟩
  | .hbm, ⟨78, _⟩ => ⟨S320, .i32⟩
  | .hbm, ⟨79, _⟩ => ⟨S320, .i32⟩
  | .hbm, ⟨80, _⟩ => ⟨S320x1, .i32⟩
  | .hbm, ⟨81, _⟩ => ⟨S320x512x2048, .f32⟩
  | .hbm, ⟨82, _⟩ => ⟨S320x256x512, .f32⟩
  | .hbm, ⟨83, _⟩ => ⟨S320x256x512, .f32⟩
  | .hbm, ⟨84, _⟩ => ⟨S320x256x512, .f32⟩
  | .hbm, ⟨85, _⟩ => ⟨S_, .f32⟩
  | .hbm, ⟨86, _⟩ => ⟨S320x256x512, .f32⟩
  | .hbm, ⟨87, _⟩ => ⟨S320x256x512, .f32⟩
  | .hbm, ⟨88, _⟩ => ⟨S_, .f32⟩
  | .hbm, ⟨89, _⟩ => ⟨S320x256x512, .f32⟩
  | .hbm, ⟨90, _⟩ => ⟨S320x256x512, .f32⟩
  | .hbm, ⟨91, _⟩ => ⟨S320x256x512, .f32⟩
  | .hbm, ⟨92, _⟩ => ⟨S320x256x512, .f32⟩
  | .hbm, ⟨93, _⟩ => ⟨S320x256x512, .f32⟩
  | .hbm, ⟨94, _⟩ => ⟨S320x256x2048, .f32⟩
  | .hbm, ⟨95, _⟩ => ⟨S1, .i32⟩
  | .hbm, ⟨96, _⟩ => ⟨S_, .i32⟩
  | .hbm, ⟨97, _⟩ => ⟨S320, .i32⟩
  | .hbm, ⟨98, _⟩ => ⟨S320, .i1⟩
  | .hbm, ⟨99, _⟩ => ⟨S320x1x1, .i1⟩
  | .hbm, ⟨100, _⟩ => ⟨S_, .f32⟩
  | .hbm, ⟨101, _⟩ => ⟨S_, .f32⟩
  | .hbm, ⟨102, _⟩ => ⟨S320x256x2048, .i1⟩
  | .hbm, ⟨103, _⟩ => ⟨S320x256x2048, .f32⟩
  | .hbm, ⟨104, _⟩ => ⟨S320x256x2048, .f32⟩
  | .hbm, ⟨105, _⟩ => ⟨S81920x16x128, .f32⟩
  | .hbm, ⟨106, _⟩ => ⟨S81920x16x128, .bf16⟩
  | _, _ => ⟨S64, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v4 : Ref sig .tc := ⟨.hbm, 28, rfl⟩
abbrev main_c_2 : Ref sig .tc := ⟨.hbm, 29, rfl⟩
abbrev main_v5 : Ref sig .tc := ⟨.hbm, 30, rfl⟩
abbrev main_v6 : Ref sig .tc := ⟨.hbm, 31, rfl⟩
abbrev main_call1_call0_c : Ref sig .tc := ⟨.hbm, 32, rfl⟩
abbrev main_call1_call0_v0 : Ref sig .tc := ⟨.hbm, 33, rfl⟩
abbrev main_v7 : Ref sig .tc := ⟨.hbm, 34, rfl⟩
abbrev main_v8 : Ref sig .tc := ⟨.hbm, 35, rfl⟩
abbrev main_c_3 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_c_4 : Ref sig .tc := ⟨.hbm, 45, rfl⟩
abbrev main_v17 : Ref sig .tc := ⟨.hbm, 46, rfl⟩
abbrev main_c_5 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_c_6 : Ref sig .tc := ⟨.hbm, 53, rfl⟩
abbrev main_v23 : Ref sig .tc := ⟨.hbm, 54, rfl⟩
abbrev main_v24 : Ref sig .tc := ⟨.hbm, 55, rfl⟩
abbrev main_c_7 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_c_8 : Ref sig .tc := ⟨.hbm, 63, rfl⟩
abbrev main_v31 : Ref sig .tc := ⟨.hbm, 64, rfl⟩
abbrev main_v32 : Ref sig .tc := ⟨.hbm, 65, rfl⟩
abbrev main_c_9 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_c_10 : Ref sig .tc := ⟨.hbm, 73, rfl⟩
abbrev main_v39 : Ref sig .tc := ⟨.hbm, 74, rfl⟩
abbrev main_v40 : Ref sig .tc := ⟨.hbm, 75, rfl⟩
abbrev main_c_11 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_call2_v0 : Ref sig .tc := ⟨.hbm, 83, rfl⟩
abbrev main_call2_v1 : Ref sig .tc := ⟨.hbm, 84, rfl⟩
abbrev main_call2_cst : Ref sig .tc := ⟨.hbm, 85, rfl⟩
abbrev main_call2_v2 : Ref sig .tc := ⟨.hbm, 86, rfl⟩
abbrev main_call2_v3 : Ref sig .tc := ⟨.hbm, 87, rfl⟩
abbrev main_call2_cst_0 : Ref sig .tc := ⟨.hbm, 88, rfl⟩
abbrev main_call2_v4 : Ref sig .tc := ⟨.hbm, 89, rfl⟩
abbrev main_call2_v5 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_cst : Ref sig .tc := ⟨.hbm, 100, rfl⟩
abbrev main_call3_v0 : Ref sig .tc := ⟨.hbm, 101, rfl⟩
abbrev main_call3_v1 : Ref sig .tc := ⟨.hbm, 102, rfl⟩
abbrev main_call3_v2 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩

abbrev nD : Nat := 1
abbrev τ : Topo := Topo.v7x

variable {F : FTy → Type} [FloatOps F]
-- ==== Kernel2.lean ====
abbrev S2x4096x2048 : Shape := ⟨3, ![2, 4096, 2048]⟩
abbrev S2x12288 : Shape := ⟨2, ![2, 12288]⟩
abbrev S1x2048 : Shape := ⟨2, ![1, 2048]⟩
abbrev S2048x7296 : Shape := ⟨2, ![2048, 7296]⟩
abbrev S8192x2048 : Shape := ⟨2, ![8192, 2048]⟩
abbrev S2x6x2048 : Shape := ⟨3, ![2, 6, 2048]⟩
abbrev S8192x7296 : Shape := ⟨2, ![8192, 7296]⟩
abbrev S512x2048 : Shape := ⟨2, ![512, 2048]⟩
abbrev S1x6x2048 : Shape := ⟨3, ![1, 6, 2048]⟩
abbrev S2048x2432 : Shape := ⟨2, ![2048, 2432]⟩
abbrev S512x2432 : Shape := ⟨2, ![512, 2432]⟩
abbrev S512 : Shape := ⟨1, ![512]⟩
abbrev S512x1 : Shape := ⟨2, ![512, 1]⟩
abbrev S1x1x2048 : Shape := ⟨3, ![1, 1, 2048]⟩

abbrev nBuf : Space → Nat
  | .hbm => 7
  | .vmem => 10
  | .smem => 0
  | _ => 0

abbrev bufTy : (tb : Table) → Fin (tcTables nBuf tb) → BufTy
  | .hbm, ⟨0, _⟩ => ⟨S2x4096x2048, .f32⟩
  | .hbm, ⟨1, _⟩ => ⟨S2x12288, .f32⟩
  | .hbm, ⟨2, _⟩ => ⟨S1x2048, .f32⟩
  | .hbm, ⟨3, _⟩ => ⟨S2048x7296, .bf16⟩
  | .hbm, ⟨4, _⟩ => ⟨S8192x2048, .f32⟩
  | .hbm, ⟨5, _⟩ => ⟨S2x6x2048, .f32⟩
  | .hbm, ⟨6, _⟩ => ⟨S8192x7296, .f32⟩
  | .local _ .vmem, ⟨0, _⟩ => ⟨S512x2048, .f32⟩
  | .local _ .vmem, ⟨1, _⟩ => ⟨S512x2048, .f32⟩
  | .local _ .vmem, ⟨2, _⟩ => ⟨S1x6x2048, .f32⟩
  | .local _ .vmem, ⟨3, _⟩ => ⟨S1x6x2048, .f32⟩
  | .local _ .vmem, ⟨4, _⟩ => ⟨S1x2048, .f32⟩
  | .local _ .vmem, ⟨5, _⟩ => ⟨S2048x2432, .bf16⟩
  | .local _ .vmem, ⟨6, _⟩ => ⟨S2048x2432, .bf16⟩
  | .local _ .vmem, ⟨7, _⟩ => ⟨S512x2432, .f32⟩
  | .local _ .vmem, ⟨8, _⟩ => ⟨S512x2432, .f32⟩
  | .local _ .vmem, ⟨9, _⟩ => ⟨S512x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x6x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x2432 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2432 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S2x4096x2048 : Shape := ⟨3, ![2, 4096, 2048]⟩
abbrev S2x12288 : Shape := ⟨2, ![2, 12288]⟩
abbrev S1x2048 : Shape := ⟨2, ![1, 2048]⟩
abbrev S2048x7296 : Shape := ⟨2, ![2048, 7296]⟩
abbrev S2x1x12288 : Shape := ⟨3, ![2, 1, 12288]⟩
abbrev S2x1x2048 : Shape := ⟨3, ![2, 1, 2048]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2x4096x7296 : Shape := ⟨3, ![2, 4096, 7296]⟩
abbrev S8192x7296 : Shape := ⟨2, ![8192, 7296]⟩

abbrev nBuf : Space → Nat
  | .hbm => 38
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2x12288, .f32⟩
  | .hbm, ⟨2, _⟩ => ⟨S1x2048, .f32⟩
  | .hbm, ⟨3, _⟩ => ⟨S2048x7296, .bf16⟩
  | .hbm, ⟨4, _⟩ => ⟨S2x1x12288, .f32⟩
  | .hbm, ⟨5, _⟩ => ⟨S2x1x2048, .f32⟩
  | .hbm, ⟨6, _⟩ => ⟨S2x1x2048, .f32⟩
  | .hbm, ⟨7, _⟩ => ⟨S2x1x2048, .f32⟩
  | .hbm, ⟨8, _⟩ => ⟨S2x1x2048, .f32⟩
  | .hbm, ⟨9, _⟩ => ⟨S2x1x2048, .f32⟩
  | .hbm, ⟨10, _⟩ => ⟨S2x1x2048, .f32⟩
  | .hbm, ⟨11, _⟩ => ⟨S2048, .f32⟩
  | .hbm, ⟨12, _⟩ => ⟨S2x4096x2048, .f32⟩
  | .hbm, ⟨13, _⟩ => ⟨S_, .f32⟩
  | .hbm, ⟨14, _⟩ => ⟨S2x4096, .f32⟩
  | .hbm, ⟨15, _⟩ => ⟨S2x4096x1, .f32⟩
  | .hbm, ⟨16, _⟩ => ⟨S_, .f32⟩
  | .hbm, ⟨17, _⟩ => ⟨S2x4096x1, .f32⟩
  | .hbm, ⟨18, _⟩ => ⟨S2x4096x1, .f32⟩
  | .hbm, ⟨19, _⟩ => ⟨S_, .f32⟩
  | .hbm, ⟨20, _⟩ => ⟨S2x4096x1, .f32⟩
  | .hbm, ⟨21, _⟩ => ⟨S2x4096x1, .f32⟩
  | .hbm, ⟨22, _⟩ => ⟨S2x4096x1, .f32⟩
  | .hbm, ⟨23, _⟩ => ⟨S2x4096x2048, .f32⟩
  | .hbm, ⟨24, _⟩ => ⟨S2x4096x2048, .f32⟩
  | .hbm, ⟨25, _⟩ => ⟨S1x1x2048, .f32⟩
  | .hbm, ⟨26, _⟩ => ⟨S2x4096x2048, .f32⟩
  | .hbm, ⟨27, _⟩ => ⟨S2x4096x2048, .f32⟩
  | .hbm, ⟨28, _⟩ => ⟨S_, .f32⟩
  | .hbm, ⟨29, _⟩ => ⟨S2x1x2048, .f32⟩
  | .hbm, ⟨30, _⟩ => ⟨S2x1x2048, .f32⟩
  | .hbm, ⟨31, _⟩ => ⟨S2x4096x2048, .f32⟩
  | .hbm, ⟨32, _⟩ => ⟨S2x4096x2048, .f32⟩
  | .hbm, ⟨33, _⟩ => ⟨S2x4096x2048, .f32⟩
  | .hbm, ⟨34, _⟩ => ⟨S2x4096x2048, .f32⟩
  | .hbm, ⟨35, _⟩ => ⟨S2048x7296, .f32⟩
  | .hbm, ⟨36, _⟩ => ⟨S2x4096x7296, .f32⟩
  | .hbm, ⟨37, _⟩ => ⟨S8192x7296, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]
-- ==== Kernel3.lean ====
abbrev S8192x2048 : Shape := ⟨2, ![8192, 2048]⟩
abbrev S2x4096x2048 : Shape := ⟨3, ![2, 4096, 2048]⟩
abbrev S2x12288 : Shape := ⟨2, ![2, 12288]⟩
abbrev S1x2048x2048 : Shape := ⟨3, ![1, 2048, 2048]⟩
abbrev S1x2048 : Shape := ⟨2, ![1, 2048]⟩
abbrev S1x2048x64 : Shape := ⟨3, ![1, 2048, 64]⟩
abbrev S1x64 : Shape := ⟨2, ![1, 64]⟩
abbrev S2x6x2048 : Shape := ⟨3, ![2, 6, 2048]⟩
abbrev S2048x64 : Shape := ⟨2, ![2048, 64]⟩
abbrev S64x2048 : Shape := ⟨2, ![64, 2048]⟩
abbrev S64 : Shape := ⟨1, ![64]⟩
abbrev S64x1 : Shape := ⟨2, ![64, 1]⟩
abbrev S64x128 : Shape := ⟨2, ![64, 128]⟩
abbrev S2048x2048 : Shape := ⟨2, ![2048, 2048]⟩
abbrev S8192x16x128 : Shape := ⟨3, ![8192, 16, 128]⟩
abbrev S8x8192 : Shape := ⟨2, ![8, 8192]⟩
abbrev S512x2048 : Shape := ⟨2, ![512, 2048]⟩
abbrev S1x6x2048 : Shape := ⟨3, ![1, 6, 2048]⟩
abbrev S512x16x128 : Shape := ⟨3, ![512, 16, 128]⟩
abbrev S8x512 : Shape := ⟨2, ![8, 512]⟩
abbrev S512 : Shape := ⟨1, ![512]⟩
abbrev S512x1 : Shape := ⟨2, ![512, 1]⟩
abbrev S1x1x2048 : Shape := ⟨3, ![1, 1, 2048]⟩
abbrev S64x512 : Shape := ⟨2, ![64, 512]⟩
abbrev S1x512 : Shape := ⟨2, ![1, 512]⟩
abbrev S512x512 : Shape := ⟨2, ![512, 512]⟩

abbrev nBuf : Space → Nat
  | .hbm => 24
  | .vmem => 25
  | .smem => 0
  | _ => 0

abbrev bufTy : (tb : Table) → Fin (tcTables nBuf tb) → BufTy
  | .hbm, ⟨0, _⟩ => ⟨S8192x2048, .bf16⟩
  | .hbm, ⟨1, _⟩ => ⟨S2x4096x2048, .f32⟩
  | .hbm, ⟨2, _⟩ => ⟨S2x12288, .f32⟩
  | .hbm, ⟨3, _⟩ => ⟨S1x2048x2048, .f32⟩
  | .hbm, ⟨4, _⟩ => ⟨S1x2048, .f32⟩
  | .hbm, ⟨5, _⟩ => ⟨S1x2048, .f32⟩
  | .hbm, ⟨6, _⟩ => ⟨S1x2048x64, .f32⟩
  | .hbm, ⟨7, _⟩ => ⟨S1x64, .f32⟩
  | .hbm, ⟨8, _⟩ => ⟨S8192x2048, .f32⟩
  | .hbm, ⟨9, _⟩ => ⟨S2x6x2048, .f32⟩
  | .hbm, ⟨10, _⟩ => ⟨S2048x64, .f32⟩
  | .hbm, ⟨11, _⟩ => ⟨S64x2048, .f32⟩
  | .hbm, ⟨12, _⟩ => ⟨S64, .f32⟩
  | .hbm, ⟨13, _⟩ => ⟨S64x1, .f32⟩
  | .hbm, ⟨14, _⟩ => ⟨S64x128, .f32⟩
  | .hbm, ⟨15, _⟩ => ⟨S2048x2048, .f32⟩
  | .hbm, ⟨16, _⟩ => ⟨S2048x2048, .bf16⟩
  | .hbm, ⟨17, _⟩ => ⟨S8192x2048, .f32⟩
  | .hbm, ⟨18, _⟩ => ⟨S8192x2048, .bf16⟩
  | .hbm, ⟨19, _⟩ => ⟨S8192x16x128, .bf16⟩
  | .hbm, ⟨20, _⟩ => ⟨S8x8192, .i32⟩
  | .hbm, ⟨21, _⟩ => ⟨S8x8192, .i32⟩
  | .hbm, ⟨22, _⟩ => ⟨S8x8192, .f32⟩
  | .hbm, ⟨23, _⟩ => ⟨S64x128, .f32⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S1x6x2048, .f32⟩
  | .local _ .vmem, ⟨5, _⟩ => ⟨S1x6x2048, .f32⟩
  | .local _ .vmem, ⟨6, _⟩ => ⟨S2048x2048, .bf16⟩
  | .local _ .vmem, ⟨7, _⟩ => ⟨S1x2048, .f32⟩
  | .local _ .vmem, ⟨8, _⟩ => ⟨S1x2048, .f32⟩
  | .local _ .vmem, ⟨9, _⟩ => ⟨S64x2048, .f32⟩
  | .local _ .vmem, ⟨10, _⟩ => ⟨S64x128, .f32⟩
  | .local _ .vmem, ⟨11, _⟩ => ⟨S512x2048, .f32⟩
  | .local _ .vmem, ⟨12, _⟩ => ⟨S512x2048, .f32⟩
  | .local _ .vmem, ⟨13, _⟩ => ⟨S512x2048, .bf16⟩
  | .local _ .vmem, ⟨14, _⟩ => ⟨S512x2048, .bf16⟩
  | .local _ .vmem, ⟨15, _⟩ => ⟨S512x16x128, .bf16⟩
  | .local _ .vmem, ⟨16, _⟩ => ⟨S512x16x128, .bf16⟩
  | .local _ .vmem, ⟨17, _⟩ => ⟨S8x512, .i32⟩
  | .local _ .vmem, ⟨18, _⟩ => ⟨S8x512, .i32⟩
  | .local _ .vmem, ⟨19, _⟩ => ⟨S8x512, .i32⟩
  | .local _ .vmem, ⟨20, _⟩ => ⟨S8x512, .i32⟩
  | .local _ .vmem, ⟨21, _⟩ => ⟨S8x512, .f32⟩
  | .local _ .vmem, ⟨22, _⟩ => ⟨S8x512, .f32⟩
  | .local _ .vmem, ⟨23, _⟩ => ⟨S64x128, .f32⟩
  | .local _ .vmem, ⟨24, _⟩ => ⟨S64x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev main_v9_3 : Ref sig .tc := ⟨.hbm, 20, rfl⟩
abbrev main_v9_4 : Ref sig .tc := ⟨.hbm, 21, rfl⟩
abbrev main_v9_5 : Ref sig .tc := ⟨.hbm, 22, rfl⟩
abbrev main_v9_6 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x6x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x16x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x512 .i32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x512 .i32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S64x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Reference3Ideal.lean ====
abbrev S8192x2048 : Shape := ⟨2, ![8192, 2048]⟩
abbrev S2x4096x2048 : Shape := ⟨3, ![2, 4096, 2048]⟩
abbrev S2x12288 : Shape := ⟨2, ![2, 12288]⟩
abbrev S1x2048x2048 : Shape := ⟨3, ![1, 2048, 2048]⟩
abbrev S1x2048 : Shape := ⟨2, ![1, 2048]⟩
abbrev S1x2048x64 : Shape := ⟨3, ![1, 2048, 64]⟩
abbrev S1x64 : Shape := ⟨2, ![1, 64]⟩
abbrev S2x1x12288 : Shape := ⟨3, ![2, 1, 12288]⟩
abbrev S2x1x2048 : Shape := ⟨3, ![2, 1, 2048]⟩
abbrev S2048x2048 : Shape := ⟨2, ![2048, 2048]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S8192x16x128 : Shape := ⟨3, ![8192, 16, 128]⟩

abbrev nBuf : Space → Nat
  | .hbm => 67
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x4096x2048, .f32⟩
  | .hbm, ⟨2, _⟩ => ⟨S2x12288, .f32⟩
  | .hbm, ⟨3, _⟩ => ⟨S1x2048x2048, .f32⟩
  | .hbm, ⟨4, _⟩ => ⟨S1x2048, .f32⟩
  | .hbm, ⟨5, _⟩ => ⟨S1x2048, .f32⟩
  | .hbm, ⟨6, _⟩ => ⟨S1x2048x64, .f32⟩
  | .hbm, ⟨7, _⟩ => ⟨S1x64, .f32⟩
  | .hbm, ⟨8, _⟩ => ⟨S2x1x12288, .f32⟩
  | .hbm, ⟨9, _⟩ => ⟨S2x1x2048, .f32⟩
  | .hbm, ⟨10, _⟩ => ⟨S2x1x2048, .f32⟩
  | .hbm, ⟨11, _⟩ => ⟨S2x1x2048, .f32⟩
  | .hbm, ⟨12, _⟩ => ⟨S2x1x2048, .f32⟩
  | .hbm, ⟨13, _⟩ => ⟨S2x1x2048, .f32⟩
  | .hbm, ⟨14, _⟩ => ⟨S2x1x2048, .f32⟩
  | .hbm, ⟨15, _⟩ => ⟨S8192x2048, .f32⟩
  | .hbm, ⟨16, _⟩ => ⟨S2x4096x2048, .f32⟩
  | .hbm, ⟨17, _⟩ => ⟨S2048x2048, .f32⟩
  | .hbm, ⟨18, _⟩ => ⟨S2x4096x2048, .f32⟩
  | .hbm, ⟨19, _⟩ => ⟨S2048, .f32⟩
  | .hbm, ⟨20, _⟩ => ⟨S2x4096x2048, .f32⟩
  | .hbm, ⟨21, _⟩ => ⟨S_, .f32⟩
  | .hbm, ⟨22, _⟩ => ⟨S2x4096, .f32⟩
  | .hbm, ⟨23, _⟩ => ⟨S2x4096x1, .f32⟩
  | .hbm, ⟨24, _⟩ => ⟨S_, .f32⟩
  | .hbm, ⟨25, _⟩ => ⟨S2x4096x1, .f32⟩
  | .hbm, ⟨26, _⟩ => ⟨S2x4096x1, .f32⟩
  | .hbm, ⟨27, _⟩ => ⟨S_, .f32⟩
  | .hbm, ⟨28, _⟩ => ⟨S2x4096x1, .f32⟩
  | .hbm, ⟨29, _⟩ => ⟨S2x4096x1, .f32⟩
  | .hbm, ⟨30, _⟩ => ⟨S2x4096x1, .f32⟩
  | .hbm, ⟨31, _⟩ => ⟨S2x4096x2048, .f32⟩
  | .hbm, ⟨32, _⟩ => ⟨S2x4096x2048, .f32⟩
  | .hbm, ⟨33, _⟩ => ⟨S1x1x2048, .f32⟩
  | .hbm, ⟨34, _⟩ => ⟨S2x4096x2048, .f32⟩
  | .hbm, ⟨35, _⟩ => ⟨S2x4096x2048, .f32⟩
  | .hbm, ⟨36, _⟩ => ⟨S2x4096x2048, .f32⟩
  | .hbm, ⟨37, _⟩ => ⟨S2x4096x2048, .f32⟩
  | .hbm, ⟨38, _⟩ => ⟨S2x4096x2048, .f32⟩
  | .hbm, ⟨39, _⟩ => ⟨S2048, .f32⟩
  | .hbm, ⟨40, _⟩ => ⟨S2x4096x2048, .f32⟩
  | .hbm, ⟨41, _⟩ => ⟨S_, .f32⟩
  | .hbm, ⟨42, _⟩ => ⟨S2x4096, .f32⟩
  | .hbm, ⟨43, _⟩ => ⟨S2x4096x1, .f32⟩
  | .hbm, ⟨44, _⟩ => ⟨S_, .f32⟩
  | .hbm, ⟨45, _⟩ => ⟨S2x4096x1, .f32⟩
  | .hbm, ⟨46, _⟩ => ⟨S2x4096x1, .f32⟩
  | .hbm, ⟨47, _⟩ => ⟨S_, .f32⟩
  | .hbm, ⟨48, _⟩ => ⟨S2x4096x1, .f32⟩
  | .hbm, ⟨49, _⟩ => ⟨S2x4096x1, .f32⟩
  | .hbm, ⟨50, _⟩ => ⟨S2x4096x1, .f32⟩
  | .hbm, ⟨51, _⟩ => ⟨S2x4096x2048, .f32⟩
  | .hbm, ⟨52, _⟩ => ⟨S2x4096x2048, .f32⟩
  | .hbm, ⟨53, _⟩ => ⟨S1x1x2048, .f32⟩
  | .hbm, ⟨54, _⟩ => ⟨S2x4096x2048, .f32⟩
  | .hbm, ⟨55, _⟩ => ⟨S2x4096x2048, .f32⟩
  | .hbm, ⟨56, _⟩ => ⟨S_, .f32⟩
  | .hbm, ⟨57, _⟩ => ⟨S2x1x2048, .f32⟩
  | .hbm, ⟨58, _⟩ => ⟨S2x1x2048, .f32⟩
  | .hbm, ⟨59, _⟩ => ⟨S2x4096x2048, .f32⟩
  | .hbm, ⟨60, _⟩ => ⟨S2x4096x2048, .f32⟩
  | .hbm, ⟨61, _⟩ => ⟨S2x4096x2048, .f32⟩
  | .hbm, ⟨62, _⟩ => ⟨S2x4096x2048, .f32⟩
  | .hbm, ⟨63, _⟩ => ⟨S2x4096x2048, .bf16⟩
  | .hbm, ⟨64, _⟩ => ⟨S8192x2048, .f32⟩
  | .hbm, ⟨65, _⟩ => ⟨S8192x2048, .bf16⟩
  | .hbm, ⟨66, _⟩ => ⟨S8192x16x128, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_2 : Ref sig .tc := ⟨.hbm, 41, rfl⟩
abbrev main_v30 : Ref sig .tc := ⟨.hbm, 42, rfl⟩
abbrev main_v31 : Ref sig .tc := ⟨.hbm, 43, rfl⟩
abbrev main_cst_3 : Ref sig .tc := ⟨.hbm, 44, rfl⟩
abbrev main_v32 : Ref sig .tc := ⟨.hbm, 45, rfl⟩
abbrev main_v33 : Ref sig .tc := ⟨.hbm, 46, rfl⟩
abbrev main_cst_4 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_5 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩

abbrev nD : Nat := 1
abbrev τ : Topo := Topo.v7x

variable {F : FTy → Type} [FloatOps F]
-- ==== Kernel4.lean ====
abbrev S2x2048 : Shape := ⟨2, ![2, 2048]⟩
abbrev S1x2048x12288 : Shape := ⟨3, ![1, 2048, 12288]⟩
abbrev S1x12288 : Shape := ⟨2, ![1, 12288]⟩
abbrev S_ : Shape := ⟨0, ![]⟩
abbrev S8x2048 : Shape := ⟨2, ![8, 2048]⟩
abbrev S1 : Shape := ⟨1, ![1]⟩
abbrev S2048x12288 : Shape := ⟨2, ![2048, 12288]⟩
abbrev S12288 : Shape := ⟨1, ![12288]⟩
abbrev S8x12288 : Shape := ⟨2, ![8, 12288]⟩
abbrev S2048x1024 : Shape := ⟨2, ![2048, 1024]⟩
abbrev S1x1024 : Shape := ⟨2, ![1, 1024]⟩
abbrev S8x1024 : Shape := ⟨2, ![8, 1024]⟩

abbrev nBuf : Space → Nat
  | .hbm => 12
  | .vmem => 7
  | .smem => 0
  | _ => 0

abbrev bufTy : (tb : Table) → Fin (tcTables nBuf tb) → BufTy
  | .hbm, ⟨0, _⟩ => ⟨S2x2048, .f32⟩
  | .hbm, ⟨1, _⟩ => ⟨S1x2048x12288, .f32⟩
  | .hbm, ⟨2, _⟩ => ⟨S1x12288, .f32⟩
  | .hbm, ⟨3, _⟩ => ⟨S_, .f32⟩
  | .hbm, ⟨4, _⟩ => ⟨S8x2048, .f32⟩
  | .hbm, ⟨5, _⟩ => ⟨S_, .i32⟩
  | .hbm, ⟨6, _⟩ => ⟨S1, .i32⟩
  | .hbm, ⟨7, _⟩ => ⟨S8x2048, .f32⟩
  | .hbm, ⟨8, _⟩ => ⟨S2048x12288, .f32⟩
  | .hbm, ⟨9, _⟩ => ⟨S12288, .f32⟩
  | .hbm, ⟨10, _⟩ => ⟨S1x12288, .f32⟩
  | .hbm, ⟨11, _⟩ => ⟨S8x12288, .f32⟩
  | .local _ .vmem, ⟨0, _⟩ => ⟨S8x2048, .f32⟩
  | .local _ .vmem, ⟨1, _⟩ => ⟨S2048x1024, .f32⟩
  | .local _ .vmem, ⟨2, _⟩ => ⟨S2048x1024, .f32⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | _, _ => ⟨S2x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S2x2048 : Shape := ⟨2, ![2, 2048]⟩
abbrev S1x2048x12288 : Shape := ⟨3, ![1, 2048, 12288]⟩
abbrev S1x12288 : Shape := ⟨2, ![1, 12288]⟩
abbrev S_ : Shape := ⟨0, ![]⟩
abbrev S6x2048 : Shape := ⟨2, ![6, 2048]⟩
abbrev S8x2048 : Shape := ⟨2, ![8, 2048]⟩
abbrev S2048x12288 : Shape := ⟨2, ![2048, 12288]⟩
abbrev S8x12288 : Shape := ⟨2, ![8, 12288]⟩
abbrev S12288 : Shape := ⟨1, ![12288]⟩

abbrev nBuf : Space → Nat
  | .hbm => 21
  | .vmem => 0
  | .smem => 0
  | _ => 0

abbrev bufTy : (tb : Table) → Fin (tcTables nBuf tb) → BufTy
  | .hbm, ⟨0, _⟩ => ⟨S2x2048, .f32⟩
  | .hbm, ⟨1, _⟩ => ⟨S1x2048x12288, .f32⟩
  | .hbm, ⟨2, _⟩ => ⟨S1x12288, .f32⟩
  | .hbm, ⟨3, _⟩ => ⟨S_, .f32⟩
  | .hbm, ⟨4, _⟩ => ⟨S6x2048, .f32⟩
  | .hbm, ⟨5, _⟩ => ⟨S8x2048, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S_, .f32⟩
  | .hbm, ⟨12, _⟩ => ⟨S8x2048, .f32⟩
  | .hbm, ⟨13, _⟩ => ⟨S8x2048, .f32⟩
  | .hbm, ⟨14, _⟩ => ⟨S8x2048, .f32⟩
  | .hbm, ⟨15, _⟩ => ⟨S2048x12288, .f32⟩
  | .hbm, ⟨16, _⟩ => ⟨S8x12288, .f32⟩
  | .hbm, ⟨17, _⟩ => ⟨S12288, .f32⟩
  | .hbm, ⟨18, _⟩ => ⟨S1x12288, .f32⟩
  | .hbm, ⟨19, _⟩ => ⟨S8x12288, .f32⟩
  | .hbm, ⟨20, _⟩ => ⟨S8x12288, .f32⟩
  | _, _ => ⟨S2x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩

abbrev nD : Nat := 1
abbrev τ : Topo := Topo.v7x

variable {F : FTy → Type} [FloatOps F]
-- ==== Proof.Setup.lean ====
/-
  The routing tables as data (`Route`), what the five prefetched tables hold of them (`Tables`), and the memory the
  experts kernel addresses itself: the weights left in HBM, the two-slot weight buffers, the six DMA cells.
-/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.WordCmp
open Idealize.ShloMosaic.Pipeline (Dat Cfg Window BodyObligation cellOf)

variable {F : FTy → Type} [FloatOps F]

local notation "𝕄" => MT nD τ sig Unit (Elt F) ℕ (Pipeline.UD sig nD τ) ℕ

/-- The routing of the 320 blocks: the expert of each block, the expert whose weights are fetched after it, the
    weight slot it reads, whether there is such a next expert, and how many blocks are used. -/
structure Route where
  be : ℕ → Fin 64
  nx : ℕ → Fin 64
  slot : ℕ → Fin 2
  hn : ℕ → Bool
  nu : ℕ
  nu_pos : 1 ≤ nu
  nu_le : nu ≤ 320
  same : ∀ i, i + 1 < nu → be (i + 1) = be i → hn (i + 1) = hn i ∧ nx (i + 1) = nx i ∧ slot (i + 1) = slot i
  next : ∀ i, i + 1 < nu → be (i + 1) ≠ be i → hn i = true ∧ nx i = be (i + 1) ∧ slot (i + 1) = 1 - slot i
  last : ∀ i, nu ≤ i + 1 → hn i = false

/-- The word of a small number. -/
abbrev wd (n : ℕ) : BitVec 32 := BitVec.ofNat 32 n

/-- The index of entry `i` of a table of 320 words. -/
def ix (i : Fin 320) : S320.Idx := fun a => ⟨i.val, by have : a = 0 := Subsingleton.elim _ _; subst this; exact i.isLt⟩

/-- What the five tables hold. -/
structure Tables (R : Route) (pf : pre0.Contents (Elt F)) : Prop where
  be : ∀ i : Fin 320, (pf 0 : S320.Idx → BitVec 32) (ix i) = wd (R.be i)
  nu : ∀ x, (pf 1 : S1.Idx → BitVec 32) x = wd R.nu
  slot : ∀ i : Fin 320, (pf 2 : S320.Idx → BitVec 32) (ix i) = wd (R.slot i)
  nx : ∀ i : Fin 320, (pf 3 : S320.Idx → BitVec 32) (ix i) = wd (R.nx i)
  hn : ∀ i : Fin 320, (pf 4 : S320.Idx → BitVec 32) (ix i) = if R.hn i then 1#32 else 0#32

/-! ## The memory -/

abbrev wG : Memref sig .tc .hbm S64x2048x512 .f32 := Memref.whole main_v59
abbrev wU : Memref sig .tc .hbm S64x2048x512 .f32 := Memref.whole main_v60
abbrev wD : Memref sig .tc .hbm S64x512x2048 .f32 := Memref.whole main_v61
abbrev sG : Memref sig .tc .vmem S2x2048x512 .f32 := Memref.whole cc0_scratch0
abbrev sU : Memref sig .tc .vmem S2x2048x512 .f32 := Memref.whole cc0_scratch1
abbrev sD : Memref sig .tc .vmem S2x512x2048 .f32 := Memref.whole cc0_scratch2
abbrev cG : Memref sig .tc .vmem S2048x512 .bf16 := Memref.whole cc0_scratch3
abbrev cU : Memref sig .tc .vmem S2048x512 .bf16 := Memref.whole cc0_scratch4
abbrev cD : Memref sig .tc .vmem S512x2048 .bf16 := Memref.whole cc0_scratch5

theorem inbS (s : Fin 2) : ∀ a, (![s.val, 0, 0] : Fin 3 → ℕ) a + S1x2048x512.size a ≤ S2x2048x512.size a := by
  revert s; decide
theorem inbS' (s : Fin 2) : ∀ a, (![s.val, 0, 0] : Fin 3 → ℕ) a + S1x512x2048.size a ≤ S2x512x2048.size a := by
  revert s; decide
theorem inbE (e : Fin 64) : ∀ a, (![e.val, 0, 0] : Fin 3 → ℕ) a + S1x2048x512.size a ≤ S64x2048x512.size a := by
  revert e; decide
theorem inbE' (e : Fin 64) : ∀ a, (![e.val, 0, 0] : Fin 3 → ℕ) a + S1x512x2048.size a ≤ S64x512x2048.size a := by
  revert e; decide

/-- Slot `s` of a two-slot weight buffer, as the copies name it. -/
abbrev slotM (M : Memref sig .tc .vmem S2x2048x512 .f32) (o : Fin 3 → ℕ) (h : ∀ a, o a + S1x2048x512.size a ≤ S2x2048x512.size a) :
    Memref sig .tc .vmem S2048x512 .f32 :=
  (M.slice (Rect.unit (s := S2x2048x512) o S1x2048x512.size h) (fun _ => rfl)).squeeze S2048x512 squeezes_S1x2048x512_S2048x512
abbrev slotD (M : Memref sig .tc .vmem S2x512x2048 .f32) (o : Fin 3 → ℕ) (h : ∀ a, o a + S1x512x2048.size a ≤ S2x512x2048.size a) :
    Memref sig .tc .vmem S512x2048 .f32 :=
  (M.slice (Rect.unit (s := S2x512x2048) o S1x512x2048.size h) (fun _ => rfl)).squeeze S512x2048 squeezes_S1x512x2048_S512x2048
/-- Expert `e` of a weight array, as the copies name it. -/
abbrev expM (M : Memref sig .tc .hbm S64x2048x512 .f32) (o : Fin 3 → ℕ) (h : ∀ a, o a + S1x2048x512.size a ≤ S64x2048x512.size a) :
    Memref sig .tc .hbm S2048x512 .f32 :=
  (M.slice (Rect.unit (s := S64x2048x512) o S1x2048x512.size h) (fun _ => rfl)).squeeze S2048x512 squeezes_S1x2048x512_S2048x512
abbrev expD (M : Memref sig .tc .hbm S64x512x2048 .f32) (o : Fin 3 → ℕ) (h : ∀ a, o a + S1x512x2048.size a ≤ S64x512x2048.size a) :
    Memref sig .tc .hbm S512x2048 .f32 :=
  (M.slice (Rect.unit (s := S64x512x2048) o S1x512x2048.size h) (fun _ => rfl)).squeeze S512x2048 squeezes_S1x512x2048_S512x2048

/-- The six cells: slot `s`, weight `j`. -/
abbrev cellN (s : Fin 2) (j : Fin 3) : DmaSem sig := ![![4, 5, 6], ![7, 8, 9]] s j

theorem inbC (s : Fin 2) (j : Fin 3) : ∀ a, (![s.val, j.val] : Fin 2 → ℕ) a + S1x1.size a ≤ S2x3.size a := by
  revert s j; decide

theorem cell_eq (s : Fin 2) (j : Fin 3) (h) :
    ((cc0_scratch6.slice (Rect.unit (s := S2x3) ![s.val, j.val] S1x1.size h)).squeeze S_ squeezes_S1x1_S_).sem = cellN s j := by
  revert s j; decide

/-! ## The offsets the kernel computes -/

section Offsets

theorem toNat_wd (n : ℕ) (h : n < 2 ^ 32) : (wd n).toNat = n := by
  rw [wd, BitVec.toNat_ofNat, Nat.mod_eq_of_lt h]
theorem wd2 (s : Fin 2) : (wd s.val).toNat = s.val := by revert s; decide
theorem wd64 (s : Fin 64) : (wd s.val).toNat = s.val := by revert s; decide
theorem wd2' (s : Fin 2) : (Scalar.subi (1#32) (wd s.val)).toNat = (1 - s : Fin 2).val := by revert s; decide

theorem gridw (i : grid0.Coords) : (BitVec.ofNat 32 (i 0).val).toNat = (i 0).val := by
  have : (i 0).val < 320 := (i 0).isLt
  rw [BitVec.toNat_ofNat, Nat.mod_eq_of_lt (by omega)]

theorem off5 (e : Fin 64) : k0_off5 (wd e) = ![e.val, 0, 0] := by unfold k0_off5; simp only [wd64]

theorem off10 (e : Fin 64) : k0_off10 (wd e) = ![e.val, 0, 0] := by unfold k0_off10; simp only [wd64]

theorem off14 (e : Fin 64) : k0_off14 (wd e) = ![e.val, 0, 0] := by unfold k0_off14; simp only [wd64]

theorem off19 (e : Fin 64) : k0_off19 (wd e) = ![e.val, 0, 0] := by unfold k0_off19; simp only [wd64]

theorem off24 (e : Fin 64) : k0_off24 (wd e) = ![e.val, 0, 0] := by unfold k0_off24; simp only [wd64]

theorem off29 (e : Fin 64) : k0_off29 (wd e) = ![e.val, 0, 0] := by unfold k0_off29; simp only [wd64]

theorem off4 (s : Fin 2) : k0_off4 (wd s) = ![s.val, 0, 0] := by unfold k0_off4; simp only [wd2]

theorem off7 (s : Fin 2) : k0_off7 (wd s) = ![s.val, 0, 0] := by unfold k0_off7; simp only [wd2]

theorem off9 (s : Fin 2) : k0_off9 (wd s) = ![s.val, 0, 0] := by unfold k0_off9; simp only [wd2]

theorem off13 (s : Fin 2) : k0_off13 (wd s) = ![s.val, 0, 0] := by unfold k0_off13; simp only [wd2]

theorem off16 (s : Fin 2) : k0_off16 (wd s) = ![s.val, 0, 0] := by unfold k0_off16; simp only [wd2]

theorem off18 (s : Fin 2) : k0_off18 (wd s) = ![s.val, 0, 0] := by unfold k0_off18; simp only [wd2]

theorem off30 (s : Fin 2) : k0_off30 (wd s) = ![s.val, 0, 0] := by revert s; decide

theorem off31 (s : Fin 2) : k0_off31 (wd s) = ![s.val, 0, 0] := by revert s; decide

theorem off3 (s : Fin 2) : k0_off3 (wd s) = ![s.val, 0] := by unfold k0_off3; simp only [wd2]

theorem off6 (s : Fin 2) : k0_off6 (wd s) = ![s.val, 1] := by unfold k0_off6; simp only [wd2]

theorem off8 (s : Fin 2) : k0_off8 (wd s) = ![s.val, 2] := by unfold k0_off8; simp only [wd2]

theorem off12 (s : Fin 2) : k0_off12 (wd s) = ![s.val, 0] := by unfold k0_off12; simp only [wd2]

theorem off15 (s : Fin 2) : k0_off15 (wd s) = ![s.val, 1] := by unfold k0_off15; simp only [wd2]

theorem off17 (s : Fin 2) : k0_off17 (wd s) = ![s.val, 2] := by unfold k0_off17; simp only [wd2]

theorem off22 (s : Fin 2) : k0_off22 (wd s) = ![(1 - s : Fin 2).val, 0] := by unfold k0_off22; simp only [wd2']

theorem off25 (s : Fin 2) : k0_off25 (wd s) = ![(1 - s : Fin 2).val, 1] := by unfold k0_off25; simp only [wd2']

theorem off27 (s : Fin 2) : k0_off27 (wd s) = ![(1 - s : Fin 2).val, 2] := by unfold k0_off27; simp only [wd2']

theorem off23 (s : Fin 2) : k0_off23 (wd s) = ![(1 - s : Fin 2).val, 0, 0] := by unfold k0_off23; simp only [wd2']

theorem off26 (s : Fin 2) : k0_off26 (wd s) = ![(1 - s : Fin 2).val, 0, 0] := by unfold k0_off26; simp only [wd2']

theorem off28 (s : Fin 2) : k0_off28 (wd s) = ![(1 - s : Fin 2).val, 0, 0] := by unfold k0_off28; simp only [wd2']

theorem off2 (i : grid0.Coords) : k0_off2 i = ![(i 0).val] := by unfold k0_off2; simp only [Scalar.indexCast]; exact congrArg (fun x => ![x]) (gridw i)

theorem off11 (i : grid0.Coords) : k0_off11 i = ![(i 0).val] := by unfold k0_off11; simp only [Scalar.indexCast]; exact congrArg (fun x => ![x]) (gridw i)

theorem off20 (i : grid0.Coords) : k0_off20 i = ![(i 0).val] := by unfold k0_off20; simp only [Scalar.indexCast]; exact congrArg (fun x => ![x]) (gridw i)

theorem off21 (i : grid0.Coords) : k0_off21 i = ![(i 0).val] := by unfold k0_off21; simp only [Scalar.indexCast]; exact congrArg (fun x => ![x]) (gridw i)

end Offsets

/-! ## The conditions the kernel branches on -/

section Conds

theorem grid_lt (i : grid0.Coords) : (i 0).val < 320 := (i 0).isLt

theorem bit_ne (b : Bool) : IntOp.cmpi .ne (Scalar.extui (BitVec.ofBool b) : BitVec 32) 0#32 = BitVec.ofBool b := by
  cases b <;> decide

theorem off1 (i : grid0.Coords) : k0_off1 i = ![(i 0).val - 1] := by
  have h : ∀ n : Fin 320, (Scalar.maxsi (Scalar.subi (BitVec.ofNat 32 n.val) 1#32) 0#32).toNat = n.val - 1 := by decide
  unfold k0_off1
  exact congrArg (fun x => ![x]) (h ⟨(i 0).val, grid_lt i⟩)

theorem slt_nu (i : grid0.Coords) (n : ℕ) (hn : n ≤ 320) :
    Scalar.cmpi .slt (BitVec.ofNat 32 (i 0).val) (wd n) = BitVec.ofBool (decide ((i 0).val < n)) := by
  have hi := grid_lt i
  exact cmpi_slt_ofNat (by omega) (by omega)

theorem eq_zero (i : grid0.Coords) :
    Scalar.cmpi .eq (BitVec.ofNat 32 (i 0).val) 0#32 = BitVec.ofBool (decide ((i 0).val = 0)) := by
  have hi := grid_lt i
  exact cmpi_eq_ofNat (by omega) (by omega)

theorem ne_be (a b : Fin 64) :
    Scalar.cmpi .ne (wd a) (wd b) = BitVec.ofBool (decide (a ≠ b)) := by
  rw [show Scalar.cmpi .ne (wd a) (wd b) = BitVec.ofBool (decide (a.val ≠ b.val)) from cmpi_ne_ofNat (by omega) (by omega)]
  congr 1; simp only [ne_eq, Fin.ext_iff]

theorem cond1_eq (i : grid0.Coords) : k0_cond1 i = BitVec.ofBool (decide ((i 0).val = 0)) := by
  unfold k0_cond1; simp only [eq_zero]; exact bit_ne _

theorem cond2_eq (i : grid0.Coords) (n : ℕ) (hn : n ≤ 320) (a b : Fin 64) :
    k0_cond2 i (wd n) (wd a) (wd b) = BitVec.ofBool (decide ((i 0).val < n) && (decide ((i 0).val = 0) || decide (b ≠ a))) := by
  unfold k0_cond2; simp only [eq_zero, slt_nu _ _ hn, ne_be, Scalar.ori, Scalar.andi, ori_ofBool, andi_ofBool]; exact bit_ne _

theorem cond4_eq (i : grid0.Coords) (n : ℕ) (hn : n ≤ 320) (a b : Fin 64) :
    k0_cond4 i (wd n) (wd a) (wd b) = BitVec.ofBool (decide ((i 0).val < n) && !(decide ((i 0).val = 0) || decide (b ≠ a))) := by
  unfold k0_cond4; simp only [eq_zero, slt_nu _ _ hn, ne_be, Scalar.ori, Scalar.andi, Scalar.xori, ori_ofBool, andi_ofBool]
  rw [show (1#1 : BitVec 1) = BitVec.ofBool true from rfl, xori_ofBool, andi_ofBool, Bool.xor_true]; exact bit_ne _

theorem cond5_eq (i : grid0.Coords) (n : ℕ) (hn : n ≤ 320) :
    k0_cond5 i (wd n) = BitVec.ofBool (!(decide ((i 0).val < n))) := by
  unfold k0_cond5; simp only [slt_nu _ _ hn, Scalar.xori]
  rw [show (1#1 : BitVec 1) = BitVec.ofBool true from rfl, xori_ofBool, Bool.xor_true]; exact bit_ne _

theorem cond3_eq (b : Bool) : k0_cond3 (if b then 1#32 else 0#32) = BitVec.ofBool b := by cases b <;> decide

theorem chk1 (i : grid0.Coords) (s : Fin 2) : k0_chk1 i (wd s) := by
  unfold k0_chk1; simp only [off3, off4, off6, off7, off8, off9]
  exact ⟨fun _ => inbC s 0, fun _ => inbS s, fun _ => inbC s 1, fun _ => inbS s, fun _ => inbC s 2, fun _ => inbS' s⟩
theorem chk2 (i : grid0.Coords) (e : Fin 64) : k0_chk2 i (wd e) := by
  unfold k0_chk2; simp only [off5, off10]; exact ⟨fun _ => inbE e, fun _ => inbE' e⟩
theorem chk3 (i : grid0.Coords) (v0 v5 v8 : BitVec 32) (s : Fin 2) : k0_chk3 i v0 v5 v8 (wd s) := by
  unfold k0_chk3; simp only [off12, off13, off15, off16, off17, off18, off30, off31]
  exact ⟨fun _ => inbC s 0, fun _ => inbS s, fun _ => inbC s 1, fun _ => inbS s, fun _ => inbC s 2, fun _ => inbS' s,
    fun _ => inbS s, fun _ => inbS' s⟩
theorem chk4 (i : grid0.Coords) (v0 v5 v8 : BitVec 32) (e : Fin 64) : k0_chk4 i v0 v5 v8 (wd e) := by
  unfold k0_chk4; simp only [off14, off19]; exact ⟨fun _ => inbE e, fun _ => inbE' e⟩
theorem chk5 (i : grid0.Coords) (v0 v5 v8 v47 : BitVec 32) (s : Fin 2) : k0_chk5 i v0 v5 v8 (wd s) v47 := by
  unfold k0_chk5; simp only [off22, off23, off25, off26, off27, off28]
  exact ⟨fun _ _ => inbC _ 0, fun _ _ => inbS _, fun _ _ => inbC _ 1, fun _ _ => inbS _, fun _ _ => inbC _ 2, fun _ _ => inbS' _⟩
theorem chk6 (i : grid0.Coords) (v0 v5 v8 v47 : BitVec 32) (e : Fin 64) : k0_chk6 i v0 v5 v8 v47 (wd e) := by
  unfold k0_chk6; simp only [off24, off29]; exact ⟨fun _ _ => inbE e, fun _ _ => inbE' e⟩

end Conds

end Cert.KernelIdeal.Hand

end
-- ==== Proof.Copy.lean ====
/-
  One asynchronous copy of an expert's weight into a slot of a two-slot buffer: the issue and the wait, as rules.
-/
module

public import proofs.«01_k».proof.Proof.Setup

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.WordCmp
open Idealize.ShloMosaic.Pipeline (Dat Cfg Window BodyObligation cellOf)

variable {F : FTy → Type} [FloatOps F]

local notation "𝕄" => MT nD τ sig Unit (Elt F) ℕ (Pipeline.UD sig nD τ) ℕ

/-- The contents of a memref's buffer. -/
abbrev BufM (c : Dev nD) {sp : Space} {S : Shape} {e : EltTy} (M : Memref sig .tc sp S e) : Type := Buf (Elt F) (M.view.loc (c : Thread nD τ))

/-- A memref's elements, owned. -/
abbrev hold (c : Dev nD) {sp : Space} {S : Shape} {e : EltTy} (M : Memref sig .tc sp S e) (f : BufM (F := F) c M) : sProp 𝕄 :=
  M.view.loc (c : Thread nD τ) ↦[M.view.set]{fullShare} f

/-- A memref's elements, owned, whatever they hold. -/
abbrev holdAny (c : Dev nD) {sp : Space} {S : Shape} {e : EltTy} (M : Memref sig .tc sp S e) : sProp 𝕄 :=
  iprop(∃ f : BufM (F := F) c M, hold c M f)

abbrev cnt : UEmb Counters 𝕄 := countersEmb (U := Pipeline.UD sig nD τ)

/-- A copy from `src` to `dst` on its way on cell `j`: it will leave `g` at the destination. -/
abbrev inflight (c : Dev nD) {sp sp' : Space} {S : Shape} {e : EltTy} (src : Memref sig .tc sp S e) (dst : Memref sig .tc sp' S e)
    (j : DmaSem sig) (fs : BufM (F := F) c src) (g : BufM (F := F) c dst) : sProp 𝕄 :=
  Transfers.Flight (cnt (F := F)) (c : Thread nD τ) (.dma j) () dst.view.dmaCredit iprop(hold c dst g ∗ hold c src fs)

theorem issue (c : Dev nD) {sp sp' : Space} {S : Shape} {e : EltTy} (src : Memref sig .tc sp S e) (dst : Memref sig .tc sp' S e)
    (j : DmaSem sig) (fs : BufM (F := F) c src) (g : BufM (F := F) c dst) (hpos : 0 < dst.view.dmaCredit)
    (hg : ∀ fd : BufM (F := F) c dst, ∀ i ∈ dst.view.set, dst.view.write (Elt F) fd (src.view.read (Elt F) fs) Finset.univ i = g i)
    {hsrc : src.view.WordExact} {hdst : dst.view.WordExact} {hsem : DmaTarget.Typed (nD := nD) (τ := τ) (p := .tc) sp (.dma j) (.here dst)}
    {α : Type} {k : PUnit → Prog (TpuEff nD τ sig (Elt F) Λ₀ .tc) α} {Q : α → sProp 𝕄} :
    iprop(hold c src fs ∗ holdAny c dst ∗ semVal ((c : Thread nD τ), .dma j) 0)
    ⊢ iprop((inflight c src dst j fs g -∗ wp frame (wpE (defs₀ (F := F)) Variants.none (c : Thread nD τ) none) Set.univ (k ⟨⟩) Q)
      -∗ wp frame (wpE (defs₀ (F := F)) Variants.none (c : Thread nD τ) none) Set.univ (Prog.lift (.enqueueDma src (.here dst) (.dma j) hsrc hdst hsem) >>= k) Q) := by
  iintro ⟨Hs, ⟨%fd, Hd⟩, Hv⟩ Hk
  iapply (Transfers.wp_dmaLocal (cnt (F := F)) Variants.none (c : Thread nD τ) none (k := k) (src := src) (dst := dst) (via := .same) (Sd := dst.view.set) (fd := fd) (fs := fs) (q := fullShare) () dst.view.dmaCredit rfl hpos (Finset.Subset.refl _)) $$ [Hs Hd Hv]
  · isplitl [Hs]
    · iexact Hs
    isplitl [Hd]
    · iexact Hd
    · iexact Hv
  iintro Hf
  iapply Hk
  have h1 : hold c dst (dst.view.write (Elt F) fd (src.view.read (Elt F) fs) Finset.univ) ⊢ hold c dst g :=
    Idealize.SL.BI.BIBase.Entails.of_eq (BI.Region.is_congr (hg fd))
  have hm : iprop(hold c dst (dst.view.write (Elt F) fd (src.view.read (Elt F) fs) Finset.univ) ∗ hold c src fs) ⊢ iprop(hold c dst g ∗ hold c src fs) := by
    iintro ⟨H1, H2⟩
    isplitl [H1]
    · iapply h1
      iexact H1
    · iexact H2
  iapply (Transfers.Flight_mono (cnt (F := F)) (c : Thread nD τ) hm)
  iexact Hf

theorem collect (c : Dev nD) {sp sp' : Space} {S : Shape} {e : EltTy} (src : Memref sig .tc sp S e) (dst : Memref sig .tc sp' S e)
    (j : DmaSem sig) (fs : BufM (F := F) c src) (g : BufM (F := F) c dst)
    {hsrc : src.view.WordExact} {hdst : dst.view.WordExact}
    {α : Type} {k : PUnit → Prog (TpuEff nD τ sig (Elt F) Λ₀ .tc) α} {Q : α → sProp 𝕄} :
    iprop(inflight c src dst j fs g ∗ ∃ W, owes (c : Thread nD τ) 0 W)
    ⊢ iprop((iprop(hold c dst g ∗ hold c src fs ∗ semVal ((c : Thread nD τ), .dma j) 0 ∗ ∃ W, owes (c : Thread nD τ) 0 W)
        -∗ wp frame (wpE (defs₀ (F := F)) Variants.none (c : Thread nD τ) none) Set.univ (k ⟨⟩) Q)
      -∗ wp frame (wpE (defs₀ (F := F)) Variants.none (c : Thread nD τ) none) Set.univ (Prog.lift (.waitDma2 j src dst hsrc hdst) >>= k) Q) := by
  iintro ⟨Hf, ⟨%W, HW⟩⟩ Hk
  iapply (Transfers.wp_waitLocal (cnt (F := F)) Variants.none (c : Thread nD τ) none (k := k) (srcw := src) (dstw := dst) () rfl (D := iprop(hold c dst g ∗ hold c src fs)) (W := W)) $$ [Hf HW]
  · isplitl [Hf]
    · iexact Hf
    · iexact HW
  iintro ⟨⟨H1, H2⟩, Hv, HW⟩
  iapply Hk
  isplitl [H1]
  · iexact H1
  isplitl [H2]
  · iexact H2
  isplitl [Hv]
  · iexact Hv
  iexists _
  iexact HW

/-! ## What a slot holds once expert `e` has landed in it -/

/-- Expert `e`'s `[2048, 512]` weight laid in either slot. -/
def landG (e : Fin 64) (W : S64x2048x512.Idx → F .f32) : S2x2048x512.Idx → F .f32 :=
  fun j => W (fun a => match a with | ⟨0, _⟩ => e | ⟨1, _⟩ => j 1 | ⟨2, _⟩ => j 2)
/-- Expert `e`'s `[512, 2048]` weight laid in either slot. -/
def landD (e : Fin 64) (W : S64x512x2048.Idx → F .f32) : S2x512x2048.Idx → F .f32 :=
  fun j => W (fun a => match a with | ⟨0, _⟩ => e | ⟨1, _⟩ => j 1 | ⟨2, _⟩ => j 2)

theorem land_sG (s : Fin 2) (e : Fin 64) (W : S64x2048x512.Idx → F .f32) (fd : S2x2048x512.Idx → F .f32) :
    ∀ i ∈ (slotM sG _ (inbS s)).view.set,
      (slotM sG _ (inbS s)).view.write (Elt F) fd ((expM wG _ (inbE e)).view.read (Elt F) W) Finset.univ i = landG e W i := by
  intro i hi
  obtain ⟨x, -, rfl⟩ := Finset.mem_map.mp hi
  rw [View.write_emb_of_mem _ _ (Finset.mem_univ x)]
  show W _ = W _
  congr 1
  funext a
  apply Fin.ext
  fin_cases a
  · have h : ∀ y : S1x2048x512.Idx, e.val + 1 * (y 0).val = e.val := fun y => by
      have : (y 0).val < 1 := (y 0).isLt
      omega
    exact h _
  · rfl
  · rfl

theorem land_sU (s : Fin 2) (e : Fin 64) (W : S64x2048x512.Idx → F .f32) (fd : S2x2048x512.Idx → F .f32) :
    ∀ i ∈ (slotM sU _ (inbS s)).view.set,
      (slotM sU _ (inbS s)).view.write (Elt F) fd ((expM wU _ (inbE e)).view.read (Elt F) W) Finset.univ i = landG e W i := by
  intro i hi
  obtain ⟨x, -, rfl⟩ := Finset.mem_map.mp hi
  rw [View.write_emb_of_mem _ _ (Finset.mem_univ x)]
  show W _ = W _
  congr 1
  funext a
  apply Fin.ext
  fin_cases a
  · have h : ∀ y : S1x2048x512.Idx, e.val + 1 * (y 0).val = e.val := fun y => by
      have : (y 0).val < 1 := (y 0).isLt
      omega
    exact h _
  · rfl
  · rfl

theorem land_sD (s : Fin 2) (e : Fin 64) (W : S64x512x2048.Idx → F .f32) (fd : S2x512x2048.Idx → F .f32) :
    ∀ i ∈ (slotD sD _ (inbS' s)).view.set,
      (slotD sD _ (inbS' s)).view.write (Elt F) fd ((expD wD _ (inbE' e)).view.read (Elt F) W) Finset.univ i = landD e W i := by
  intro i hi
  obtain ⟨x, -, rfl⟩ := Finset.mem_map.mp hi
  rw [View.write_emb_of_mem _ _ (Finset.mem_univ x)]
  show W _ = W _
  congr 1
  funext a
  apply Fin.ext
  fin_cases a
  · have h : ∀ y : S1x512x2048.Idx, e.val + 1 * (y 0).val = e.val := fun y => by
      have : (y 0).val < 1 := (y 0).isLt
      omega
    exact h _
  · rfl
  · rfl

end Cert.KernelIdeal.Hand

end
-- ==== Proof.Rules.lean ====
/-
  The body of the experts kernel at one grid point.
-/
module

public import proofs.«01_k».proof.Proof.Copy

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.WordCmp
open Idealize.ShloMosaic.Pipeline (Dat Cfg Window BodyObligation cellOf)

variable {F : FTy → Type} [FloatOps F]

local notation "𝕄" => MT nD τ sig Unit (Elt F) ℕ (Pipeline.UD sig nD τ) ℕ

/-- The five tables, at the half share the body reads them at. -/
def tabs (c : Dev nD) (pf : pre0.Contents (Elt F)) : sProp 𝕄 :=
  iprop(((c : Thread nD τ).loc main_v19 ↦{fullShare.right} pf 0) ∗ ((c : Thread nD τ).loc main_v23 ↦{fullShare.right} pf 1)
    ∗ ((c : Thread nD τ).loc main_v58 ↦{fullShare.right} pf 2) ∗ ((c : Thread nD τ).loc main_v45 ↦{fullShare.right} pf 3)
    ∗ ((c : Thread nD τ).loc main_v36 ↦{fullShare.right} pf 4))

/-- The kernel's function at grid point `i` on the windows' staging buffers `a6` and `a10`. -/
abbrev kernelAt (i : grid0.Coords) (a6 : Memref sig .tc .vmem S256x16x128 .bf16) (h6 : a6.IsWhole)
    (a10 : Memref sig .tc .vmem S256x16x128 .bf16) (h10 : a10.IsWhole) : Prog (TpuEff nD τ sig (Elt F) Λ₀ .tc) PUnit :=
  cc0_experts i (Memref.whole main_v19) (Memref.isWhole_whole _) (Memref.whole main_v23) (Memref.isWhole_whole _)
    (Memref.whole main_v58) (Memref.isWhole_whole _) (Memref.whole main_v45) (Memref.isWhole_whole _)
    (Memref.whole main_v36) (Memref.isWhole_whole _) a6 h6 wG (Memref.isWhole_whole _) wU (Memref.isWhole_whole _)
    wD (Memref.isWhole_whole _) a10 h10 sG (Memref.isWhole_whole _) sU (Memref.isWhole_whole _) sD (Memref.isWhole_whole _)
    cG (Memref.isWhole_whole _) cU (Memref.isWhole_whole _) cD (Memref.isWhole_whole _) cc0_scratch6

/-! ## Words, checks and loads -/

abbrev wpe (c : Dev nD) {α : Type} (p : Prog (TpuEff nD τ sig (Elt F) Λ₀ .tc) α) (Q : α → sProp 𝕄) : sProp 𝕄 :=
  wp frame (wpE (defs₀ (F := F)) Variants.none (c : Thread nD τ) none) Set.univ p Q

section Rules

theorem read_word {α : Type} {Q : α → sProp 𝕄} (c : Dev nD) {S : Shape} {m : Memref sig .tc .smem S .i32} {r : Rect S} {h1 : r.shape.numel = 1} {hp}
    {k : BitVec 32 → Prog (TpuEff nD τ sig (Elt F) Λ₀ .tc) α} {q : PosShare TreeShare} {f : BufM (F := F) c m} (w : BitVec 32)
    (hw : (m.access r).read (Elt F) f (Shape.Idx.first (h1.symm ▸ Nat.one_pos)) = w) :
    (m.view.loc (c : Thread nD τ) ↦{q} f) ⊢ iprop(((m.view.loc (c : Thread nD τ) ↦{q} f) -∗ wpe c (k w) Q) -∗ wpe c (smemLoad m r h1 hp >>= k) Q) := by
  subst hw
  have e : (smemLoad m r h1 hp >>= k : Prog (TpuEff nD τ sig (Elt F) Λ₀ .tc) α) = smemLoadElt (Val := Elt F) m r (View.loads_smem_one hp h1) (Shape.Idx.first (h1.symm ▸ Nat.one_pos)) k := by
    unfold smemLoad; rw [smemLoadElt_bind]; rfl
  rw [wpe, wpe, e]
  iintro H Hk
  iapply (wp_smemLoadElt_named (defs := defs₀ (F := F)) (Q := Q) Variants.none (c : Thread nD τ) none Set.univ (m := m) (r := r)
    (hw := View.loads_smem_one hp h1) (x := Shape.Idx.first (h1.symm ▸ Nat.one_pos)) (k := k) (S := Finset.univ) (q := q) (f := f)
    (Finset.subset_univ _)) $$ H
  iintro H %w %hw
  subst hw
  iapply Hk
  iexact H

theorem checked {α : Type} {Q : α → sProp 𝕄} (c : Dev nD) {P : Prop} {d : Decidable P} {k : PLift P → Prog (TpuEff nD τ sig (Elt F) Λ₀ .tc) α} (h : P) :
    wpe c (k ⟨h⟩) Q ⊢ wpe c (Prog.lift (.assume P d) >>= k) Q :=
  wp_assume (defs := defs₀ (F := F)) Variants.none (c : Thread nD τ) none Set.univ (d := d) (k := k) (Q := Q) h

/-- A word of one of the tables, the others set aside. -/
theorem table_word {α : Type} {Q : α → sProp 𝕄} (c : Dev nD) {S : Shape} {m : Memref sig .tc .smem S .i32} {r : Rect S} {h1 : r.shape.numel = 1} {hp}
    {k : BitVec 32 → Prog (TpuEff nD τ sig (Elt F) Λ₀ .tc) α} {q : PosShare TreeShare} {f : BufM (F := F) c m} (w : BitVec 32)
    (hw : (m.access r).read (Elt F) f (Shape.Idx.first (h1.symm ▸ Nat.one_pos)) = w) {P rest : sProp 𝕄}
    (ho : P ⊢ iprop((m.view.loc (c : Thread nD τ) ↦{q} f) ∗ rest)) (hc : iprop((m.view.loc (c : Thread nD τ) ↦{q} f) ∗ rest) ⊢ P) :
    P ⊢ iprop((P -∗ wpe c (k w) Q) -∗ wpe c (smemLoad m r h1 hp >>= k) Q) := by
  iintro H Hk
  ihave H := ho $$ H
  icases H with ⟨H, Hr⟩
  iapply (read_word c (m := m) (k := k) (Q := Q) w hw) $$ H
  iintro H
  iapply Hk
  iapply hc
  isplitl [H]
  · iexact H
  · iexact Hr

/-- The four tables other than table `n`. -/
def tabsBut (c : Dev nD) (pf : pre0.Contents (Elt F)) (n : Fin 5) : sProp 𝕄 :=
  match n with
  | 0 => iprop(((c : Thread nD τ).loc main_v23 ↦{fullShare.right} pf 1) ∗ ((c : Thread nD τ).loc main_v58 ↦{fullShare.right} pf 2) ∗ ((c : Thread nD τ).loc main_v45 ↦{fullShare.right} pf 3) ∗ ((c : Thread nD τ).loc main_v36 ↦{fullShare.right} pf 4))
  | 1 => iprop(((c : Thread nD τ).loc main_v19 ↦{fullShare.right} pf 0) ∗ ((c : Thread nD τ).loc main_v58 ↦{fullShare.right} pf 2) ∗ ((c : Thread nD τ).loc main_v45 ↦{fullShare.right} pf 3) ∗ ((c : Thread nD τ).loc main_v36 ↦{fullShare.right} pf 4))
  | 2 => iprop(((c : Thread nD τ).loc main_v19 ↦{fullShare.right} pf 0) ∗ ((c : Thread nD τ).loc main_v23 ↦{fullShare.right} pf 1) ∗ ((c : Thread nD τ).loc main_v45 ↦{fullShare.right} pf 3) ∗ ((c : Thread nD τ).loc main_v36 ↦{fullShare.right} pf 4))
  | 3 => iprop(((c : Thread nD τ).loc main_v19 ↦{fullShare.right} pf 0) ∗ ((c : Thread nD τ).loc main_v23 ↦{fullShare.right} pf 1) ∗ ((c : Thread nD τ).loc main_v58 ↦{fullShare.right} pf 2) ∗ ((c : Thread nD τ).loc main_v36 ↦{fullShare.right} pf 4))
  | 4 => iprop(((c : Thread nD τ).loc main_v19 ↦{fullShare.right} pf 0) ∗ ((c : Thread nD τ).loc main_v23 ↦{fullShare.right} pf 1) ∗ ((c : Thread nD τ).loc main_v58 ↦{fullShare.right} pf 2) ∗ ((c : Thread nD τ).loc main_v45 ↦{fullShare.right} pf 3))

theorem tabs_out0 (c : Dev nD) (pf : pre0.Contents (Elt F)) : tabs c pf ⊢ iprop(((c : Thread nD τ).loc main_v19 ↦{fullShare.right} pf 0) ∗ tabsBut c pf 0) := by
  unfold tabs tabsBut
  iintro ⟨H0, H1, H2, H3, H4⟩
  isplitl [H0]; · iexact H0
  isplitl [H1]; · iexact H1
  isplitl [H2]; · iexact H2
  isplitl [H3]; · iexact H3
  iexact H4

theorem tabs_in0 (c : Dev nD) (pf : pre0.Contents (Elt F)) : iprop(((c : Thread nD τ).loc main_v19 ↦{fullShare.right} pf 0) ∗ tabsBut c pf 0) ⊢ tabs c pf := by
  unfold tabs tabsBut
  iintro ⟨H0, H1, H2, H3, H4⟩
  isplitl [H0]; · iexact H0
  isplitl [H1]; · iexact H1
  isplitl [H2]; · iexact H2
  isplitl [H3]; · iexact H3
  iexact H4

theorem tabs_out1 (c : Dev nD) (pf : pre0.Contents (Elt F)) : tabs c pf ⊢ iprop(((c : Thread nD τ).loc main_v23 ↦{fullShare.right} pf 1) ∗ tabsBut c pf 1) := by
  unfold tabs tabsBut
  iintro ⟨H0, H1, H2, H3, H4⟩
  isplitl [H1]; · iexact H1
  isplitl [H0]; · iexact H0
  isplitl [H2]; · iexact H2
  isplitl [H3]; · iexact H3
  iexact H4

theorem tabs_in1 (c : Dev nD) (pf : pre0.Contents (Elt F)) : iprop(((c : Thread nD τ).loc main_v23 ↦{fullShare.right} pf 1) ∗ tabsBut c pf 1) ⊢ tabs c pf := by
  unfold tabs tabsBut
  iintro ⟨H1, H0, H2, H3, H4⟩
  isplitl [H0]; · iexact H0
  isplitl [H1]; · iexact H1
  isplitl [H2]; · iexact H2
  isplitl [H3]; · iexact H3
  iexact H4

theorem tabs_out2 (c : Dev nD) (pf : pre0.Contents (Elt F)) : tabs c pf ⊢ iprop(((c : Thread nD τ).loc main_v58 ↦{fullShare.right} pf 2) ∗ tabsBut c pf 2) := by
  unfold tabs tabsBut
  iintro ⟨H0, H1, H2, H3, H4⟩
  isplitl [H2]; · iexact H2
  isplitl [H0]; · iexact H0
  isplitl [H1]; · iexact H1
  isplitl [H3]; · iexact H3
  iexact H4

theorem tabs_in2 (c : Dev nD) (pf : pre0.Contents (Elt F)) : iprop(((c : Thread nD τ).loc main_v58 ↦{fullShare.right} pf 2) ∗ tabsBut c pf 2) ⊢ tabs c pf := by
  unfold tabs tabsBut
  iintro ⟨H2, H0, H1, H3, H4⟩
  isplitl [H0]; · iexact H0
  isplitl [H1]; · iexact H1
  isplitl [H2]; · iexact H2
  isplitl [H3]; · iexact H3
  iexact H4

theorem tabs_out3 (c : Dev nD) (pf : pre0.Contents (Elt F)) : tabs c pf ⊢ iprop(((c : Thread nD τ).loc main_v45 ↦{fullShare.right} pf 3) ∗ tabsBut c pf 3) := by
  unfold tabs tabsBut
  iintro ⟨H0, H1, H2, H3, H4⟩
  isplitl [H3]; · iexact H3
  isplitl [H0]; · iexact H0
  isplitl [H1]; · iexact H1
  isplitl [H2]; · iexact H2
  iexact H4

theorem tabs_in3 (c : Dev nD) (pf : pre0.Contents (Elt F)) : iprop(((c : Thread nD τ).loc main_v45 ↦{fullShare.right} pf 3) ∗ tabsBut c pf 3) ⊢ tabs c pf := by
  unfold tabs tabsBut
  iintro ⟨H3, H0, H1, H2, H4⟩
  isplitl [H0]; · iexact H0
  isplitl [H1]; · iexact H1
  isplitl [H2]; · iexact H2
  isplitl [H3]; · iexact H3
  iexact H4

theorem tabs_out4 (c : Dev nD) (pf : pre0.Contents (Elt F)) : tabs c pf ⊢ iprop(((c : Thread nD τ).loc main_v36 ↦{fullShare.right} pf 4) ∗ tabsBut c pf 4) := by
  unfold tabs tabsBut
  iintro ⟨H0, H1, H2, H3, H4⟩
  isplitl [H4]; · iexact H4
  isplitl [H0]; · iexact H0
  isplitl [H1]; · iexact H1
  isplitl [H2]; · iexact H2
  iexact H3

theorem tabs_in4 (c : Dev nD) (pf : pre0.Contents (Elt F)) : iprop(((c : Thread nD τ).loc main_v36 ↦{fullShare.right} pf 4) ∗ tabsBut c pf 4) ⊢ tabs c pf := by
  unfold tabs tabsBut
  iintro ⟨H4, H0, H1, H2, H3⟩
  isplitl [H0]; · iexact H0
  isplitl [H1]; · iexact H1
  isplitl [H2]; · iexact H2
  isplitl [H3]; · iexact H3
  iexact H4

theorem tab_ix (pf : S320.Idx → BitVec 32) (j : Fin 320) {inb} {x} :
    pf ((Rect.unit (s := S320) ![j.val] S1.size inb).emb x) = pf (ix j) := by
  refine congrArg pf (funext fun a => Fin.ext ?_)
  have h : ∀ y : S1.Idx, j.val + 1 * (y 0).val = j.val := fun y => by
    have : (y 0).val < 1 := (y 0).isLt
    omega
  have ha : a = 0 := Subsingleton.elim _ _
  subst ha
  exact h _

variable (R : Route) {pf : pre0.Contents (Elt F)} (hT : Tables R pf)
include hT

theorem word_nu {α : Type} {Q : α → sProp 𝕄} (c : Dev nD) {inb} {h1} {hp} {k : BitVec 32 → Prog (TpuEff nD τ sig (Elt F) Λ₀ .tc) α} :
    tabs c pf ⊢ iprop((tabs c pf -∗ wpe c (k (wd R.nu)) Q)
      -∗ wpe c (smemLoad (Memref.whole main_v23) (Rect.unit (s := S1) ![0] S1.size inb) h1 hp >>= k) Q) := by
  have hw : ((Memref.whole main_v23 : Memref sig .tc .smem S1 .i32).access (Rect.unit (s := S1) ![0] S1.size inb)).read (Elt F) (pf 1)
      (Shape.Idx.first (h1.symm ▸ Nat.one_pos)) = wd R.nu := hT.nu _
  exact table_word c (wd R.nu) hw (tabs_out1 c pf) (tabs_in1 c pf)

theorem word_be {α : Type} {Q : α → sProp 𝕄} (c : Dev nD) (j : Fin 320) {off : Fin 1 → ℕ} (ho : off = ![j.val]) {inb} {h1} {hp}
    {k : BitVec 32 → Prog (TpuEff nD τ sig (Elt F) Λ₀ .tc) α} :
    tabs c pf ⊢ iprop((tabs c pf -∗ wpe c (k (wd (R.be j))) Q)
      -∗ wpe c (smemLoad (Memref.whole main_v19) (Rect.unit (s := S320) off S1.size inb) h1 hp >>= k) Q) := by
  subst ho
  have hw : ((Memref.whole main_v19 : Memref sig .tc .smem S320 .i32).access (Rect.unit (s := S320) ![j.val] S1.size inb)).read (Elt F) (pf 0)
      (Shape.Idx.first (h1.symm ▸ Nat.one_pos)) = wd (R.be j) := (tab_ix (pf 0) j).trans (hT.be j)
  exact table_word c _ hw (tabs_out0 c pf) (tabs_in0 c pf)

theorem word_slot {α : Type} {Q : α → sProp 𝕄} (c : Dev nD) (j : Fin 320) {off : Fin 1 → ℕ} (ho : off = ![j.val]) {inb} {h1} {hp}
    {k : BitVec 32 → Prog (TpuEff nD τ sig (Elt F) Λ₀ .tc) α} :
    tabs c pf ⊢ iprop((tabs c pf -∗ wpe c (k (wd (R.slot j))) Q)
      -∗ wpe c (smemLoad (Memref.whole main_v58) (Rect.unit (s := S320) off S1.size inb) h1 hp >>= k) Q) := by
  subst ho
  have hw : ((Memref.whole main_v58 : Memref sig .tc .smem S320 .i32).access (Rect.unit (s := S320) ![j.val] S1.size inb)).read (Elt F) (pf 2)
      (Shape.Idx.first (h1.symm ▸ Nat.one_pos)) = wd (R.slot j) := (tab_ix (pf 2) j).trans (hT.slot j)
  exact table_word c _ hw (tabs_out2 c pf) (tabs_in2 c pf)

theorem word_nx {α : Type} {Q : α → sProp 𝕄} (c : Dev nD) (j : Fin 320) {off : Fin 1 → ℕ} (ho : off = ![j.val]) {inb} {h1} {hp}
    {k : BitVec 32 → Prog (TpuEff nD τ sig (Elt F) Λ₀ .tc) α} :
    tabs c pf ⊢ iprop((tabs c pf -∗ wpe c (k (wd (R.nx j))) Q)
      -∗ wpe c (smemLoad (Memref.whole main_v45) (Rect.unit (s := S320) off S1.size inb) h1 hp >>= k) Q) := by
  subst ho
  have hw : ((Memref.whole main_v45 : Memref sig .tc .smem S320 .i32).access (Rect.unit (s := S320) ![j.val] S1.size inb)).read (Elt F) (pf 3)
      (Shape.Idx.first (h1.symm ▸ Nat.one_pos)) = wd (R.nx j) := (tab_ix (pf 3) j).trans (hT.nx j)
  exact table_word c _ hw (tabs_out3 c pf) (tabs_in3 c pf)

theorem word_hn {α : Type} {Q : α → sProp 𝕄} (c : Dev nD) (j : Fin 320) {off : Fin 1 → ℕ} (ho : off = ![j.val]) {inb} {h1} {hp}
    {k : BitVec 32 → Prog (TpuEff nD τ sig (Elt F) Λ₀ .tc) α} :
    tabs c pf ⊢ iprop((tabs c pf -∗ wpe c (k (if R.hn j then 1#32 else 0#32)) Q)
      -∗ wpe c (smemLoad (Memref.whole main_v36) (Rect.unit (s := S320) off S1.size inb) h1 hp >>= k) Q) := by
  subst ho
  have hw : ((Memref.whole main_v36 : Memref sig .tc .smem S320 .i32).access (Rect.unit (s := S320) ![j.val] S1.size inb)).read (Elt F) (pf 4)
      (Shape.Idx.first (h1.symm ▸ Nat.one_pos)) = (if R.hn j then 1#32 else 0#32) := (tab_ix (pf 4) j).trans (hT.hn j)
  exact table_word c _ hw (tabs_out4 c pf) (tabs_in4 c pf)

end Rules

end Cert.KernelIdeal.Hand

end
-- ==== Proof.Copies.lean ====
/-
  The three copies of one expert's weights into one slot: taken together, the issue and the wait as rules.
-/
module

public import proofs.«01_k».proof.Proof.Rules

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.WordCmp
open Idealize.ShloMosaic.Pipeline (Dat Cfg Window BodyObligation cellOf)

variable {F : FTy → Type} [FloatOps F]

local notation "𝕄" => MT nD τ sig Unit (Elt F) ℕ (Pipeline.UD sig nD τ) ℕ

abbrev slG (s : Fin 2) := slotM sG _ (inbS s)
abbrev slU (s : Fin 2) := slotM sU _ (inbS s)
abbrev slD (s : Fin 2) := slotD sD _ (inbS' s)
abbrev exG (e : Fin 64) := expM wG _ (inbE e)
abbrev exU (e : Fin 64) := expM wU _ (inbE e)
abbrev exD (e : Fin 64) := expD wD _ (inbE' e)

/-- The three weight arrays' contents. -/
structure Wts (F : FTy → Type) where
  g : S64x2048x512.Idx → F .f32
  u : S64x2048x512.Idx → F .f32
  d : S64x512x2048.Idx → F .f32

/-- Slot `s` of the three buffers, whatever it holds. -/
def slotsAny (c : Dev nD) (s : Fin 2) : sProp 𝕄 := iprop(holdAny c (slG s) ∗ holdAny c (slU s) ∗ holdAny c (slD s))
/-- Slot `s` of the three buffers holding expert `e`. -/
def slotsHold (c : Dev nD) (s : Fin 2) (e : Fin 64) (W : Wts F) : sProp 𝕄 :=
  iprop(hold c (slG s) (landG e W.g) ∗ hold c (slU s) (landG e W.u) ∗ hold c (slD s) (landD e W.d))
/-- Slot `s`'s three cells, at zero. -/
def cells (c : Dev nD) (s : Fin 2) : sProp 𝕄 :=
  iprop(semVal ((c : Thread nD τ), .dma (cellN s 0)) 0 ∗ semVal ((c : Thread nD τ), .dma (cellN s 1)) 0 ∗ semVal ((c : Thread nD τ), .dma (cellN s 2)) 0)
/-- Expert `e`'s three copies on their way into slot `s`. -/
def coming (c : Dev nD) (s : Fin 2) (e : Fin 64) (W : Wts F) : sProp 𝕄 :=
  iprop(inflight c (exG e) (slG s) (cellN s 0) W.g (landG e W.g) ∗ inflight c (exU e) (slU s) (cellN s 1) W.u (landG e W.u)
    ∗ inflight c (exD e) (slD s) (cellN s 2) W.d (landD e W.d))
/-- The weights, whole. -/
def weights (c : Dev nD) (W : Wts F) : sProp 𝕄 :=
  iprop((wG.view.loc (c : Thread nD τ) ↦{fullShare} W.g) ∗ (wU.view.loc (c : Thread nD τ) ↦{fullShare} W.u) ∗ (wD.view.loc (c : Thread nD τ) ↦{fullShare} W.d))
/-- The weights without expert `e`. -/
def without (c : Dev nD) (e : Fin 64) (W : Wts F) : sProp 𝕄 :=
  iprop((wG.view.loc (c : Thread nD τ) ↦[Finset.univ \ (exG e).view.set]{fullShare} W.g)
    ∗ (wU.view.loc (c : Thread nD τ) ↦[Finset.univ \ (exU e).view.set]{fullShare} W.u)
    ∗ (wD.view.loc (c : Thread nD τ) ↦[Finset.univ \ (exD e).view.set]{fullShare} W.d))
/-- Expert `e`'s weights. -/
def expert (c : Dev nD) (e : Fin 64) (W : Wts F) : sProp 𝕄 :=
  iprop(hold c (exG e) W.g ∗ hold c (exU e) W.u ∗ hold c (exD e) W.d)

theorem split_off (ℓ : Loc nD τ sig) (I : Finset (Idx ℓ)) (f : Buf (Elt F) ℓ) :
    (ℓ ↦{fullShare} f : sProp 𝕄) ⊢ iprop((ℓ ↦[I]{fullShare} f) ∗ (ℓ ↦[Finset.univ \ I]{fullShare} f)) :=
  (pointsTo_split_subset (Finset.subset_univ I)).1

theorem join_back (ℓ : Loc nD τ sig) (I : Finset (Idx ℓ)) (f : Buf (Elt F) ℓ) :
    iprop((ℓ ↦[I]{fullShare} f) ∗ (ℓ ↦[Finset.univ \ I]{fullShare} f)) ⊢ (ℓ ↦{fullShare} f : sProp 𝕄) :=
  (pointsTo_split_subset (Finset.subset_univ I)).2

theorem take (c : Dev nD) (e : Fin 64) (W : Wts F) : weights c W ⊢ iprop(expert c e W ∗ without c e W) := by
  unfold weights expert without
  iintro ⟨HG, HU, HD⟩
  ihave HG := (split_off (wG.view.loc (c : Thread nD τ)) (exG e).view.set W.g) $$ HG
  icases HG with ⟨G1, G2⟩
  ihave HU := (split_off (wU.view.loc (c : Thread nD τ)) (exU e).view.set W.u) $$ HU
  icases HU with ⟨U1, U2⟩
  ihave HD := (split_off (wD.view.loc (c : Thread nD τ)) (exD e).view.set W.d) $$ HD
  icases HD with ⟨D1, D2⟩
  isplitl [G1 U1 D1]
  · isplitl [G1]; · iexact G1
    isplitl [U1]; · iexact U1
    iexact D1
  · isplitl [G2]; · iexact G2
    isplitl [U2]; · iexact U2
    iexact D2

theorem put (c : Dev nD) (e : Fin 64) (W : Wts F) : iprop(expert c e W ∗ without c e W) ⊢ weights c W := by
  unfold weights expert without
  iintro ⟨⟨G1, U1, D1⟩, ⟨G2, U2, D2⟩⟩
  isplitl [G1 G2]
  · iapply (join_back (wG.view.loc (c : Thread nD τ)) (exG e).view.set W.g)
    isplitl [G1]; · iexact G1
    iexact G2
  isplitl [U1 U2]
  · iapply (join_back (wU.view.loc (c : Thread nD τ)) (exU e).view.set W.u)
    isplitl [U1]; · iexact U1
    iexact U2
  · iapply (join_back (wD.view.loc (c : Thread nD τ)) (exD e).view.set W.d)
    isplitl [D1]; · iexact D1
    iexact D2

theorem posG (s : Fin 2) : 0 < (slG s).view.dmaCredit := View.dmaCredit_pos _ (by decide)
theorem posU (s : Fin 2) : 0 < (slU s).view.dmaCredit := View.dmaCredit_pos _ (by decide)
theorem posD (s : Fin 2) : 0 < (slD s).view.dmaCredit := View.dmaCredit_pos _ (by decide)

theorem issue3 {α : Type} {Q : α → sProp 𝕄} (c : Dev nD) (s : Fin 2) (e : Fin 64) (W : Wts F)
    {jG jU jD : DmaSem sig} (hjG : jG = cellN s 0) (hjU : jU = cellN s 1) (hjD : jD = cellN s 2)
    {oG oU oD pG pU pD : Fin 3 → ℕ} (hoG : oG = ![s.val, 0, 0]) (hoU : oU = ![s.val, 0, 0]) (hoD : oD = ![s.val, 0, 0])
    (hpG : pG = ![e.val, 0, 0]) (hpU : pU = ![e.val, 0, 0]) (hpD : pD = ![e.val, 0, 0])
    {bG bU bD qG qU qD} {h1 h2 h3 h4 h5 h6 h7 h8 h9}
    {k : PUnit → Prog (TpuEff nD τ sig (Elt F) Λ₀ .tc) α} :
    iprop(weights c W ∗ slotsAny c s ∗ cells c s)
    ⊢ iprop((iprop(without c e W ∗ coming c s e W) -∗ wpe c (k ⟨⟩) Q)
      -∗ wpe c (Prog.lift (.enqueueDma (expM wG pG qG) (.here (slotM sG oG bG)) (.dma jG) h1 h2 h3) >>= fun _ =>
          Prog.lift (.enqueueDma (expM wU pU qU) (.here (slotM sU oU bU)) (.dma jU) h4 h5 h6) >>= fun _ =>
          Prog.lift (.enqueueDma (expD wD pD qD) (.here (slotD sD oD bD)) (.dma jD) h7 h8 h9) >>= k) Q) := by
  subst hjG hjU hjD hoG hoU hoD hpG hpU hpD
  unfold slotsAny cells
  have ht := take c e W
  unfold expert at ht
  iintro ⟨HW, ⟨SG, SU, SD⟩, ⟨CG, CU, CD⟩⟩ Hk
  ihave HW := ht $$ HW
  icases HW with ⟨⟨EG, EU, ED⟩, HW⟩
  iapply (issue c (exG e) (slG s) (cellN s 0) W.g (landG e W.g) (posG s) (land_sG s e W.g)) $$ [EG SG CG]
  · isplitl [EG]; · iexact EG
    isplitl [SG]; · iexact SG
    iexact CG
  iintro FG
  iapply (issue c (exU e) (slU s) (cellN s 1) W.u (landG e W.u) (posU s) (land_sU s e W.u)) $$ [EU SU CU]
  · isplitl [EU]; · iexact EU
    isplitl [SU]; · iexact SU
    iexact CU
  iintro FU
  iapply (issue c (exD e) (slD s) (cellN s 2) W.d (landD e W.d) (posD s) (land_sD s e W.d)) $$ [ED SD CD]
  · isplitl [ED]; · iexact ED
    isplitl [SD]; · iexact SD
    iexact CD
  iintro FD
  iapply Hk
  isplitl [HW]; · iexact HW
  unfold coming
  isplitl [FG]; · iexact FG
  isplitl [FU]; · iexact FU
  iexact FD

theorem collect3 {α : Type} {Q : α → sProp 𝕄} (c : Dev nD) (s : Fin 2) (e : Fin 64) (W : Wts F)
    {jG jU jD : DmaSem sig} (hjG : jG = cellN s 0) (hjU : jU = cellN s 1) (hjD : jD = cellN s 2)
    {oG oU oD pG pU pD : Fin 3 → ℕ} (hoG : oG = ![s.val, 0, 0]) (hoU : oU = ![s.val, 0, 0]) (hoD : oD = ![s.val, 0, 0])
    (hpG : pG = ![e.val, 0, 0]) (hpU : pU = ![e.val, 0, 0]) (hpD : pD = ![e.val, 0, 0])
    {bG bU bD qG qU qD} {h1 h2 h4 h5 h7 h8}
    {k : PUnit → Prog (TpuEff nD τ sig (Elt F) Λ₀ .tc) α} :
    iprop(without c e W ∗ coming c s e W ∗ ∃ W, owes (c : Thread nD τ) 0 W)
    ⊢ iprop((iprop(weights c W ∗ slotsHold c s e W ∗ cells c s ∗ ∃ W, owes (c : Thread nD τ) 0 W) -∗ wpe c (k ⟨⟩) Q)
      -∗ wpe c (Prog.lift (.waitDma2 jG (expM wG pG qG) (slotM sG oG bG) h1 h2) >>= fun _ =>
          Prog.lift (.waitDma2 jU (expM wU pU qU) (slotM sU oU bU) h4 h5) >>= fun _ =>
          Prog.lift (.waitDma2 jD (expD wD pD qD) (slotD sD oD bD) h7 h8) >>= k) Q) := by
  subst hjG hjU hjD hoG hoU hoD hpG hpU hpD
  unfold coming
  iintro ⟨HW, ⟨FG, FU, FD⟩, HO⟩ Hk
  iapply (collect c (exG e) (slG s) (cellN s 0) W.g (landG e W.g)) $$ [FG HO]
  · isplitl [FG]; · iexact FG
    iexact HO
  iintro ⟨SG, EG, CG, HO⟩
  iapply (collect c (exU e) (slU s) (cellN s 1) W.u (landG e W.u)) $$ [FU HO]
  · isplitl [FU]; · iexact FU
    iexact HO
  iintro ⟨SU, EU, CU, HO⟩
  iapply (collect c (exD e) (slD s) (cellN s 2) W.d (landD e W.d)) $$ [FD HO]
  · isplitl [FD]; · iexact FD
    iexact HO
  iintro ⟨SD, ED, CD, HO⟩
  iapply Hk
  isplitl [EG EU ED HW]
  · iapply (put c e W)
    isplitl [EG EU ED]
    · unfold expert
      isplitl [EG]; · iexact EG
      isplitl [EU]; · iexact EU
      iexact ED
    · iexact HW
  isplitl [SG SU SD]
  · unfold slotsHold
    isplitl [SG]; · iexact SG
    isplitl [SU]; · iexact SU
    iexact SD
  isplitl [CG CU CD]
  · unfold cells
    isplitl [CG]; · iexact CG
    isplitl [CU]; · iexact CU
    iexact CD
  iexact HO

end Cert.KernelIdeal.Hand

end
-- ==== Proof.Body.lean ====
/-
  The body of the experts kernel at one grid point.
-/
module

public import proofs.«01_k».proof.Proof.Copies

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.WordCmp
open Idealize.ShloMosaic.Pipeline (Dat Cfg Window BodyObligation cellOf)

variable {F : FTy → Type} [FloatOps F]

local notation "𝕄" => MT nD τ sig Unit (Elt F) ℕ (Pipeline.UD sig nD τ) ℕ

/-- A table index. -/
def at0 (i : grid0.Coords) : Fin 320 := ⟨(i 0).val, grid_lt i⟩
/-- The table index of the block before (of the first, at the first). -/
def pre1 (i : grid0.Coords) : Fin 320 := ⟨(i 0).val - 1, by have := grid_lt i; omega⟩

theorem off_tab {f : grid0.Coords → Fin 1 → ℕ} {i : grid0.Coords} (h : f i = ![(i 0).val]) : f i = ![(at0 i).val] := h

theorem read_stored {sp : Space} {S : Shape} {e : EltTy} (a : Memref sig .tc sp S e) (f : a.view.ty.Contents (Elt F)) (w : S.Idx → Elt F e)
    {off : Fin S.rank → ℕ} (ho : ∀ k, off k = 0) (inb : ∀ k, off k + S.size k ≤ S.size k) :
    a.view.read (Elt F) (a.view.writes (Elt F) f [⟨Rect.unit off S.size inb, w⟩]) = w := by
  funext x
  have hx : (Rect.unit off S.size inb).emb x = x := by
    funext k; apply Fin.ext
    show off k + 1 * (x k).val = (x k).val
    rw [ho k]; omega
  have h2 : a.view.read (Elt F) (a.view.writes (Elt F) f [⟨Rect.unit off S.size inb, w⟩]) ((Rect.unit off S.size inb).emb x) = w x :=
    congrFun (View.read_write_univ (v := a.view.slice (Rect.unit off S.size inb)) f w) x
  rwa [hx] at h2

theorem readAt_zero {sp : Space} {S : Shape} {e : EltTy} (a : Memref sig .tc sp S e) (f : a.view.ty.Contents (Elt F))
    {off : Fin S.rank → ℕ} (ho : ∀ k, off k = 0) (inb : ∀ k, off k + S.size k ≤ S.size k) :
    a.view.readAt (Elt F) (Rect.unit off S.size inb).toLoadRect f = a.view.read (Elt F) f := by
  funext x
  have hx : (Rect.unit off S.size inb).emb x = x := by
    funext k; apply Fin.ext
    show off k + 1 * (x k).val = (x k).val
    rw [ho k]; omega
  exact congrArg (a.view.read (Elt F) f) hx

theorem zero3 : ∀ k, (![0, 0, 0] : Fin 3 → ℕ) k = 0 := fun k => by fin_cases k <;> rfl
theorem zero2 : ∀ k, (![0, 0] : Fin 2 → ℕ) k = 0 := fun k => by fin_cases k <;> rfl

theorem owns_close (c : Dev nD) (a : Memref sig .tc .vmem S256x16x128 .bf16) (f : BufM (F := F) c a) (d : S256x16x128.Idx → Elt F .bf16)
    (h : a.view.read (Elt F) f = d) : (hold c a f : sProp 𝕄) ⊢ owns (c : Thread nD τ) a fullShare d := by
  unfold owns
  iintro H
  iexists _
  isplitr
  · ipureintro
    exact h
  · iexact H

theorem owns_open (c : Dev nD) (a : Memref sig .tc .vmem S256x16x128 .bf16) (d : S256x16x128.Idx → Elt F .bf16) :
    (owns (c : Thread nD τ) a fullShare d : sProp 𝕄)
      ⊢ iprop(∃ f : BufM (F := F) c a, ⌜a.view.read (Elt F) f = d⌝ ∗ hold c a f) := .rfl

theorem owns_stored (c : Dev nD) (a : Memref sig .tc .vmem S256x16x128 .bf16) (f : BufM (F := F) c a) (w : S256x16x128.Idx → Elt F .bf16)
    (inb : ∀ k, (![0, 0, 0] : Fin 3 → ℕ) k + S256x16x128.size k ≤ S256x16x128.size k) :
    (a.view.loc (c : Thread nD τ) ↦[a.view.set]{fullShare} a.view.writes (Elt F) f [⟨Rect.unit (s := S256x16x128) ![0, 0, 0] S256x16x128.size inb, w⟩] : sProp 𝕄)
      ⊢ owns (c : Thread nD τ) a fullShare w := by
  unfold owns
  iintro H
  iexists _
  isplitr
  · ipureintro
    exact read_stored a f w zero3 inb
  · iexact H

theorem run_unused (c : Dev nD) (i : grid0.Coords) (a6 : Memref sig .tc .vmem S256x16x128 .bf16) (h6 : a6.IsWhole)
    (a10 : Memref sig .tc .vmem S256x16x128 .bf16) (h10 : a10.IsWhole) (R : Route) (pf : pre0.Contents (Elt F)) (hT : Tables R pf)
    (hi : R.nu ≤ (i 0).val) (K : PUnit → sProp 𝕄) :
    iprop(tabs c pf ∗ (∃ d, owns (c : Thread nD τ) a10 fullShare d)
      ∗ (iprop(tabs c pf ∗ owns (c : Thread nD τ) a10 fullShare (k0_pay2 (F := F))) -∗ K ⟨⟩))
    ⊢ wpe c (kernelAt i a6 h6 a10 h10) K := by
  have hn : R.nu ≤ 320 := R.nu_le
  have hp := R.nu_pos
  have c1 : ¬ k0_cond1 i = 1#1 := by rw [cond1_eq, ofBool_eq_one_iff]; simp; omega
  have c2 : ¬ k0_cond2 i (wd R.nu) (wd (R.be (pre1 i))) (wd (R.be (at0 i))) = 1#1 := by
    rw [cond2_eq _ _ hn, ofBool_eq_one_iff]; simp; omega
  have c4 : ¬ k0_cond4 i (wd R.nu) (wd (R.be (pre1 i))) (wd (R.be (at0 i))) = 1#1 := by
    rw [cond4_eq _ _ hn, ofBool_eq_one_iff]; simp; omega
  have c5 : k0_cond5 i (wd R.nu) = 1#1 := by
    rw [cond5_eq _ _ hn, ofBool_eq_one_iff]; simp; omega
  simp only [kernelAt, cc0_experts_eq_skeleton]; unfold cc0_experts_skel
  iintro ⟨HT, ⟨%d, HO⟩, Hk⟩
  ihave HO := owns_open c a10 d $$ HO
  icases HO with ⟨%f, -, H10⟩
  iapply (word_nu R hT c) $$ HT; iintro HT
  iapply (word_be R hT c (pre1 i) (off1 i)) $$ HT; iintro HT
  iapply (word_be R hT c (at0 i) (off2 i)) $$ HT; iintro HT
  iapply (word_slot R hT c (at0 i) (off2 i)) $$ HT; iintro HT
  iapply (checked c (chk3 i _ _ _ _))
  rw [dif_neg c1, dif_neg c2, dif_neg c4, dif_pos c5]
  unfold wpe
  sl_exec
  sl_step
  iapply Hk
  isplitl [HT]
  · iexact HT
  iapply (owns_stored c a10 f _ inb_S256x16x128_S256x16x128_0_0_0)
  iexact H10

/-- The three weights kept in the narrow format, as scratch. -/
abbrev keep (c : Dev nD) (g : S2048x512.Idx → F .bf16) (u : S2048x512.Idx → F .bf16) (d : S512x2048.Idx → F .bf16) : sProp 𝕄 :=
  iprop((cG.view.loc (c : Thread nD τ) ↦{fullShare} g) ∗ (cU.view.loc (c : Thread nD τ) ↦{fullShare} u)
    ∗ (cD.view.loc (c : Thread nD τ) ↦{fullShare} d))

theorem run_same (c : Dev nD) (i : grid0.Coords) (a6 : Memref sig .tc .vmem S256x16x128 .bf16) (h6 : a6.IsWhole)
    (a10 : Memref sig .tc .vmem S256x16x128 .bf16) (h10 : a10.IsWhole) (R : Route) (pf : pre0.Contents (Elt F)) (hT : Tables R pf)
    (hi : (i 0).val < R.nu) (h0 : (i 0).val ≠ 0) (hs : R.be (at0 i) = R.be (pre1 i))
    (x : S256x16x128.Idx → F .bf16) (g u : S2048x512.Idx → F .bf16) (d : S512x2048.Idx → F .bf16) (K : PUnit → sProp 𝕄) :
    iprop(tabs c pf ∗ owns (c : Thread nD τ) a6 fullShare x ∗ (∃ d, owns (c : Thread nD τ) a10 fullShare d) ∗ keep c g u d
      ∗ (iprop(tabs c pf ∗ owns (c : Thread nD τ) a6 fullShare x ∗ owns (c : Thread nD τ) a10 fullShare (k0_pay1 x g u d) ∗ keep c g u d) -∗ K ⟨⟩))
    ⊢ wpe c (kernelAt i a6 h6 a10 h10) K := by
  have hn : R.nu ≤ 320 := R.nu_le
  have hp := R.nu_pos
  have c1 : ¬ k0_cond1 i = 1#1 := by rw [cond1_eq, ofBool_eq_one_iff]; simpa using h0
  have c2 : ¬ k0_cond2 i (wd R.nu) (wd (R.be (pre1 i))) (wd (R.be (at0 i))) = 1#1 := by
    rw [cond2_eq _ _ hn, ofBool_eq_one_iff]; simp [hi, h0, hs]
  have c4 : k0_cond4 i (wd R.nu) (wd (R.be (pre1 i))) (wd (R.be (at0 i))) = 1#1 := by
    rw [cond4_eq _ _ hn, ofBool_eq_one_iff]; simp [hi, h0, hs]
  have c5 : ¬ k0_cond5 i (wd R.nu) = 1#1 := by
    rw [cond5_eq _ _ hn, ofBool_eq_one_iff]; simp [hi]
  simp only [kernelAt, cc0_experts_eq_skeleton]; unfold cc0_experts_skel
  iintro ⟨HT, Hx, ⟨%d', HO⟩, ⟨Hg, Hu, Hd⟩, Hk⟩
  ihave HO := owns_open c a10 d' $$ HO
  icases HO with ⟨%f, -, H10⟩
  ihave Hx := owns_open c a6 x $$ Hx
  icases Hx with ⟨%fx, %hfx, H6⟩
  iapply (word_nu R hT c) $$ HT; iintro HT
  iapply (word_be R hT c (pre1 i) (off1 i)) $$ HT; iintro HT
  iapply (word_be R hT c (at0 i) (off2 i)) $$ HT; iintro HT
  iapply (word_slot R hT c (at0 i) (off2 i)) $$ HT; iintro HT
  iapply (checked c (chk3 i _ _ _ _))
  rw [dif_neg c1, dif_neg c2, dif_pos c4, dif_neg c5]
  have e6 : a6.view.readAt (Elt F) (Rect.unit (s := S256x16x128) ![0, 0, 0] S256x16x128.size inb_S256x16x128_S256x16x128_0_0_0).toLoadRect fx = x :=
    (readAt_zero a6 fx zero3 _).trans hfx
  have eG : cG.view.readAt (Elt F) (Rect.unit (s := S2048x512) ![0, 0] S2048x512.size inb_S2048x512_S2048x512_0_0).toLoadRect g = g :=
    readAt_zero cG g zero2 _
  have eU : cU.view.readAt (Elt F) (Rect.unit (s := S2048x512) ![0, 0] S2048x512.size inb_S2048x512_S2048x512_0_0).toLoadRect u = u :=
    readAt_zero cU u zero2 _
  have eD : cD.view.readAt (Elt F) (Rect.unit (s := S512x2048) ![0, 0] S512x2048.size inb_S512x2048_S512x2048_0_0).toLoadRect d = d :=
    readAt_zero cD d zero2 _
  unfold wpe
  sl_exec
  sl_step
  iapply Hk
  isplitl [HT]
  · iexact HT
  isplitl [H6]
  · iapply (owns_close c a6 fx x hfx)
    iexact H6
  isplitl [H10]
  · iapply (owns_stored c a10 f _ inb_S256x16x128_S256x16x128_0_0_0)
    iexact H10
  isplitl [Hg]
  · iexact Hg
  isplitl [Hu]
  · iexact Hu
  · iexact Hd

end Cert.KernelIdeal.Hand

end
-- ==== Proof.New.lean ====
/-
  The body at the first block of an expert: its weights are waited for, the next expert's are called for, the block is
  computed from the wide weights and the narrow ones are kept.
-/
module

public import proofs.«01_k».proof.Proof.Body

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.WordCmp
open Idealize.ShloMosaic.Pipeline (Dat Cfg Window BodyObligation cellOf)

variable {F : FTy → Type} [FloatOps F]

local notation "𝕄" => MT nD τ sig Unit (Elt F) ℕ (Pipeline.UD sig nD τ) ℕ

/-- What is on its way after block `i`'s step. -/
def after (c : Dev nD) (hn : Bool) (s : Fin 2) (e : Fin 64) (W : Wts F) : sProp 𝕄 :=
  if hn then iprop(without c e W ∗ coming c s e W) else iprop(weights c W ∗ slotsAny c s ∗ cells c s)

/-- Expert `e`'s weight as a slot is loaded. -/
def wslG (e : Fin 64) (W : S64x2048x512.Idx → F .f32) : S1x2048x512.Idx → F .f32 :=
  fun x => W (fun a => match a with | ⟨0, _⟩ => e | ⟨1, _⟩ => x 1 | ⟨2, _⟩ => x 2)
def wslD (e : Fin 64) (W : S64x512x2048.Idx → F .f32) : S1x512x2048.Idx → F .f32 :=
  fun x => W (fun a => match a with | ⟨0, _⟩ => e | ⟨1, _⟩ => x 1 | ⟨2, _⟩ => x 2)

theorem load_slotG {α : Type} {Q : α → sProp 𝕄} (c : Dev nD) (M : Memref sig .tc .vmem S2x2048x512 .f32) (s : Fin 2) (f : BufM (F := F) c M)
    (v : S1x2048x512.Idx → Elt F .f32) {o : Fin 3 → ℕ} (ho : o = ![s.val, 0, 0]) {inb} {hl}
    (hv : ∀ inb, M.view.readAt (Elt F) (Rect.unit (s := S2x2048x512) ![s.val, 0, 0] S1x2048x512.size inb).toLoadRect f = v)
    {k : ((Rect.unit (s := S2x2048x512) o S1x2048x512.size inb).toLoadRect.shape.Idx → Elt F .f32) → Prog (TpuEff nD τ sig (Elt F) Λ₀ .tc) α} :
    hold c (slotM M _ (inbS s)) f ⊢ iprop((hold c (slotM M _ (inbS s)) f -∗ wpe c (k v) Q)
      -∗ wpe c (Prog.lift (.load M (Rect.unit (s := S2x2048x512) o S1x2048x512.size inb).toLoadRect hl) >>= k) Q) := by
  subst ho
  have hS : M.view.setOn (Rect.unit (s := S2x2048x512) ![s.val, 0, 0] S1x2048x512.size inb).toLoadRect.set ⊆ (slotM M _ (inbS s)).view.set := by
    refine Finset.Subset.trans ?_ (subset_of_eq (View.set_reshape (M.view.slice (Rect.unit (s := S2x2048x512) ![s.val, 0, 0] S1x2048x512.size (inbS s))) _).symm)
    rw [View.set_slice]
    exact Finset.Subset.refl _
  iintro H Hk
  iapply (wp_load (defs := defs₀ (F := F)) (Q := Q) Variants.none (c : Thread nD τ) none Set.univ (m := M) (k := k)
    (r := (Rect.unit (s := S2x2048x512) ![s.val, 0, 0] S1x2048x512.size inb).toLoadRect) (hl := hl) (q := fullShare) (f := f)
    (S := (slotM M _ (inbS s)).view.set) hS) $$ H
  iintro H
  rw [hv inb]
  iapply Hk
  iexact H

theorem load_slotD {α : Type} {Q : α → sProp 𝕄} (c : Dev nD) (M : Memref sig .tc .vmem S2x512x2048 .f32) (s : Fin 2) (f : BufM (F := F) c M)
    (v : S1x512x2048.Idx → Elt F .f32) {o : Fin 3 → ℕ} (ho : o = ![s.val, 0, 0]) {inb} {hl}
    (hv : ∀ inb, M.view.readAt (Elt F) (Rect.unit (s := S2x512x2048) ![s.val, 0, 0] S1x512x2048.size inb).toLoadRect f = v)
    {k : ((Rect.unit (s := S2x512x2048) o S1x512x2048.size inb).toLoadRect.shape.Idx → Elt F .f32) → Prog (TpuEff nD τ sig (Elt F) Λ₀ .tc) α} :
    hold c (slotD M _ (inbS' s)) f ⊢ iprop((hold c (slotD M _ (inbS' s)) f -∗ wpe c (k v) Q)
      -∗ wpe c (Prog.lift (.load M (Rect.unit (s := S2x512x2048) o S1x512x2048.size inb).toLoadRect hl) >>= k) Q) := by
  subst ho
  have hS : M.view.setOn (Rect.unit (s := S2x512x2048) ![s.val, 0, 0] S1x512x2048.size inb).toLoadRect.set ⊆ (slotD M _ (inbS' s)).view.set := by
    refine Finset.Subset.trans ?_ (subset_of_eq (View.set_reshape (M.view.slice (Rect.unit (s := S2x512x2048) ![s.val, 0, 0] S1x512x2048.size (inbS' s))) _).symm)
    rw [View.set_slice]
    exact Finset.Subset.refl _
  iintro H Hk
  iapply (wp_load (defs := defs₀ (F := F)) (Q := Q) Variants.none (c : Thread nD τ) none Set.univ (m := M) (k := k)
    (r := (Rect.unit (s := S2x512x2048) ![s.val, 0, 0] S1x512x2048.size inb).toLoadRect) (hl := hl) (q := fullShare) (f := f)
    (S := (slotD M _ (inbS' s)).view.set) hS) $$ H
  iintro H
  rw [hv inb]
  iapply Hk
  iexact H

theorem cell_at (s : Fin 2) (j : Fin 3) {o : Fin 2 → ℕ} (ho : o = ![s.val, j.val]) {h} :
    ((cc0_scratch6.slice (Rect.unit (s := S2x3) o S1x1.size h)).squeeze S_ squeezes_S1x1_S_).sem = cellN s j := by
  subst ho; exact cell_eq s j h

theorem slot_eqG (M : Memref sig .tc .vmem S2x2048x512 .f32) (hM : M = sG ∨ M = sU) (s : Fin 2) (e : Fin 64) (W : S64x2048x512.Idx → F .f32)
    (f : M.view.ty.Contents (Elt F)) (hf : ∀ x, M.view.read (Elt F) f x = landG e W x) (inb) :
    M.view.readAt (Elt F) (Rect.unit (s := S2x2048x512) ![s.val, 0, 0] S1x2048x512.size inb).toLoadRect f = wslG e W := by
  funext x
  refine (hf _).trans ?_
  show W _ = W _
  congr 1
  funext a
  apply Fin.ext
  fin_cases a
  · rfl
  · exact (show 0 + 1 * (x 1).val = (x 1).val by omega)
  · exact (show 0 + 1 * (x 2).val = (x 2).val by omega)

theorem slot_eqD (s : Fin 2) (e : Fin 64) (W : S64x512x2048.Idx → F .f32) (inb) :
    sD.view.readAt (Elt F) (Rect.unit (s := S2x512x2048) ![s.val, 0, 0] S1x512x2048.size inb).toLoadRect (landD e W) = wslD e W := by
  funext x
  show W _ = W _
  congr 1
  funext a
  apply Fin.ext
  fin_cases a
  · rfl
  · exact (show 0 + 1 * (x 1).val = (x 1).val by omega)
  · exact (show 0 + 1 * (x 2).val = (x 2).val by omega)

theorem load_x {α : Type} {Q : α → sProp 𝕄} (c : Dev nD) (a : Memref sig .tc .vmem S256x16x128 .bf16) (x : S256x16x128.Idx → Elt F .bf16) {hl}
    {k : (S256x16x128.Idx → Elt F .bf16) → Prog (TpuEff nD τ sig (Elt F) Λ₀ .tc) α} :
    owns (c : Thread nD τ) a fullShare x ⊢ iprop((owns (c : Thread nD τ) a fullShare x -∗ wpe c (k x) Q)
      -∗ wpe c (Prog.lift (.load a (Rect.unit (s := S256x16x128) ![0, 0, 0] S256x16x128.size inb_S256x16x128_S256x16x128_0_0_0).toLoadRect hl) >>= k) Q) := by
  iintro Hx Hk
  ihave Hx := owns_open c a x $$ Hx
  icases Hx with ⟨%f, %hf, Hx⟩
  have e6 : a.view.readAt (Elt F) (Rect.unit (s := S256x16x128) ![0, 0, 0] S256x16x128.size inb_S256x16x128_S256x16x128_0_0_0).toLoadRect f = x :=
    (readAt_zero a f zero3 _).trans hf
  unfold wpe
  sl_exec
  iapply Hk
  iapply (owns_close c a f x hf)
  iexact Hx

theorem part1_run (c : Dev nD) (i : grid0.Coords) (a6 : Memref sig .tc .vmem S256x16x128 .bf16) (h6 : a6.IsWhole)
    (a10 : Memref sig .tc .vmem S256x16x128 .bf16) (h10 : a10.IsWhole) (R : Route) (pf : pre0.Contents (Elt F)) (hT : Tables R pf)
    (W : Wts F) (x : S256x16x128.Idx → F .bf16) (v0 v5 v8 : BitVec 32) (arg0 : BitVec 32) (hw3) (hc2) (Q) :
    iprop(tabs c pf ∗ owns (c : Thread nD τ) a6 fullShare x ∗ (without c (R.be (at0 i)) W ∗ coming c (R.slot (at0 i)) (R.be (at0 i)) W)
      ∗ slotsAny c (1 - R.slot (at0 i)) ∗ cells c (1 - R.slot (at0 i)) ∗ (∃ W, owes (c : Thread nD τ) 0 W)
      ∗ (iprop(tabs c pf ∗ owns (c : Thread nD τ) a6 fullShare x ∗ slotsHold c (R.slot (at0 i)) (R.be (at0 i)) W ∗ cells c (R.slot (at0 i))
          ∗ after c (R.hn (at0 i)) (1 - R.slot (at0 i)) (R.nx (at0 i)) W ∗ (∃ W, owes (c : Thread nD τ) 0 W))
          -∗ Q ⟨k0_pay3 x, k0_pay4 (wslG (R.be (at0 i)) W.g)⟩))
    ⊢ wpe c (k0_part1 i (Memref.whole main_v19) (Memref.isWhole_whole _) (Memref.whole main_v23) (Memref.isWhole_whole _)
    (Memref.whole main_v58) (Memref.isWhole_whole _) (Memref.whole main_v45) (Memref.isWhole_whole _)
    (Memref.whole main_v36) (Memref.isWhole_whole _) a6 h6 wG (Memref.isWhole_whole _) wU (Memref.isWhole_whole _)
    wD (Memref.isWhole_whole _) a10 h10 sG (Memref.isWhole_whole _) sU (Memref.isWhole_whole _) sD (Memref.isWhole_whole _)
    cG (Memref.isWhole_whole _) cU (Memref.isWhole_whole _) cD (Memref.isWhole_whole _) cc0_scratch6 arg0 v0 v5 v8 (wd (R.slot (at0 i))) hw3 hc2) Q := by
  simp only [k0_part1_eq_skeleton]; unfold k0_part1_skel
  dsimp only
  iintro ⟨HT, Hx, ⟨HW, HC⟩, HS, Hc, HO, Hk⟩
  iapply (word_be R hT c (at0 i) (off11 i)) $$ HT; iintro HT
  iapply (checked c (chk4 i _ _ _ _))
  iapply (collect3 c (R.slot (at0 i)) (R.be (at0 i)) W (cell_at _ 0 (off12 _)) (cell_at _ 1 (off15 _)) (cell_at _ 2 (off17 _))
    (off13 _) (off16 _) (off18 _) (off14 _) (off14 _) (off19 _)) $$ [HW HC HO]
  · isplitl [HW]; · iexact HW
    isplitl [HC]; · iexact HC
    iexact HO
  iintro ⟨HW, HH, HD, HO⟩
  iapply (word_hn R hT c (at0 i) (off20 i)) $$ HT; iintro HT
  iapply (checked c (chk5 i _ _ _ _ _))
  by_cases hn : R.hn (at0 i) = true
  · have c3 : k0_cond3 (if R.hn (at0 i) = true then 1#32 else 0#32) = 1#1 := by rw [cond3_eq, hn]; rfl
    rw [dif_pos c3]
    iapply (word_nx R hT c (at0 i) (off21 i)) $$ HT; iintro HT
    iapply (checked c (chk6 i _ _ _ _ _))
    iapply (issue3 c (1 - R.slot (at0 i)) (R.nx (at0 i)) W (cell_at _ 0 (off22 _)) (cell_at _ 1 (off25 _)) (cell_at _ 2 (off27 _))
      (off23 _) (off26 _) (off28 _) (off24 _) (off24 _) (off29 _)) $$ [HW HS Hc]
    · isplitl [HW]; · iexact HW
      isplitl [HS]; · iexact HS
      iexact Hc
    iintro HN
    iapply (load_x c a6 x) $$ Hx; iintro Hx
    unfold slotsHold
    icases HH with ⟨HG, HU, HDD⟩
    iapply (load_slotG c sG (R.slot (at0 i)) _ (wslG (R.be (at0 i)) W.g) (off30 _)
      (fun inb => slot_eqG sG (.inl rfl) _ _ W.g (landG (R.be (at0 i)) W.g) (fun _ => rfl) inb)) $$ HG; iintro HG
    unfold wpe
    sl_step
    iapply Hk
    isplitl [HT]; · iexact HT
    isplitl [Hx]; · iexact Hx
    isplitl [HG HU HDD]
    · isplitl [HG]; · iexact HG
      isplitl [HU]; · iexact HU
      iexact HDD
    isplitl [HD]; · iexact HD
    isplitl [HN]
    · simp only [after, hn, if_true]
      iexact HN
    iexact HO
  · have c3 : ¬ k0_cond3 (if R.hn (at0 i) = true then 1#32 else 0#32) = 1#1 := by
      rw [cond3_eq, Bool.not_eq_true _ |>.mp hn]; decide
    rw [dif_neg c3]
    iapply (load_x c a6 x) $$ Hx; iintro Hx
    unfold slotsHold
    icases HH with ⟨HG, HU, HDD⟩
    iapply (load_slotG c sG (R.slot (at0 i)) _ (wslG (R.be (at0 i)) W.g) (off30 _)
      (fun inb => slot_eqG sG (.inl rfl) _ _ W.g (landG (R.be (at0 i)) W.g) (fun _ => rfl) inb)) $$ HG; iintro HG
    unfold wpe
    sl_step
    iapply Hk
    isplitl [HT]; · iexact HT
    isplitl [Hx]; · iexact Hx
    isplitl [HG HU HDD]
    · isplitl [HG]; · iexact HG
      isplitl [HU]; · iexact HU
      iexact HDD
    isplitl [HD]; · iexact HD
    isplitl [HW HS Hc]
    · simp only [after, hn, if_false, Bool.false_eq_true]
      isplitl [HW]; · iexact HW
      isplitl [HS]; · iexact HS
      iexact Hc
    iexact HO

theorem keptG (c : Dev nD) (f w : S2048x512.Idx → F .bf16) (inb : ∀ k, (![0, 0] : Fin 2 → ℕ) k + S2048x512.size k ≤ S2048x512.size k) :
    (cG.view.loc (c : Thread nD τ) ↦{fullShare} cG.view.writes (Elt F) f [⟨Rect.unit (s := S2048x512) ![0, 0] S2048x512.size inb, w⟩] : sProp 𝕄)
      ⊢ (cG.view.loc (c : Thread nD τ) ↦{fullShare} w) := by
  have h : cG.view.writes (Elt F) f [⟨Rect.unit (s := S2048x512) ![0, 0] S2048x512.size inb, w⟩] = w :=
    (View.read_whole cc0_scratch3 _).symm.trans (read_stored cG f w zero2 inb)
  rw [h]

theorem keptU (c : Dev nD) (f w : S2048x512.Idx → F .bf16) (inb : ∀ k, (![0, 0] : Fin 2 → ℕ) k + S2048x512.size k ≤ S2048x512.size k) :
    (cU.view.loc (c : Thread nD τ) ↦{fullShare} cU.view.writes (Elt F) f [⟨Rect.unit (s := S2048x512) ![0, 0] S2048x512.size inb, w⟩] : sProp 𝕄)
      ⊢ (cU.view.loc (c : Thread nD τ) ↦{fullShare} w) := by
  have h : cU.view.writes (Elt F) f [⟨Rect.unit (s := S2048x512) ![0, 0] S2048x512.size inb, w⟩] = w :=
    (View.read_whole cc0_scratch4 _).symm.trans (read_stored cU f w zero2 inb)
  rw [h]

theorem keptD (c : Dev nD) (f w : S512x2048.Idx → F .bf16) (inb : ∀ k, (![0, 0] : Fin 2 → ℕ) k + S512x2048.size k ≤ S512x2048.size k) :
    (cD.view.loc (c : Thread nD τ) ↦{fullShare} cD.view.writes (Elt F) f [⟨Rect.unit (s := S512x2048) ![0, 0] S512x2048.size inb, w⟩] : sProp 𝕄)
      ⊢ (cD.view.loc (c : Thread nD τ) ↦{fullShare} w) := by
  have h : cD.view.writes (Elt F) f [⟨Rect.unit (s := S512x2048) ![0, 0] S512x2048.size inb, w⟩] = w :=
    (View.read_whole cc0_scratch5 _).symm.trans (read_stored cD f w zero2 inb)
  rw [h]

theorem storeG {α : Type} {Q : α → sProp 𝕄} (c : Dev nD) (g w : S2048x512.Idx → F .bf16) {h1} {h2}
    {k : PUnit → Prog (TpuEff nD τ sig (Elt F) Λ₀ .tc) α} :
    (cG.view.loc (c : Thread nD τ) ↦{fullShare} g : sProp 𝕄) ⊢ iprop(((cG.view.loc (c : Thread nD τ) ↦{fullShare} w) -∗ wpe c (k ⟨⟩) Q)
      -∗ wpe c (Prog.lift (.store cG (Rect.unit (s := S2048x512) ![0, 0] S2048x512.size inb_S2048x512_S2048x512_0_0) w Finset.univ h1 h2) >>= k) Q) := by
  iintro H Hk
  unfold wpe
  sl_exec
  iapply Hk
  iapply (keptG c g w inb_S2048x512_S2048x512_0_0)
  iexact H

theorem loadG {α : Type} {Q : α → sProp 𝕄} (c : Dev nD) (g : S2048x512.Idx → F .bf16) {hl}
    {k : (S2048x512.Idx → Elt F .bf16) → Prog (TpuEff nD τ sig (Elt F) Λ₀ .tc) α} :
    (cG.view.loc (c : Thread nD τ) ↦{fullShare} g : sProp 𝕄) ⊢ iprop(((cG.view.loc (c : Thread nD τ) ↦{fullShare} g) -∗ wpe c (k g) Q)
      -∗ wpe c (Prog.lift (.load cG (Rect.unit (s := S2048x512) ![0, 0] S2048x512.size inb_S2048x512_S2048x512_0_0).toLoadRect hl) >>= k) Q) := by
  have e : cG.view.readAt (Elt F) (Rect.unit (s := S2048x512) ![0, 0] S2048x512.size inb_S2048x512_S2048x512_0_0).toLoadRect g = g := readAt_zero cG g zero2 _
  iintro H Hk
  unfold wpe
  sl_exec
  iapply Hk
  iexact H

theorem storeU {α : Type} {Q : α → sProp 𝕄} (c : Dev nD) (g w : S2048x512.Idx → F .bf16) {h1} {h2}
    {k : PUnit → Prog (TpuEff nD τ sig (Elt F) Λ₀ .tc) α} :
    (cU.view.loc (c : Thread nD τ) ↦{fullShare} g : sProp 𝕄) ⊢ iprop(((cU.view.loc (c : Thread nD τ) ↦{fullShare} w) -∗ wpe c (k ⟨⟩) Q)
      -∗ wpe c (Prog.lift (.store cU (Rect.unit (s := S2048x512) ![0, 0] S2048x512.size inb_S2048x512_S2048x512_0_0) w Finset.univ h1 h2) >>= k) Q) := by
  iintro H Hk
  unfold wpe
  sl_exec
  iapply Hk
  iapply (keptU c g w inb_S2048x512_S2048x512_0_0)
  iexact H

theorem loadU {α : Type} {Q : α → sProp 𝕄} (c : Dev nD) (g : S2048x512.Idx → F .bf16) {hl}
    {k : (S2048x512.Idx → Elt F .bf16) → Prog (TpuEff nD τ sig (Elt F) Λ₀ .tc) α} :
    (cU.view.loc (c : Thread nD τ) ↦{fullShare} g : sProp 𝕄) ⊢ iprop(((cU.view.loc (c : Thread nD τ) ↦{fullShare} g) -∗ wpe c (k g) Q)
      -∗ wpe c (Prog.lift (.load cU (Rect.unit (s := S2048x512) ![0, 0] S2048x512.size inb_S2048x512_S2048x512_0_0).toLoadRect hl) >>= k) Q) := by
  have e : cU.view.readAt (Elt F) (Rect.unit (s := S2048x512) ![0, 0] S2048x512.size inb_S2048x512_S2048x512_0_0).toLoadRect g = g := readAt_zero cU g zero2 _
  iintro H Hk
  unfold wpe
  sl_exec
  iapply Hk
  iexact H

theorem storeD {α : Type} {Q : α → sProp 𝕄} (c : Dev nD) (g w : S512x2048.Idx → F .bf16) {h1} {h2}
    {k : PUnit → Prog (TpuEff nD τ sig (Elt F) Λ₀ .tc) α} :
    (cD.view.loc (c : Thread nD τ) ↦{fullShare} g : sProp 𝕄) ⊢ iprop(((cD.view.loc (c : Thread nD τ) ↦{fullShare} w) -∗ wpe c (k ⟨⟩) Q)
      -∗ wpe c (Prog.lift (.store cD (Rect.unit (s := S512x2048) ![0, 0] S512x2048.size inb_S512x2048_S512x2048_0_0) w Finset.univ h1 h2) >>= k) Q) := by
  iintro H Hk
  unfold wpe
  sl_exec
  iapply Hk
  iapply (keptD c g w inb_S512x2048_S512x2048_0_0)
  iexact H

theorem loadD {α : Type} {Q : α → sProp 𝕄} (c : Dev nD) (g : S512x2048.Idx → F .bf16) {hl}
    {k : (S512x2048.Idx → Elt F .bf16) → Prog (TpuEff nD τ sig (Elt F) Λ₀ .tc) α} :
    (cD.view.loc (c : Thread nD τ) ↦{fullShare} g : sProp 𝕄) ⊢ iprop(((cD.view.loc (c : Thread nD τ) ↦{fullShare} g) -∗ wpe c (k g) Q)
      -∗ wpe c (Prog.lift (.load cD (Rect.unit (s := S512x2048) ![0, 0] S512x2048.size inb_S512x2048_S512x2048_0_0).toLoadRect hl) >>= k) Q) := by
  have e : cD.view.readAt (Elt F) (Rect.unit (s := S512x2048) ![0, 0] S512x2048.size inb_S512x2048_S512x2048_0_0).toLoadRect g = g := readAt_zero cD g zero2 _
  iintro H Hk
  unfold wpe
  sl_exec
  iapply Hk
  iexact H

theorem store_y {α : Type} {Q : α → sProp 𝕄} (c : Dev nD) (a : Memref sig .tc .vmem S256x16x128 .bf16) (d w : S256x16x128.Idx → Elt F .bf16) {h1} {h2}
    {k : PUnit → Prog (TpuEff nD τ sig (Elt F) Λ₀ .tc) α} :
    owns (c : Thread nD τ) a fullShare d ⊢ iprop((owns (c : Thread nD τ) a fullShare w -∗ wpe c (k ⟨⟩) Q)
      -∗ wpe c (Prog.lift (.store a (Rect.unit (s := S256x16x128) ![0, 0, 0] S256x16x128.size inb_S256x16x128_S256x16x128_0_0_0) w Finset.univ h1 h2) >>= k) Q) := by
  iintro Hx Hk
  ihave Hx := owns_open c a d $$ Hx
  icases Hx with ⟨%f, -, Hx⟩
  unfold wpe
  sl_exec
  iapply Hk
  iapply (owns_stored c a f _ inb_S256x16x128_S256x16x128_0_0_0)
  iexact Hx

theorem part2_run (c : Dev nD) (i : grid0.Coords) (a6 : Memref sig .tc .vmem S256x16x128 .bf16) (h6 : a6.IsWhole)
    (a10 : Memref sig .tc .vmem S256x16x128 .bf16) (h10 : a10.IsWhole) (s : Fin 2) (e : Fin 64)
    (W : Wts F) (v0 v5 v8 : BitVec 32) (hw3) (hc2) (v53 : FVec F S256x2048 .f32) (v56 : FVec F S2048x512 .f32)
    (g u : S2048x512.Idx → F .bf16) (dd : S512x2048.Idx → F .bf16) (Q) :
    iprop((∃ d, owns (c : Thread nD τ) a10 fullShare d) ∗ slotsHold c s e W
      ∗ keep c g u dd
      ∗ (iprop(owns (c : Thread nD τ) a10 fullShare (k0_pay5 v53 v56 (wslG e W.u) (wslD e W.d)) ∗ slotsHold c s e W
          ∗ keep c (k0_pay6 (wslG e W.g)) (k0_pay7 (wslG e W.u)) dd)
          -∗ Q (k0_pay8 (wslD e W.d))))
    ⊢ wpe c (k0_part2 (F := F) i (Memref.whole main_v19) (Memref.isWhole_whole _) (Memref.whole main_v23) (Memref.isWhole_whole _)
    (Memref.whole main_v58) (Memref.isWhole_whole _) (Memref.whole main_v45) (Memref.isWhole_whole _)
    (Memref.whole main_v36) (Memref.isWhole_whole _) a6 h6 wG (Memref.isWhole_whole _) wU (Memref.isWhole_whole _)
    wD (Memref.isWhole_whole _) a10 h10 sG (Memref.isWhole_whole _) sU (Memref.isWhole_whole _) sD (Memref.isWhole_whole _)
    cG (Memref.isWhole_whole _) cU (Memref.isWhole_whole _) cD (Memref.isWhole_whole _) cc0_scratch6 v0 v5 v8 (wd s) hw3 hc2 v53 v56) Q := by
  simp only [k0_part2_eq_skeleton]; unfold k0_part2_skel
  unfold slotsHold
  iintro ⟨⟨%d, H10⟩, ⟨HG, HU, HD⟩, ⟨Hg, Hu, Hd⟩, Hk⟩
  have sG' := fun inb => slot_eqG (F := F) sG (.inl rfl) s e W.g (landG e W.g) (fun _ => rfl) inb
  have sU' := fun inb => slot_eqG (F := F) sU (.inr rfl) s e W.u (landG e W.u) (fun _ => rfl) inb
  have sD' := fun inb => slot_eqD (F := F) s e W.d inb
  iapply (load_slotG c sU s _ (wslG e W.u) (off30 _) sU') $$ HU; iintro HU
  iapply (load_slotD c sD s _ (wslD e W.d) (off31 _) sD') $$ HD; iintro HD
  iapply (load_x c a10 d) $$ H10; iintro H10
  iapply (store_y c a10 d _) $$ H10; iintro H10
  iapply (load_slotG c sG s _ (wslG e W.g) (off30 _) sG') $$ HG; iintro HG
  iapply (loadG c g) $$ Hg; iintro Hg
  iapply (storeG c g _) $$ Hg; iintro Hg
  iapply (load_slotG c sU s _ (wslG e W.u) (off30 _) sU') $$ HU; iintro HU
  iapply (loadU c u) $$ Hu; iintro Hu
  iapply (storeU c u _) $$ Hu; iintro Hu
  iapply (load_slotD c sD s _ (wslD e W.d) (off31 _) sD') $$ HD; iintro HD
  iapply (loadD c dd) $$ Hd; iintro Hd
  unfold wpe
  sl_step
  iapply Hk
  isplitl [H10]; · iexact H10
  isplitl [HG HU HD]
  · isplitl [HG]; · iexact HG
    isplitl [HU]; · iexact HU
    iexact HD
  isplitl [Hg]; · iexact Hg
  isplitl [Hu]; · iexact Hu
  iexact Hd

/-- The block of a new expert's output. -/
def newOut (x : S256x16x128.Idx → F .bf16) (e : Fin 64) (W : Wts F) : S256x16x128.Idx → F .bf16 :=
  k0_pay5 (k0_pay3 x) (k0_pay4 (wslG e W.g)) (wslG e W.u) (wslD e W.d)

/-- Expert `e`'s weights kept in the narrow format. -/
abbrev keptOf (c : Dev nD) (e : Fin 64) (W : Wts F) : sProp 𝕄 :=
  keep c (k0_pay6 (wslG e W.g)) (k0_pay7 (wslG e W.u)) (k0_pay8 (wslD e W.d))

theorem hold_any (c : Dev nD) (s : Fin 2) (e : Fin 64) (W : Wts F) : slotsHold c s e W ⊢ slotsAny c s := by
  unfold slotsHold slotsAny holdAny
  iintro ⟨H1, H2, H3⟩
  isplitl [H1]; · iexists _; iexact H1
  isplitl [H2]; · iexists _; iexact H2
  iexists _; iexact H3

theorem wpe_bind {α β : Type} (c : Dev nD) (p : Prog (TpuEff nD τ sig (Elt F) Λ₀ .tc) α) (k : α → Prog (TpuEff nD τ sig (Elt F) Λ₀ .tc) β)
    (Q : β → sProp 𝕄) : wpe c p (fun a => wpe c (k a) Q) ⊢ wpe c (p >>= k) Q := by
  unfold wpe
  rw [wp_bind]

theorem run_new (c : Dev nD) (i : grid0.Coords) (a6 : Memref sig .tc .vmem S256x16x128 .bf16) (h6 : a6.IsWhole)
    (a10 : Memref sig .tc .vmem S256x16x128 .bf16) (h10 : a10.IsWhole) (R : Route) (pf : pre0.Contents (Elt F)) (hT : Tables R pf)
    (hi : (i 0).val < R.nu) (h0 : (i 0).val ≠ 0) (hs : R.be (at0 i) ≠ R.be (pre1 i))
    (W : Wts F) (x : S256x16x128.Idx → F .bf16) (g u : S2048x512.Idx → F .bf16) (dd : S512x2048.Idx → F .bf16) (K : PUnit → sProp 𝕄) :
    iprop(tabs c pf ∗ owns (c : Thread nD τ) a6 fullShare x ∗ (∃ d, owns (c : Thread nD τ) a10 fullShare d) ∗ keep c g u dd
      ∗ (without c (R.be (at0 i)) W ∗ coming c (R.slot (at0 i)) (R.be (at0 i)) W)
      ∗ slotsAny c (1 - R.slot (at0 i)) ∗ cells c (1 - R.slot (at0 i)) ∗ (∃ W, owes (c : Thread nD τ) 0 W)
      ∗ (iprop(tabs c pf ∗ owns (c : Thread nD τ) a6 fullShare x ∗ owns (c : Thread nD τ) a10 fullShare (newOut x (R.be (at0 i)) W)
          ∗ keptOf c (R.be (at0 i)) W ∗ slotsAny c (R.slot (at0 i)) ∗ cells c (R.slot (at0 i))
          ∗ after c (R.hn (at0 i)) (1 - R.slot (at0 i)) (R.nx (at0 i)) W ∗ (∃ W, owes (c : Thread nD τ) 0 W)) -∗ K ⟨⟩))
    ⊢ wpe c (kernelAt i a6 h6 a10 h10) K := by
  have hn : R.nu ≤ 320 := R.nu_le
  have hp := R.nu_pos
  have c1 : ¬ k0_cond1 i = 1#1 := by rw [cond1_eq, ofBool_eq_one_iff]; simpa using h0
  have c2 : k0_cond2 i (wd R.nu) (wd (R.be (pre1 i))) (wd (R.be (at0 i))) = 1#1 := by
    rw [cond2_eq _ _ hn, ofBool_eq_one_iff]; simp [hi, h0, hs]
  have c4 : ¬ k0_cond4 i (wd R.nu) (wd (R.be (pre1 i))) (wd (R.be (at0 i))) = 1#1 := by
    rw [cond4_eq _ _ hn, ofBool_eq_one_iff]; simp [hi, h0, hs]
  have c5 : ¬ k0_cond5 i (wd R.nu) = 1#1 := by
    rw [cond5_eq _ _ hn, ofBool_eq_one_iff]; simp [hi]
  simp only [kernelAt, cc0_experts_eq_skeleton]; unfold cc0_experts_skel
  iintro ⟨HT, Hx, ⟨%d', H10⟩, Hkeep, HC, HS, Hc, HO, Hk⟩
  iapply (word_nu R hT c) $$ HT; iintro HT
  iapply (word_be R hT c (pre1 i) (off1 i)) $$ HT; iintro HT
  iapply (word_be R hT c (at0 i) (off2 i)) $$ HT; iintro HT
  iapply (word_slot R hT c (at0 i) (off2 i)) $$ HT; iintro HT
  iapply (checked c (chk3 i _ _ _ _))
  rw [dif_neg c1, dif_pos c2, dif_neg c4, dif_neg c5]
  iapply (wpe_bind c _ _ _)
  iapply (part1_run c i a6 h6 a10 h10 R pf hT W x _ _ _ _ _ _ _)
  isplitl [HT]; · iexact HT
  isplitl [Hx]; · iexact Hx
  isplitl [HC]; · iexact HC
  isplitl [HS]; · iexact HS
  isplitl [Hc]; · iexact Hc
  isplitl [HO]; · iexact HO
  iintro ⟨HT, Hx, HH, HD, HA, HO⟩
  iapply (wpe_bind c _ _ _)
  iapply (part2_run c i a6 h6 a10 h10 (R.slot (at0 i)) (R.be (at0 i)) W _ _ _ _ _ _ _ g u dd _)
  isplitl [H10]; · iexists _; iexact H10
  isplitl [HH]; · iexact HH
  isplitl [Hkeep]; · iexact Hkeep
  iintro ⟨H10, HH, ⟨Hg, Hu, Hd⟩⟩
  iapply (storeD c dd _) $$ Hd; iintro Hd
  unfold wpe
  beta_reduce
  sl_step
  iapply Hk
  isplitl [HT]; · iexact HT
  isplitl [Hx]; · iexact Hx
  isplitl [H10]; · unfold newOut; iexact H10
  isplitl [Hg Hu Hd]
  · isplitl [Hg]; · iexact Hg
    isplitl [Hu]; · iexact Hu
    iexact Hd
  isplitl [HH]; · iapply (hold_any c _ _ W); iexact HH
  isplitl [HD]; · iexact HD
  isplitl [HA]; · iexact HA
  iexact HO

theorem run_first (c : Dev nD) (i : grid0.Coords) (a6 : Memref sig .tc .vmem S256x16x128 .bf16) (h6 : a6.IsWhole)
    (a10 : Memref sig .tc .vmem S256x16x128 .bf16) (h10 : a10.IsWhole) (R : Route) (pf : pre0.Contents (Elt F)) (hT : Tables R pf)
    (hi : (i 0).val < R.nu) (h0 : (i 0).val = 0)
    (W : Wts F) (x : S256x16x128.Idx → F .bf16) (g u : S2048x512.Idx → F .bf16) (dd : S512x2048.Idx → F .bf16) (K : PUnit → sProp 𝕄) :
    iprop(tabs c pf ∗ owns (c : Thread nD τ) a6 fullShare x ∗ (∃ d, owns (c : Thread nD τ) a10 fullShare d) ∗ keep c g u dd
      ∗ weights c W ∗ slotsAny c (R.slot (at0 i)) ∗ cells c (R.slot (at0 i))
      ∗ slotsAny c (1 - R.slot (at0 i)) ∗ cells c (1 - R.slot (at0 i)) ∗ (∃ W, owes (c : Thread nD τ) 0 W)
      ∗ (iprop(tabs c pf ∗ owns (c : Thread nD τ) a6 fullShare x ∗ owns (c : Thread nD τ) a10 fullShare (newOut x (R.be (at0 i)) W)
          ∗ keptOf c (R.be (at0 i)) W ∗ slotsAny c (R.slot (at0 i)) ∗ cells c (R.slot (at0 i))
          ∗ after c (R.hn (at0 i)) (1 - R.slot (at0 i)) (R.nx (at0 i)) W ∗ (∃ W, owes (c : Thread nD τ) 0 W)) -∗ K ⟨⟩))
    ⊢ wpe c (kernelAt i a6 h6 a10 h10) K := by
  have hn : R.nu ≤ 320 := R.nu_le
  have hp := R.nu_pos
  have c1 : k0_cond1 i = 1#1 := by rw [cond1_eq, ofBool_eq_one_iff]; simpa using h0
  have c2 : k0_cond2 i (wd R.nu) (wd (R.be (pre1 i))) (wd (R.be (at0 i))) = 1#1 := by
    rw [cond2_eq _ _ hn, ofBool_eq_one_iff]; simp [h0]; omega
  have c4 : ¬ k0_cond4 i (wd R.nu) (wd (R.be (pre1 i))) (wd (R.be (at0 i))) = 1#1 := by
    rw [cond4_eq _ _ hn, ofBool_eq_one_iff]; simp [hi, h0]
  have c5 : ¬ k0_cond5 i (wd R.nu) = 1#1 := by
    rw [cond5_eq _ _ hn, ofBool_eq_one_iff]; simp [hi]
  simp only [kernelAt, cc0_experts_eq_skeleton]; unfold cc0_experts_skel
  iintro ⟨HT, Hx, ⟨%d', H10⟩, Hkeep, HW, HS0, Hc0, HS, Hc, HO, Hk⟩
  iapply (word_nu R hT c) $$ HT; iintro HT
  iapply (word_be R hT c (pre1 i) (off1 i)) $$ HT; iintro HT
  iapply (word_be R hT c (at0 i) (off2 i)) $$ HT; iintro HT
  iapply (word_slot R hT c (at0 i) (off2 i)) $$ HT; iintro HT
  iapply (checked c (chk3 i _ _ _ _))
  have hz : at0 i = ⟨0, by decide⟩ := Fin.ext h0
  have hz' : (![0] : Fin 1 → ℕ) = ![(at0 i).val] := by rw [hz]
  rw [dif_pos c1, dif_pos c2, dif_neg c4, dif_neg c5]
  iapply (word_be R hT c (at0 i) hz') $$ HT; iintro HT
  iapply (checked c (chk2 i _))
  iapply (word_slot R hT c (at0 i) hz') $$ HT; iintro HT
  iapply (checked c (chk1 i _))
  iapply (issue3 c (R.slot (at0 i)) (R.be (at0 i)) W (cell_at _ 0 (off3 _)) (cell_at _ 1 (off6 _)) (cell_at _ 2 (off8 _))
    (off4 _) (off7 _) (off9 _) (off5 _) (off5 _) (off10 _)) $$ [HW HS0 Hc0]
  · isplitl [HW]; · iexact HW
    isplitl [HS0]; · iexact HS0
    iexact Hc0
  iintro HC
  iapply (wpe_bind c _ _ _)
  iapply (part1_run c i a6 h6 a10 h10 R pf hT W x _ _ _ _ _ _ _)
  isplitl [HT]; · iexact HT
  isplitl [Hx]; · iexact Hx
  isplitl [HC]; · iexact HC
  isplitl [HS]; · iexact HS
  isplitl [Hc]; · iexact Hc
  isplitl [HO]; · iexact HO
  iintro ⟨HT, Hx, HH, HD, HA, HO⟩
  iapply (wpe_bind c _ _ _)
  iapply (part2_run c i a6 h6 a10 h10 (R.slot (at0 i)) (R.be (at0 i)) W _ _ _ _ _ _ _ g u dd _)
  isplitl [H10]; · iexists _; iexact H10
  isplitl [HH]; · iexact HH
  isplitl [Hkeep]; · iexact Hkeep
  iintro ⟨H10, HH, ⟨Hg, Hu, Hd⟩⟩
  iapply (storeD c dd _) $$ Hd; iintro Hd
  unfold wpe
  beta_reduce
  sl_step
  iapply Hk
  isplitl [HT]; · iexact HT
  isplitl [Hx]; · iexact Hx
  isplitl [H10]; · unfold newOut; iexact H10
  isplitl [Hg Hu Hd]
  · isplitl [Hg]; · iexact Hg
    isplitl [Hu]; · iexact Hu
    iexact Hd
  isplitl [HH]; · iapply (hold_any c _ _ W); iexact HH
  isplitl [HD]; · iexact HD
  isplitl [HA]; · iexact HA
  iexact HO

end Cert.KernelIdeal.Hand

end
-- ==== Proof.State.lean ====
/-
  The state carried from one grid point to the next, and one grid point's step on it.
-/
module

public import proofs.«01_k».proof.Proof.New

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.WordCmp
open Idealize.ShloMosaic.Pipeline (Dat Cfg Window BodyObligation cellOf)

variable {F : FTy → Type} [FloatOps F]

local notation "𝕄" => MT nD τ sig Unit (Elt F) ℕ (Pipeline.UD sig nD τ) ℕ

/-- What is on its way: nothing, or expert `e`'s weights into slot `s`. -/
def flight (c : Dev nD) (W : Wts F) : Option (Fin 64 × Fin 2) → sProp 𝕄
  | none => iprop(weights c W ∗ (slotsAny c 0 ∗ cells c 0) ∗ (slotsAny c 1 ∗ cells c 1))
  | some (e, s) => iprop((without c e W ∗ coming c s e W) ∗ slotsAny c (1 - s) ∗ cells c (1 - s))

/-- What is on its way before block `n`. -/
def pend (R : Route) : ℕ → Option (Fin 64 × Fin 2)
  | 0 => none
  | n + 1 => if R.hn n then some (R.nx n, 1 - R.slot n) else none

theorem pend_succ (R : Route) (n : ℕ) : pend R (n + 1) = if R.hn n then some (R.nx n, 1 - R.slot n) else none := rfl

/-- The narrow weights kept before block `n`. -/
def keptAt (c : Dev nD) (R : Route) (W : Wts F) (n : ℕ) : sProp 𝕄 :=
  if 0 < n ∧ n ≤ R.nu then keptOf c (R.be (n - 1)) W else iprop(∃ g u d, keep c g u d)

/-- Block `n`'s output. -/
def outAt (R : Route) (W : Wts F) (n : ℕ) (x : S256x16x128.Idx → F .bf16) : S256x16x128.Idx → F .bf16 :=
  if n < R.nu then
    if n = 0 ∨ R.be n ≠ R.be (n - 1) then newOut x (R.be n) W
    else k0_pay1 x (k0_pay6 (wslG (R.be n) W.g)) (k0_pay7 (wslG (R.be n) W.u)) (k0_pay8 (wslD (R.be n) W.d))
  else k0_pay2 (F := F)

theorem kept_any (c : Dev nD) (R : Route) (W : Wts F) (n : ℕ) : keptAt c R W n ⊢ iprop(∃ g u d, keep c g u d) := by
  unfold keptAt
  split
  · iintro H; iexists _, _, _; iexact H
  · exact .rfl

theorem kept_now (c : Dev nD) (R : Route) (W : Wts F) (n : ℕ) (h : n < R.nu) : keptOf c (R.be n) W ⊢ keptAt c R W (n + 1) := by
  unfold keptAt
  rw [if_pos ⟨Nat.succ_pos _, h⟩]
  exact .rfl

theorem flip_flip : ∀ s : Fin 2, 1 - (1 - s) = s := by decide

theorem flight_none (c : Dev nD) (W : Wts F) (s : Fin 2) :
    flight c W none ⊢ iprop(weights c W ∗ (slotsAny c s ∗ cells c s) ∗ (slotsAny c (1 - s) ∗ cells c (1 - s))) := by
  unfold flight
  match s with
  | 0 => exact .rfl
  | 1 =>
    iintro ⟨HW, H0, H1⟩
    isplitl [HW]; · iexact HW
    isplitl [H1]; · iexact H1
    iexact H0

theorem flight_some (c : Dev nD) (W : Wts F) (e : Fin 64) (s : Fin 2) :
    flight c W (some (e, s)) ⊢ iprop((without c e W ∗ coming c s e W) ∗ slotsAny c (1 - s) ∗ cells c (1 - s)) := .rfl

theorem flight_after (c : Dev nD) (W : Wts F) (R : Route) (n : ℕ) :
    iprop((slotsAny c (R.slot n) ∗ cells c (R.slot n)) ∗ after c (R.hn n) (1 - R.slot n) (R.nx n) W) ⊢ flight c W (pend R (n + 1)) := by
  rw [pend_succ]
  unfold after
  generalize R.slot n = s
  cases hh : R.hn n
  · rw [if_neg Bool.false_ne_true, if_neg Bool.false_ne_true]
    unfold flight
    match s with
    | 0 =>
      iintro ⟨H0, HW, H1⟩
      isplitl [HW]; · iexact HW
      isplitl [H0]; · iexact H0
      iexact H1
    | 1 =>
      iintro ⟨H1, HW, H0⟩
      isplitl [HW]; · iexact HW
      isplitl [H0]; · iexact H0
      iexact H1
  · rw [if_pos rfl, if_pos rfl]
    unfold flight
    dsimp only
    rw [flip_flip]
    iintro ⟨H0, HW⟩
    isplitl [HW]; · iexact HW
    iexact H0

theorem pend_same (R : Route) (n : ℕ) (hn : n < R.nu) (h0 : n ≠ 0) (hs : R.be n = R.be (n - 1)) : pend R n = pend R (n + 1) := by
  obtain ⟨k, rfl⟩ := Nat.exists_eq_succ_of_ne_zero h0
  obtain ⟨h1, h2, h3⟩ := R.same k hn hs
  rw [Nat.succ_eq_add_one, pend_succ, pend_succ, h1, h2, h3]

theorem pend_new (R : Route) (n : ℕ) (hn : n < R.nu) (h0 : n ≠ 0) (hs : R.be n ≠ R.be (n - 1)) : pend R n = some (R.be n, R.slot n) := by
  obtain ⟨k, rfl⟩ := Nat.exists_eq_succ_of_ne_zero h0
  obtain ⟨h1, h2, h3⟩ := R.next k hn hs
  rw [Nat.succ_eq_add_one, pend_succ, h1, h2, h3, if_pos rfl]

theorem pend_done (R : Route) (n : ℕ) (hn : R.nu ≤ n) : pend R n = none := by
  have := R.nu_pos
  obtain ⟨k, rfl⟩ := Nat.exists_eq_succ_of_ne_zero (show n ≠ 0 by omega)
  rw [Nat.succ_eq_add_one, pend_succ, R.last k hn, if_neg Bool.false_ne_true]

theorem step (c : Dev nD) (i : grid0.Coords) (a6 : Memref sig .tc .vmem S256x16x128 .bf16) (h6 : a6.IsWhole)
    (a10 : Memref sig .tc .vmem S256x16x128 .bf16) (h10 : a10.IsWhole) (R : Route) (pf : pre0.Contents (Elt F)) (hT : Tables R pf)
    (W : Wts F) (x : S256x16x128.Idx → F .bf16) (K : PUnit → sProp 𝕄) :
    iprop(tabs c pf ∗ owns (c : Thread nD τ) a6 fullShare x ∗ (∃ d, owns (c : Thread nD τ) a10 fullShare d) ∗ keptAt c R W (i 0).val
      ∗ flight c W (pend R (i 0).val) ∗ (∃ W, owes (c : Thread nD τ) 0 W)
      ∗ (iprop(tabs c pf ∗ owns (c : Thread nD τ) a6 fullShare x ∗ owns (c : Thread nD τ) a10 fullShare (outAt R W (i 0).val x)
          ∗ keptAt c R W ((i 0).val + 1) ∗ flight c W (pend R ((i 0).val + 1)) ∗ (∃ W, owes (c : Thread nD τ) 0 W)) -∗ K ⟨⟩))
    ⊢ wpe c (kernelAt i a6 h6 a10 h10) K := by
  by_cases hi : (i 0).val < R.nu
  · by_cases h0 : (i 0).val = 0
    · rw [show pend R (i 0).val = none by rw [h0]; rfl]
      rw [show outAt R W (i 0).val x = newOut x (R.be (at0 i)) W by unfold outAt; rw [if_pos hi, if_pos (Or.inl h0)]; rfl]
      iintro ⟨HT, Hx, HO, HK, HF, HW, Hk⟩
      ihave HK := kept_any c R W (i 0).val $$ HK
      icases HK with ⟨%g, %u, %dd, HK⟩
      ihave HF := flight_none c W (R.slot (at0 i)) $$ HF
      icases HF with ⟨HF, ⟨S0, C0⟩, ⟨S1, C1⟩⟩
      iapply (run_first c i a6 h6 a10 h10 R pf hT hi h0 W x g u dd K)
      isplitl [HT]; · iexact HT
      isplitl [Hx]; · iexact Hx
      isplitl [HO]; · iexact HO
      isplitl [HK]; · iexact HK
      isplitl [HF]; · iexact HF
      isplitl [S0]; · iexact S0
      isplitl [C0]; · iexact C0
      isplitl [S1]; · iexact S1
      isplitl [C1]; · iexact C1
      isplitl [HW]; · iexact HW
      iintro ⟨HT, Hx, HO, HK, S0, C0, HA, HW⟩
      iapply Hk
      isplitl [HT]; · iexact HT
      isplitl [Hx]; · iexact Hx
      isplitl [HO]; · iexact HO
      isplitl [HK]; · iapply (kept_now c R W (i 0).val hi); iexact HK
      isplitl [S0 C0 HA]
      · iapply (flight_after c W R (i 0).val)
        isplitl [S0 C0]
        · isplitl [S0]; · iexact S0
          iexact C0
        iexact HA
      iexact HW
    · by_cases hs : R.be (at0 i) = R.be (pre1 i)
      · rw [pend_same R _ hi h0 hs]
        rw [show outAt R W (i 0).val x = k0_pay1 x (k0_pay6 (wslG (R.be (at0 i)) W.g)) (k0_pay7 (wslG (R.be (at0 i)) W.u)) (k0_pay8 (wslD (R.be (at0 i)) W.d)) by
          have hs' : R.be (i 0).val = R.be ((i 0).val - 1) := hs
          unfold outAt; rw [if_pos hi, if_neg (not_or.mpr ⟨h0, not_not.mpr hs'⟩)]; rfl]
        rw [show keptAt c R W (i 0).val = keptOf c (R.be (at0 i)) W by
          unfold keptAt; rw [if_pos ⟨Nat.pos_of_ne_zero h0, hi.le⟩, hs]; rfl]
        iintro ⟨HT, Hx, HO, HK, HF, HW, Hk⟩
        iapply (run_same c i a6 h6 a10 h10 R pf hT hi h0 hs x _ _ _ K)
        isplitl [HT]; · iexact HT
        isplitl [Hx]; · iexact Hx
        isplitl [HO]; · iexact HO
        isplitl [HK]; · iexact HK
        iintro ⟨HT, Hx, HO, HK⟩
        iapply Hk
        isplitl [HT]; · iexact HT
        isplitl [Hx]; · iexact Hx
        isplitl [HO]; · iexact HO
        isplitl [HK]; · iapply (kept_now c R W (i 0).val hi); iexact HK
        isplitl [HF]; · iexact HF
        iexact HW
      · rw [pend_new R _ hi h0 hs]
        rw [show outAt R W (i 0).val x = newOut x (R.be (at0 i)) W by
          have hs' : R.be (i 0).val ≠ R.be ((i 0).val - 1) := hs
          unfold outAt; rw [if_pos hi, if_pos (Or.inr hs')]; rfl]
        iintro ⟨HT, Hx, HO, HK, HF, HW, Hk⟩
        ihave HK := kept_any c R W (i 0).val $$ HK
        icases HK with ⟨%g, %u, %dd, HK⟩
        ihave HF := flight_some c W (R.be (i 0).val) (R.slot (i 0).val) $$ HF
        icases HF with ⟨HF, S1, C1⟩
        iapply (run_new c i a6 h6 a10 h10 R pf hT hi h0 hs W x g u dd K)
        isplitl [HT]; · iexact HT
        isplitl [Hx]; · iexact Hx
        isplitl [HO]; · iexact HO
        isplitl [HK]; · iexact HK
        isplitl [HF]; · iexact HF
        isplitl [S1]; · iexact S1
        isplitl [C1]; · iexact C1
        isplitl [HW]; · iexact HW
        iintro ⟨HT, Hx, HO, HK, S0, C0, HA, HW⟩
        iapply Hk
        isplitl [HT]; · iexact HT
        isplitl [Hx]; · iexact Hx
        isplitl [HO]; · iexact HO
        isplitl [HK]; · iapply (kept_now c R W (i 0).val hi); iexact HK
        isplitl [S0 C0 HA]
        · iapply (flight_after c W R (i 0).val)
          isplitl [S0 C0]
          · isplitl [S0]; · iexact S0
            iexact C0
          iexact HA
        iexact HW
  · have hi' : R.nu ≤ (i 0).val := not_lt.mp hi
    rw [pend_done R _ hi', pend_done R ((i 0).val + 1) (by omega)]
    rw [show outAt R W (i 0).val x = k0_pay2 (F := F) by unfold outAt; rw [if_neg hi]]
    iintro ⟨HT, Hx, HO, HK, HF, HW, Hk⟩
    iapply (run_unused c i a6 h6 a10 h10 R pf hT hi' K)
    isplitl [HT]; · iexact HT
    isplitl [HO]; · iexact HO
    iintro ⟨HT, HO⟩
    iapply Hk
    isplitl [HT]; · iexact HT
    isplitl [Hx]; · iexact Hx
    isplitl [HO]; · iexact HO
    isplitl [HK]
    · rw [show keptAt c R W ((i 0).val + 1) = iprop(∃ g u d, keep c g u d) by unfold keptAt; rw [if_neg (by omega)]]
      iapply (kept_any c R W (i 0).val)
      iexact HK
    isplitl [HF]; · iexact HF
    iexact HW

end Cert.KernelIdeal.Hand

end
-- ==== Proof.Swiglu.lean ====
/-
  One element of an expert's SwiGLU over the extended reals: what both programs are shown to compute.
-/
module

public import proofs.«01_k».proof.Proof.State
public import Idealize.ShloMosaic.PureOps.Ideal

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.WordCmp
open Idealize.ShloMosaic.Pipeline (Dat Cfg Window BodyObligation cellOf)

variable {F : FTy → Type} [FloatOps F]

local notation "𝕄" => MT nD τ sig Unit (Elt F) ℕ (Pipeline.UD sig nD τ) ℕ

/-- One row `x` through one expert, at one column of its output: `g` and `u` the gate and up weights, `d` that column of the down weights. -/
def swig (x : Fin 2048 → EReal) (g u : Fin 2048 → Fin 512 → EReal) (d : Fin 512 → EReal) : EReal :=
  ∑ f : Fin 512, ((∑ k : Fin 2048, x k * g k f) * Ideal.logistic (∑ k : Fin 2048, x k * g k f) * ∑ k : Fin 2048, x k * u k f) * d f

/-- Where position `k` of a row stands in the row's 16 by 128 layout, and back. -/
def hiOf (k : Fin 2048) : Fin 16 := ⟨k.val / 128, by omega⟩
def loOf (k : Fin 2048) : Fin 128 := ⟨k.val % 128, by omega⟩
def colOf (a : Fin 16) (b : Fin 128) : Fin 2048 := ⟨a.val * 128 + b.val, by omega⟩

end Cert.KernelIdeal.Hand

end
-- ==== Proof.BlockOut.lean ====
/-
  The block that the call leaves at a grid point, element by element, over the extended reals.
-/
module

public import proofs.«01_k».proof.Proof.Swiglu
public import Idealize.ShloMosaic.Lib.Pointwise

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.WordCmp
open Idealize.ShloMosaic.Pipeline (Dat Cfg Window BodyObligation cellOf)

variable {F : FTy → Type} [FloatOps F]

local notation "𝕄" => MT nD τ sig Unit (Elt F) ℕ (Pipeline.UD sig nD τ) ℕ

theorem wslG_at (e : Fin 64) (w : S64x2048x512.Idx → EReal) (o : Fin 1) (k : Fin 2048) (f : Fin 512) :
    wslG (F := Ideal) e w (Idealize.ShloMosaic.ix3 o k f) = w (Idealize.ShloMosaic.ix3 e k f) := by
  unfold wslG
  exact congrArg w (funext fun a => match a with | ⟨0, _⟩ => rfl | ⟨1, _⟩ => rfl | ⟨2, _⟩ => rfl)

theorem wslD_at (e : Fin 64) (w : S64x512x2048.Idx → EReal) (o : Fin 1) (f : Fin 512) (k : Fin 2048) :
    wslD (F := Ideal) e w (Idealize.ShloMosaic.ix3 o f k) = w (Idealize.ShloMosaic.ix3 e f k) := by
  unfold wslD
  exact congrArg w (funext fun a => match a with | ⟨0, _⟩ => rfl | ⟨1, _⟩ => rfl | ⟨2, _⟩ => rfl)

section At
variable (x : S256x16x128.Idx → EReal) (e : Fin 64) (W : Wts Ideal) (r : Fin 256) (a : Fin 16) (b : Fin 128)

/-- Row `r` of a block of rows through expert `e`, at column `(a, b)`. -/
def blockAt : EReal :=
  swig (fun k => x (Idealize.ShloMosaic.ix3 r (hiOf k) (loOf k))) (fun k f => W.g (Idealize.ShloMosaic.ix3 e k f))
    (fun k f => W.u (Idealize.ShloMosaic.ix3 e k f)) (fun f => W.d (Idealize.ShloMosaic.ix3 e f (colOf a b)))

set_option maxRecDepth 16384 in
/-- A block whose weights are those kept from the block before. -/
theorem kept_at : k0_pay1 (F := Ideal) x (k0_pay6 (F := Ideal) (wslG (F := Ideal) e W.g)) (k0_pay7 (F := Ideal) (wslG (F := Ideal) e W.u)) (k0_pay8 (F := Ideal) (wslD (F := Ideal) e W.d))
    (Idealize.ShloMosaic.ix3 r a b) = blockAt x e W r a b := by
  pointwise [k0_pay1, k0_pay6, k0_pay7, k0_pay8]
  simp only [wslG_at, wslD_at]
  rfl

set_option maxRecDepth 16384 in
/-- A block whose weights have just arrived. -/
theorem new_at : newOut (F := Ideal) x e W (Idealize.ShloMosaic.ix3 r a b) = blockAt x e W r a b := by
  pointwise [newOut, k0_pay5, k0_pay3, k0_pay4]
  simp only [wslG_at, wslD_at]
  rfl

/-- A block past the last one in use. -/
theorem none_at : k0_pay2 (F := Ideal) (Idealize.ShloMosaic.ix3 r a b) = (0 : EReal) := by
  pointwise [k0_pay2]

theorem outAt_at (R : Route) (n : ℕ) :
    outAt (F := Ideal) R W n x (Idealize.ShloMosaic.ix3 r a b) = if n < R.nu then blockAt x (R.be n) W r a b else 0 := by
  unfold outAt
  split
  · split
    · exact new_at x (R.be n) W r a b
    · exact kept_at x (R.be n) W r a b
  · exact none_at r a b

end At

end Cert.KernelIdeal.Hand

end
-- ==== Proof.Scratch.lean ====
/-
  The three double buffers taken apart into their slots, and put together again.
-/
module

public import proofs.«01_k».proof.Proof.State

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.WordCmp
open Idealize.ShloMosaic.Pipeline (Dat Cfg Window BodyObligation cellOf)

variable {F : FTy → Type} [FloatOps F]

local notation "𝕄" => MT nD τ sig Unit (Elt F) ℕ (Pipeline.UD sig nD τ) ℕ

theorem in_slotG (s : Fin 2) (i : S2x2048x512.Idx) : i ∈ (Rect.unit (s := S2x2048x512) ![s.val, 0, 0] S1x2048x512.size (inbS s)).set ↔ (i 0).val = s.val := by
  rw [Rect.mem_set_unit]
  constructor
  · intro h
    have := h 0
    simp at this
    omega
  · intro h a
    match a with
    | ⟨0, _⟩ => exact ⟨h.ge, by show (i 0).val < s.val + 1; omega⟩
    | ⟨1, _⟩ => exact ⟨Nat.zero_le _, by have := (i 1).isLt; show (i 1).val < 0 + 2048; simpa using this⟩
    | ⟨2, _⟩ => exact ⟨Nat.zero_le _, by have := (i 2).isLt; show (i 2).val < 0 + 512; simpa using this⟩

theorem in_slotD (s : Fin 2) (i : S2x512x2048.Idx) : i ∈ (Rect.unit (s := S2x512x2048) ![s.val, 0, 0] S1x512x2048.size (inbS' s)).set ↔ (i 0).val = s.val := by
  rw [Rect.mem_set_unit]
  constructor
  · intro h
    have := h 0
    simp at this
    omega
  · intro h a
    match a with
    | ⟨0, _⟩ => exact ⟨h.ge, by show (i 0).val < s.val + 1; omega⟩
    | ⟨1, _⟩ => exact ⟨Nat.zero_le _, by have := (i 1).isLt; show (i 1).val < 0 + 512; simpa using this⟩
    | ⟨2, _⟩ => exact ⟨Nat.zero_le _, by have := (i 2).isLt; show (i 2).val < 0 + 2048; simpa using this⟩

theorem set_sG (s : Fin 2) : (slG s).view.set = (Rect.unit (s := S2x2048x512) ![s.val, 0, 0] S1x2048x512.size (inbS s)).set :=
  (View.set_reshape _ _).trans (View.set_slice_whole _ _)
theorem set_sU (s : Fin 2) : (slU s).view.set = (Rect.unit (s := S2x2048x512) ![s.val, 0, 0] S1x2048x512.size (inbS s)).set :=
  (View.set_reshape _ _).trans (View.set_slice_whole _ _)
theorem set_sD (s : Fin 2) : (slD s).view.set = (Rect.unit (s := S2x512x2048) ![s.val, 0, 0] S1x512x2048.size (inbS' s)).set :=
  (View.set_reshape _ _).trans (View.set_slice_whole _ _)

abbrev rowsG (s : Fin 2) : Finset S2x2048x512.Idx := (Rect.unit (s := S2x2048x512) ![s.val, 0, 0] S1x2048x512.size (inbS s)).set
abbrev rowsD (s : Fin 2) : Finset S2x512x2048.Idx := (Rect.unit (s := S2x512x2048) ![s.val, 0, 0] S1x512x2048.size (inbS' s)).set

theorem apartG : Disjoint (rowsG 0) (rowsG 1) := by
  rw [Finset.disjoint_left]
  intro i h0 h1
  have := (in_slotG 0 i).mp h0
  have := (in_slotG 1 i).mp h1
  simp_all
theorem apartD : Disjoint (rowsD 0) (rowsD 1) := by
  rw [Finset.disjoint_left]
  intro i h0 h1
  have := (in_slotD 0 i).mp h0
  have := (in_slotD 1 i).mp h1
  simp_all
theorem allG : rowsG 0 ∪ rowsG 1 = Finset.univ := by
  refine Finset.eq_univ_of_forall fun i => Finset.mem_union.mpr ?_
  have := (i 0).isLt
  have h2 : (i 0).val < 2 := this
  rcases (show (i 0).val = 0 ∨ (i 0).val = 1 by omega) with h | h
  · exact Or.inl ((in_slotG 0 i).mpr h)
  · exact Or.inr ((in_slotG 1 i).mpr h)
theorem allD : rowsD 0 ∪ rowsD 1 = Finset.univ := by
  refine Finset.eq_univ_of_forall fun i => Finset.mem_union.mpr ?_
  have := (i 0).isLt
  have h2 : (i 0).val < 2 := this
  rcases (show (i 0).val = 0 ∨ (i 0).val = 1 by omega) with h | h
  · exact Or.inl ((in_slotD 0 i).mpr h)
  · exact Or.inr ((in_slotD 1 i).mpr h)

theorem part_two (ℓ : Loc nD τ sig) (I J : Finset (Idx ℓ)) (h : Disjoint I J) (hu : I ∪ J = Finset.univ) :
    iprop(∃ f : Buf (Elt F) ℓ, (ℓ ↦{fullShare} f : sProp 𝕄))
      ⊢ iprop((∃ f : Buf (Elt F) ℓ, ℓ ↦[I]{fullShare} f) ∗ (∃ f : Buf (Elt F) ℓ, ℓ ↦[J]{fullShare} f)) := by
  iintro ⟨%f, H⟩
  have h1 : (ℓ ↦{fullShare} f : sProp 𝕄) ⊢ iprop((ℓ ↦[I]{fullShare} f) ∗ ℓ ↦[J]{fullShare} f) := by
    rw [← hu]; exact (pointsTo_union h).1
  ihave H := h1 $$ H
  icases H with ⟨H1, H2⟩
  isplitl [H1]; · iexists f; iexact H1
  iexists f; iexact H2

theorem join_two (ℓ : Loc nD τ sig) (I J : Finset (Idx ℓ)) (h : Disjoint I J) (hu : I ∪ J = Finset.univ) :
    iprop((∃ f : Buf (Elt F) ℓ, (ℓ ↦[I]{fullShare} f : sProp 𝕄)) ∗ (∃ f : Buf (Elt F) ℓ, ℓ ↦[J]{fullShare} f))
      ⊢ iprop(∃ f : Buf (Elt F) ℓ, (ℓ ↦{fullShare} f : sProp 𝕄)) := by
  iintro ⟨⟨%f, H1⟩, ⟨%g, H2⟩⟩
  have h1 : iprop((ℓ ↦[I]{fullShare} f : sProp 𝕄) ∗ ℓ ↦[J]{fullShare} g) ⊢ (ℓ ↦{fullShare} (J.piecewise g f) : sProp 𝕄) := by
    rw [← hu]; exact pointsTo_join h
  iexists _
  iapply h1
  isplitl [H1]; · iexact H1
  iexact H2

abbrev anyBuf (c : Dev nD) (b : Ref sig .tc) : sProp 𝕄 :=
  iprop(∃ f : Buf (Elt F) ((c : Thread nD τ).loc b), ((c : Thread nD τ).loc b) ↦{fullShare} f)

theorem slot_G (c : Dev nD) (s : Fin 2) :
    (holdAny c (slG s) : sProp 𝕄) = iprop(∃ f : Buf (Elt F) ((c : Thread nD τ).loc cc0_scratch0), ((c : Thread nD τ).loc cc0_scratch0) ↦[rowsG s]{fullShare} f) := by
  show iprop(∃ f : Buf (Elt F) ((c : Thread nD τ).loc cc0_scratch0), ((c : Thread nD τ).loc cc0_scratch0) ↦[(slG s).view.set]{fullShare} f) = _
  rw [set_sG]
theorem slot_U (c : Dev nD) (s : Fin 2) :
    (holdAny c (slU s) : sProp 𝕄) = iprop(∃ f : Buf (Elt F) ((c : Thread nD τ).loc cc0_scratch1), ((c : Thread nD τ).loc cc0_scratch1) ↦[rowsG s]{fullShare} f) := by
  show iprop(∃ f : Buf (Elt F) ((c : Thread nD τ).loc cc0_scratch1), ((c : Thread nD τ).loc cc0_scratch1) ↦[(slU s).view.set]{fullShare} f) = _
  rw [set_sU]
theorem slot_D (c : Dev nD) (s : Fin 2) :
    (holdAny c (slD s) : sProp 𝕄) = iprop(∃ f : Buf (Elt F) ((c : Thread nD τ).loc cc0_scratch2), ((c : Thread nD τ).loc cc0_scratch2) ↦[rowsD s]{fullShare} f) := by
  show iprop(∃ f : Buf (Elt F) ((c : Thread nD τ).loc cc0_scratch2), ((c : Thread nD τ).loc cc0_scratch2) ↦[(slD s).view.set]{fullShare} f) = _
  rw [set_sD]

theorem slots_part (c : Dev nD) :
    iprop(anyBuf (F := F) c cc0_scratch0 ∗ anyBuf (F := F) c cc0_scratch1 ∗ anyBuf (F := F) c cc0_scratch2) ⊢ iprop(slotsAny (F := F) c 0 ∗ slotsAny (F := F) c 1) := by
  unfold slotsAny
  rw [slot_G, slot_U, slot_D, slot_G, slot_U, slot_D]
  iintro ⟨H0, H1, H2⟩
  ihave H0 := part_two ((c : Thread nD τ).loc cc0_scratch0) (rowsG 0) (rowsG 1) apartG allG $$ H0
  ihave H1 := part_two ((c : Thread nD τ).loc cc0_scratch1) (rowsG 0) (rowsG 1) apartG allG $$ H1
  ihave H2 := part_two ((c : Thread nD τ).loc cc0_scratch2) (rowsD 0) (rowsD 1) apartD allD $$ H2
  icases H0 with ⟨A0, B0⟩
  icases H1 with ⟨A1, B1⟩
  icases H2 with ⟨A2, B2⟩
  isplitl [A0 A1 A2]
  · isplitl [A0]; · iexact A0
    isplitl [A1]; · iexact A1
    iexact A2
  · isplitl [B0]; · iexact B0
    isplitl [B1]; · iexact B1
    iexact B2

theorem slots_join (c : Dev nD) :
    iprop(slotsAny (F := F) c 0 ∗ slotsAny (F := F) c 1) ⊢ iprop(anyBuf (F := F) c cc0_scratch0 ∗ anyBuf (F := F) c cc0_scratch1 ∗ anyBuf (F := F) c cc0_scratch2) := by
  unfold slotsAny
  rw [slot_G, slot_U, slot_D, slot_G, slot_U, slot_D]
  iintro ⟨⟨A0, A1, A2⟩, ⟨B0, B1, B2⟩⟩
  isplitl [A0 B0]
  · iapply (join_two ((c : Thread nD τ).loc cc0_scratch0) (rowsG 0) (rowsG 1) apartG allG)
    isplitl [A0]; · iexact A0
    iexact B0
  isplitl [A1 B1]
  · iapply (join_two ((c : Thread nD τ).loc cc0_scratch1) (rowsG 0) (rowsG 1) apartG allG)
    isplitl [A1]; · iexact A1
    iexact B1
  · iapply (join_two ((c : Thread nD τ).loc cc0_scratch2) (rowsD 0) (rowsD 1) apartD allD)
    isplitl [A2]; · iexact A2
    iexact B2

end Cert.KernelIdeal.Hand

end
-- ==== Proof.Run.lean ====
/-
  The launch: the call's windows, the state over the grid, and the whole program's run.
-/
module

public import proofs.«01_k».proof.Proof.Scratch
public import Idealize.ShloMosaic.Lib.Pipeline.FrameBody
public import Idealize.ShloMosaic.Lib.Pipeline.Frame

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.WordCmp
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The host operations before the call, function by function. -/
abbrev opss : List (List (HloOp τ sig (Elt F))) :=
  [hostOps0, hostOps0_1, hostOps0_2, hostOps0_3, hostOps0_4, hostOps0_5, hostOps0_6, hostOps0_7, hostOps0_8, hostOps0_9, hostOps0_10]

/-- What the call finds in each buffer. -/
def V (c : Dev nD) (b : Ref sig .tc) : Buf (Elt F) ((c.tc : Thread nD τ).loc b) :=
  StableHlo.after (opss (F := F)).flatten (fun b => m (c, b)) b

/-- What the call finds in the tables. -/
def tbl : pre0.Contents (Elt F) := fun k => V m 0 (pre0.ref k)

/-- The tables, as the configuration takes them. -/
abbrev adm (hok : ok0 (tbl m)) : (p : Fin 1) → (pcfgs (F := F) p).Adm := fun _ => ⟨tbl m, hok⟩

/-- The weights as the call finds them. -/
def wts (c : Dev nD) : Wts F := ⟨V m c main_v59, V m c main_v60, V m c main_v61⟩

variable (R : Route) (hT : Tables R (tbl m)) (hok : ok0 (tbl m))

abbrev C0 : Pipeline.Cfg sig Λ₀ := cfg0 (adm m hok 0)

/-- The block of rows the body finds at grid point `t`. -/
def xAt (c : Dev nD) (t : Fin (C0 m hok).N) : S256x16x128.Idx → F .bf16 :=
  (((C0 m hok).win 0).blk t).view.read (Elt F) (V m c main_arg1)

/-- The state before grid point `n`. -/
def Inv (c : Dev nD) (n : ℕ) : sProp 𝕄 :=
  iprop(tabs c (tbl m) ∗ (∃ r, prngReg c r) ∗ keptAt c R (wts m c) n ∗ flight c (wts m c) (pend R n))

/-- The call's proof data. -/
def dats (_ : Fin 1) (c : Dev nD) : Dat τ (Elt F) Unit ℕ (Pipeline.UD sig nD τ) ℕ (C0 m hok) c where
  A w := V m c (Pipeline.arrRef spec0 w)
  after w t := match w with
    | ⟨0, _⟩ => xAt m hok c t
    | ⟨1, _⟩ => outAt R (wts m c) (grid0.coords t 0).val (xAt m hok c t)
  Φ n := Inv m R c n.val
  q _ := fullShare
  owed _ := 0

theorem A_eq (c : Dev nD) (w : Fin (C0 m hok).W) : (dats m R hok 0 c).A w = V m c (Pipeline.arrRef spec0 w) := by
  dsimp only [dats]
theorem after0 (c : Dev nD) (t : Fin (C0 m hok).N) : (dats m R hok 0 c).after 0 t = xAt m hok c t := by dsimp only [dats]; rfl
theorem after1 (c : Dev nD) (t : Fin (C0 m hok).N) :
    (dats m R hok 0 c).after 1 t = outAt R (wts m c) (grid0.coords t 0).val (xAt m hok c t) := by dsimp only [dats]; rfl

theorem before0 (c : Dev nD) (t : Fin (C0 m hok).N) (d) : (dats m R hok 0 c).before 0 t d = xAt m hok c t := by
  rw [Dat.before_in_eq_fetched (dats m R hok 0 c) 0 rfl (fun _ => rfl) (fun _ _ _ => rfl) (fun _ => rfl) t d]
  unfold Dat.fetched Dat.blockOf
  dsimp only [dats]
  rfl

theorem coord_val (t : Fin grid0.N) : (grid0.coords t 0).val = t.val := by
  revert t
  decide +kernel

theorem Phi_at (c : Dev nD) (t : Fin (C0 m hok).N) : (dats m R hok 0 c).Φ t.castSucc = Inv m R c (grid0.coords t 0).val := by
  rw [coord_val]
  dsimp only [dats]
  rfl
theorem Phi_next (c : Dev nD) (t : Fin (C0 m hok).N) : (dats m R hok 0 c).Φ t.succ = Inv m R c ((grid0.coords t 0).val + 1) := by
  rw [coord_val]
  dsimp only [dats]
  rfl

abbrev st0 (t : Fin (C0 m hok).N) : Memref sig .tc .vmem S256x16x128 .bf16 := spec0_0.stage ((C0 m hok).slots t 0)
abbrev st1 (t : Fin (C0 m hok).N) : Memref sig .tc .vmem S256x16x128 .bf16 := spec0_1.stage ((C0 m hok).slots t 1)

def bodyAt (t : Fin (C0 m hok).N) : Prog (TpuEff nD τ sig (Elt F) Λ₀ .tc) PUnit :=
  kernelAt (grid0.coords t) (st0 m hok t) (hstage0_0 (((C0 m hok).slots t 0).cast nbuf0_0)) (st1 m hok t) (hstage0_1 (((C0 m hok).slots t 1).cast nbuf0_1))

theorem defs₀_row (t : Fin (C0 m hok).N) :
    defs₀ (F := F) .tc (C0 m hok).body ((C0 m hok).bodyArgs t ((C0 m hok).slots t)) = bodyAt m hok t := by
  unfold defs₀; rw [Defs.onTc_tc]; rfl

def bodyPre (c : Dev nD) (t : Fin (C0 m hok).N) : sProp 𝕄 :=
  iprop((dats m R hok 0 c).Φ t.castSucc ∗ (dats m R hok 0 c).owesAt () t.castSucc
    ∗ (∃ d, owns (c : Thread nD τ) (st0 m hok t) fullShare ((dats m R hok 0 c).before 0 t d))
    ∗ (∃ d, owns (c : Thread nD τ) (st1 m hok t) fullShare ((dats m R hok 0 c).before 1 t d)))
def bodyPost (c : Dev nD) (t : Fin (C0 m hok).N) : sProp 𝕄 :=
  iprop((dats m R hok 0 c).Φ t.succ ∗ (dats m R hok 0 c).owesAt () t.succ
    ∗ owns (c : Thread nD τ) (st0 m hok t) fullShare ((dats m R hok 0 c).after 0 t)
    ∗ owns (c : Thread nD τ) (st1 m hok t) fullShare ((dats m R hok 0 c).after 1 t))

include hT in
theorem sound_body (c : Dev nD) (t : Fin (C0 m hok).N) :
    bodyPre m R hok c t ⊢ wp frame (wpE (defs₀ (F := F)) Variants.none c none) Set.univ (bodyAt m hok t) (fun _ => bodyPost m R hok c t) := by
  unfold bodyPre bodyPost bodyAt
  rw [Phi_at, Phi_next, after0, after1]
  unfold Dat.owesAt Pipeline.owesWithin
  rw [show (dats m R hok 0 c).owed t.castSucc = 0 from rfl, show (dats m R hok 0 c).owed t.succ = 0 from rfl]
  unfold Inv
  iintro ⟨⟨HT, Hg, HK, HF⟩, ⟨%W, -, HW⟩, ⟨%d0, H0⟩, ⟨%d1, H1⟩⟩
  rw [before0]
  iapply (step c (grid0.coords t) (st0 m hok t) _ (st1 m hok t) _ R (tbl m) hT (wts m c) (xAt m hok c t) _)
  isplitl [HT]; · iexact HT
  isplitl [H0]; · iexact H0
  isplitl [H1]; · iexists _; iexact H1
  isplitl [HK]; · iexact HK
  isplitl [HF]; · iexact HF
  isplitl [HW]; · iexists _; iexact HW
  iintro ⟨HT, H0, H1, HK, HF, ⟨%W', HW'⟩⟩
  isplitl [HT Hg HK HF]
  · isplitl [HT]; · iexact HT
    isplitl [Hg]; · iexact Hg
    isplitl [HK]; · iexact HK
    iexact HF
  isplitl [HW']
  · iexists W'; isplitr; · ipureintro; exact fun _ _ => Or.inl trivial
    iexact HW'
  isplitl [H0]; · iexact H0
  iexact H1

theorem atD_one (pf : pre0.Contents (Elt F)) (off : Fin 1 → ℕ) (n : ℕ) (hn : n < 1) (ho : off = ![n]) (v : BitVec 32)
    (h : ∀ x, (pf 1 : S1.Idx → BitVec 32) x = v) : (pf.atD 1 off : BitVec 32) = v := by
  subst ho
  unfold Pipeline.Prefetch.Contents.atD
  have hb : ∀ a, (![n] : Fin 1 → ℕ) a + 1 ≤ (pre0.ref 1).ty.shape.size a := fun a => by
    have : a = 0 := Subsingleton.elim _ _
    subst this
    show n + 1 ≤ 1
    omega
  refine (dif_pos hb).trans ?_
  exact h _

theorem atD_zero (pf : pre0.Contents (Elt F)) (off : Fin 1 → ℕ) (j : Fin 320) (ho : off = ![j.val]) (v : BitVec 32)
    (h : (pf 0 : S320.Idx → BitVec 32) (ix j) = v) : (pf.atD 0 off : BitVec 32) = v := by
  subst ho
  unfold Pipeline.Prefetch.Contents.atD
  have hb : ∀ a, (![j.val] : Fin 1 → ℕ) a + 1 ≤ (pre0.ref 0).ty.shape.size a := fun a => by
    have : a = 0 := Subsingleton.elim _ _
    subst this
    exact j.isLt
  refine (dif_pos hb).trans ?_
  rw [← h]
  refine congrArg (pf 0) ?_
  funext a
  apply Fin.ext
  show (![j.val] : Fin 1 → ℕ) a = j.val
  exact congrArg (![j.val] : Fin 1 → ℕ) (Subsingleton.elim (α := Fin 1) a 0)

theorem busy (R : Route) (pf : pre0.Contents (Elt F)) (hT : Tables R pf) (i : grid0.Coords) : idle0 pf 1 i = false := by
  have h1 : (pf.atD 1 ![0] : BitVec 32) = wd R.nu := atD_one pf _ 0 (by omega) rfl _ hT.nu
  have h2 : (pf.atD 0 (k0_off1 i) : BitVec 32) = wd (R.be (pre1 i)) := atD_zero pf _ (pre1 i) (off1 i) _ (hT.be _)
  have h3 : (pf.atD 0 (k0_off2 i) : BitVec 32) = wd (R.be (at0 i)) := atD_zero pf _ (at0 i) (off2 i) _ (hT.be _)
  show (!(k0_cond2 i (pf.atD 1 ![0]) (pf.atD 0 (k0_off1 i)) (pf.atD 0 (k0_off2 i)) == 1#1)
    && !(k0_cond4 i (pf.atD 1 ![0]) (pf.atD 0 (k0_off1 i)) (pf.atD 0 (k0_off2 i)) == 1#1) && !(k0_cond5 i (pf.atD 1 ![0]) == 1#1)) = false
  rw [h1, h2, h3, cond2_eq _ _ R.nu_le, cond4_eq _ _ R.nu_le, cond5_eq _ _ R.nu_le]
  generalize decide ((i 0).val < R.nu) = p
  generalize (decide ((i 0).val = 0) || decide (R.be (at0 i) ≠ R.be (pre1 i))) = q
  revert p q
  decide

include hT in
theorem body_obligation (c : Dev nD) : BodyObligation (dats m R hok 0 c) (defs₀ (F := F)) Variants.none () Set.univ := fun t => by
  rw [bigSep_W0, bigSep_W0, defs₀_row]
  dsimp only
  rw [busy R (tbl m) hT _]
  dsimp only
  exact triple_restated (sound_body m R hT hok c t) rfl .rfl fun _ => .rfl

/-! ## The launch -/

/-- The kernel's own semaphores. -/
def osem : Fin 6 → SemLoc sig := fun k => .dma (cellN ⟨k.val / 3, by omega⟩ ⟨k.val % 3, by omega⟩)
theorem ownSems : Pipeline.OwnSemFacts spec0 osem := by decide

/-- The weight arrays, which the kernel copies from itself. -/
abbrev H0 : Finset (Ref sig .tc) := {main_v59, main_v60, main_v61}
theorem H0_sub : H0 ⊆ Pipeline.restRefsP sig pre0 spec0 := by decide

theorem semsList (c : Dev nD) :
    (Pipeline.ownSems0 (Ix := Unit) (Name := ℕ) (U := Pipeline.UD sig nD τ) (Lvl := ℕ) (Val := Elt F) (τ := τ) osem c : sProp 𝕄)
      = iprop(semVal ((c : Thread nD τ), .dma (cellN 0 0)) 0 ∗ semVal ((c : Thread nD τ), .dma (cellN 0 1)) 0 ∗ semVal ((c : Thread nD τ), .dma (cellN 0 2)) 0
        ∗ semVal ((c : Thread nD τ), .dma (cellN 1 0)) 0 ∗ semVal ((c : Thread nD τ), .dma (cellN 1 1)) 0 ∗ semVal ((c : Thread nD τ), .dma (cellN 1 2)) 0) :=
  Pipeline.ownSems0_eq_of_list c osem [0, 1, 2, 3, 4, 5] (by decide) (by decide)

theorem weightsList (c : Dev nD) :
    (bigSep H0 fun b => (((c.tc : Thread nD τ).loc b) ↦{fullShare} V m c b : sProp 𝕄)) = weights c (wts m c) :=
  BI.bigSep_eq_bigSepL_of_eq [main_v59, main_v60, main_v61] (by decide) (by decide) _

theorem tablesList (c : Dev nD) :
    (Pipeline.ΦT pre0 (tbl m) c : sProp 𝕄) = tabs c (tbl m) :=
  bigSep_univ_eq_bigSepL [(0 : Fin 5), 1, 2, 3, 4] (by decide) (by decide) _

theorem enter (c : Dev nD) : iprop(Pipeline.ΦD osem spec0 H0 (V m) c ∗ Pipeline.ΦT pre0 (tbl m) c) ⊢ Inv m R c 0 := by
  rw [Pipeline.ΦD_eq, scopedRest0_eq, semsList, weightsList, tablesList]
  unfold Inv
  iintro ⟨⟨⟨B0, B1, B2, ⟨%g, K0⟩, ⟨%u, K1⟩, ⟨%d, K2⟩⟩, Hg, ⟨S0, S1, S2, S3, S4, S5⟩, HW⟩, HT⟩
  isplitl [HT]; · iexact HT
  isplitl [Hg]; · iexact Hg
  isplitl [K0 K1 K2]
  · rw [show keptAt c R (wts m c) 0 = iprop(∃ g u d, keep c g u d) by unfold keptAt; rw [if_neg (by omega)]]
    iexists g, u, d
    isplitl [K0]; · iexact K0
    isplitl [K1]; · iexact K1
    iexact K2
  rw [show pend R 0 = none from rfl]
  unfold flight
  isplitl [HW]; · iexact HW
  ihave B := slots_part c $$ [B0 B1 B2]
  · isplitl [B0]; · iexact B0
    isplitl [B1]; · iexact B1
    iexact B2
  icases B with ⟨B0, B1⟩
  isplitl [B0 S0 S1 S2]
  · isplitl [B0]; · iexact B0
    unfold cells
    isplitl [S0]; · iexact S0
    isplitl [S1]; · iexact S1
    iexact S2
  · isplitl [B1]; · iexact B1
    unfold cells
    isplitl [S3]; · iexact S3
    isplitl [S4]; · iexact S4
    iexact S5

theorem leave (c : Dev nD) : Inv m R c 320 ⊢ Pipeline.ΦD osem spec0 H0 (V m) c := by
  rw [Pipeline.ΦD_eq, scopedRest0_eq, semsList, weightsList]
  unfold Inv
  rw [pend_done R 320 R.nu_le]
  iintro ⟨HT, Hg, HK, HF⟩
  ihave HF := flight_none c (wts m c) 0 $$ HF
  icases HF with ⟨HW, ⟨B0, C0⟩, ⟨B1, C1⟩⟩
  unfold cells
  icases C0 with ⟨S0, S1, S2⟩
  icases C1 with ⟨S3, S4, S5⟩
  ihave HK := kept_any c R (wts m c) 320 $$ HK
  icases HK with ⟨%g, %u, %d, ⟨K0, K1, K2⟩⟩
  ihave B := slots_join c $$ [B0 B1]
  · isplitl [B0]; · iexact B0
    iexact B1
  icases B with ⟨B0, B1, B2⟩
  isplitl [B0 B1 B2 K0 K1 K2]
  · isplitl [B0]; · iexact B0
    isplitl [B1]; · iexact B1
    isplitl [B2]; · iexact B2
    isplitl [K0]; · iexists g; iexact K0
    isplitl [K1]; · iexists u; iexact K1
    iexists d; iexact K2
  isplitl [Hg]; · iexact Hg
  isplitl [S0 S1 S2 S3 S4 S5]
  · isplitl [S0]; · iexact S0
    isplitl [S1]; · iexact S1
    isplitl [S2]; · iexact S2
    isplitl [S3]; · iexact S3
    isplitl [S4]; · iexact S4
    iexact S5
  iexact HW

theorem hmain : Pipeline.HMainP (Ix := Unit) (Name := ℕ) (U := Pipeline.UD sig nD τ) (Lvl := ℕ) pcfgs 0 (defs₀ (F := F)) Variants.none m main (V m) :=
  Pipeline.hmainP_prefixes pcfgs 0 defs₀ Variants.none m main opss
    ⟨hostOps0_sub, hostOps0_1_sub, hostOps0_2_sub, hostOps0_3_sub, hostOps0_4_sub, hostOps0_5_sub, hostOps0_6_sub, hostOps0_7_sub, hostOps0_8_sub, hostOps0_9_sub, hostOps0_10_sub⟩
    (by repeat' constructor) main_chain

include hT in
set_option backward.isDefEq.respectTransparency.types false in
theorem run_main : θ_run defs (onTc (τ := τ) (main (F := F))) ⟨m, fun _ => 0, ρ⟩
    (fun r => Pipeline.FramePost (Pipeline.pin pcfgs (adm m hok)) (dats m R hok) 0 (V m) r ∧ r.2.sem = fun _ => 0) :=
  Pipeline.θ_run_frameP_dma (Q' := _) pcfgs (adm m hok) (dats m R hok) (0 : Fin 1) launch0 osem defs₀ Variants.none ownSems H0 H0_sub m ρ main
    (hbody := fun c => (body_obligation m R hT hok c).loose) (hshare := fun c => (dats m R hok 0 c).share_full fun _ => rfl)
    (howed := fun _ _ => rfl) (V := V m) (hmain := hmain m) (hA := A_eq m R hok)
    (hpf := fun c k => by rw [Subsingleton.elim c 0]; rfl)
    (hin := fun c => enter m R c) (hout := fun c => leave m R c)

end Cert.KernelIdeal.Hand

end
-- ==== Proof.Words.lean ====
/-
  What the host lines before the call leave in the five routing tables, and in the weights as the call takes them,
  as functions of the arguments.
-/
module

public import proofs.«01_k».proof.Proof.Run
public import Idealize.ShloMosaic.Lib.StableHlo.RunRead

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.WordCmp
open Idealize.ShloMosaic.Pipeline (Dat Cfg Window BodyObligation cellOf)

variable {F : FTy → Type} [FloatOps F]

local notation "𝕄" => MT nD τ sig Unit (Elt F) ℕ (Pipeline.UD sig nD τ) ℕ

/-! ## The tables as functions of the counts -/

/-- The segments' lengths before rounding down: the counts plus 255. -/
def upW (c : IVec S64 32) : IVec S64 32 :=
  subi (addi c (broadcastInDim S64 ![] bcast_S_S64 (constantI S_ 32 256#32))) (broadcastInDim S64 ![] bcast_S_S64 (constantI S_ 32 1#32))

/-- jnp's floor division by 256. -/
def floorW {s : Shape} (d : IVec s 32) (one zero : IVec s 32) (sg : IVec s 32) (x : IVec s 32) : IVec s 32 :=
  select (andi (cmpi .ne (signi x) sg) (cmpi .ne (Host.remsi x d) zero)) (subi (Host.divsi x d) one) (Host.divsi x d)

/-- The segments' lengths, rounded up to blocks. -/
def padW (c : IVec S64 32) : IVec S64 32 :=
  muli (floorW (broadcastInDim S64 ![] bcast_S_S64 (constantI S_ 32 256#32)) (broadcastInDim S64 ![] bcast_S_S64 (constantI S_ 32 1#32))
      (broadcastInDim S64 ![] bcast_S_S64 (constantI S_ 32 0#32)) (broadcastInDim S64 ![] bcast_S_S64 (signi (constantI S_ 32 256#32))) (upW c))
    (broadcastInDim S64 ![] bcast_S_S64 (constantI S_ 32 256#32))

/-- The segments' ends: the running sums. -/
def endW (p : IVec S64 32) : IVec S64 32 :=
  Host.reduceWindow IntOp.addi ![64] ![1] ![63] ![0] p (broadcastInDim S_ ![] bcast_S_S_ (constantI S_ 32 0#32)) reduceWindows_S64_S64_w64s1p63_0 h_S_

/-- The blocks' first rows. -/
def blkW : IVec S320 32 := muli (iotaInDim S320 32 0) (broadcastInDim S320 ![] bcast_S_S320 (constantI S_ 32 256#32))

def overBlocks {a : ℕ} (q : IVec S64 a) : IVec S320x64 a :=
  broadcastInDim S320x64 ![0, 1] bcast_S1x64_S320x64_0_1 (broadcastInDim S1x64 ![1] bcast_S64_S1x64_1 q)
def overExperts (b : IVec S320 32) : IVec S320x64 32 :=
  broadcastInDim S320x64 ![0, 1] bcast_S320x1_S320x64_0_1 (broadcastInDim S320x1 ![0] bcast_S320_S320x1_0 b)
def countW (k : IVec S320x64 1) : IVec S320 32 :=
  Host.reduce IntOp.addi (extui 32 k natLt_1_32) (constantI S_ 32 0#32) reducesTo_S320x64_S320_d1 h_S_

/-- The first segment that ends after a row, at most 63. -/
def holdsW (q : IVec S64 32) (b : IVec S320 32) : IVec S320 32 :=
  minsi (countW (cmpi .sle (overBlocks q) (overExperts b))) (broadcastInDim S320 ![] bcast_S_S320 (constantI S_ 32 63#32))

def lastW (q : IVec S64 32) : IVec S_ 32 := shapeCast S_ (extractStridedSlice S1 ![63] q slices_S64_S1_63) shapeCasts_S1_S_

/-- How many blocks are in use. -/
def usedW (q : IVec S64 32) : IVec S1 32 :=
  broadcastInDim S1 ![] bcast_S_S1 (floorW (constantI S_ 32 256#32) (constantI S_ 32 1#32) (constantI S_ 32 0#32) (signi (constantI S_ 32 256#32)) (lastW q))

/-- Where a block's segment ends. -/
def segW (q : IVec S64 32) : IVec S320 32 :=
  Host.reduce IntOp.minsi (select (cmpi .sgt (overBlocks q) (overExperts blkW)) (overBlocks q)
    (broadcastInDim S320x64 ![] bcast_S_S320x64 (constantI S_ 32 81920#32))) (constantI S_ 32 2147483647#32) reducesTo_S320x64_S320_d1 h_S_

def moreW (q : IVec S64 32) : IVec S320 32 :=
  extui 32 (cmpi .slt (segW q) (broadcastInDim S320 ![] bcast_S_S320 (lastW q))) natLt_1_32

/-- How many segments that are not empty end at or before a block. -/
def doneW (p q : IVec S64 32) : IVec S320 32 :=
  countW (andi (cmpi .sle (overBlocks q) (overExperts blkW))
    (broadcastInDim S320x64 ![0, 1] bcast_S1x64_S320x64_0_1
      (cmpi .sgt (broadcastInDim S1x64 ![1] bcast_S64_S1x64_1 p) (broadcastInDim S1x64 ![] bcast_S_S1x64 (constantI S_ 32 0#32)))))

/-- jnp's remainder by 2. -/
def twoW : IVec S_ 32 := select (cmpi .eq (constantI S_ 32 2#32) (constantI S_ 32 0#32)) (constantI S_ 32 1#32) (constantI S_ 32 2#32)
def halfW (x : IVec S320 32) : IVec S320 32 := Host.remsi x (broadcastInDim S320 ![] bcast_S_S320 twoW)
def parityW (x : IVec S320 32) : IVec S320 32 :=
  select (andi (cmpi .ne (cmpi .slt (halfW x) (broadcastInDim S320 ![] bcast_S_S320 (constantI S_ 32 0#32)))
        (broadcastInDim S320 ![] bcast_S_S320 (cmpi .slt twoW (constantI S_ 32 0#32))))
      (cmpi .ne (halfW x) (broadcastInDim S320 ![] bcast_S_S320 (constantI S_ 32 0#32))))
    (addi (halfW x) (broadcastInDim S320 ![] bcast_S_S320 twoW)) (halfW x)

/-! ## The host lines leave them -/

section Reads
variable (X : Valuation τ sig (Elt F))

abbrev opsA : List (HloOp τ sig (Elt F)) := hostOps0 ++ (hostOps0_1 ++ (hostOps0_2 ++ hostOps0_3))
abbrev opsB : List (HloOp τ sig (Elt F)) := hostOps0_4 ++ (hostOps0_5 ++ (hostOps0_6 ++ (hostOps0_7 ++ (hostOps0_8 ++ (hostOps0_9 ++ hostOps0_10)))))

theorem readA3 : StableHlo.after (hostOps0 (F := F)) X (Proc.devRef .tc main_v3) = upW (X (Proc.devRef .tc main_arg0)) := by
  after_reads_simp
  rfl
theorem readAc : StableHlo.after (hostOps0 (F := F)) X (Proc.devRef .tc main_c_1) = (constantI S_ 32 256#32 : IVec S_ 32) := by
  after_reads_simp
theorem readA4 (x : IVec S64 32) (h3 : X (Proc.devRef .tc main_v3) = x) (h1 : X (Proc.devRef .tc main_c_1) = (constantI S_ 32 256#32 : IVec S_ 32)) :
    StableHlo.after (hostOps0_1 (F := F)) X (Proc.devRef .tc main_v4) = floorW (broadcastInDim S64 ![] bcast_S_S64 (constantI S_ 32 256#32)) (broadcastInDim S64 ![] bcast_S_S64 (constantI S_ 32 1#32))
      (broadcastInDim S64 ![] bcast_S_S64 (constantI S_ 32 0#32)) (broadcastInDim S64 ![] bcast_S_S64 (signi (constantI S_ 32 256#32))) x := by
  after_reads_simp
  simp only [h3, h1, id_eq]
  rfl
theorem readA6 : StableHlo.after (hostOps0_2 ++ hostOps0_3 : List (HloOp τ sig (Elt F))) X (Proc.devRef .tc main_v6)
    = muli (X (Proc.devRef .tc main_v4)) (broadcastInDim S64 ![] bcast_S_S64 (constantI S_ 32 256#32)) := by
  after_reads_simp
attribute [local irreducible] Host.reduceWindow in
theorem readA7 : StableHlo.after (hostOps0_2 ++ hostOps0_3 : List (HloOp τ sig (Elt F))) X (Proc.devRef .tc main_v7)
    = endW (muli (X (Proc.devRef .tc main_v4)) (broadcastInDim S64 ![] bcast_S_S64 (constantI S_ 32 256#32))) := by
  after_reads_simp
  rfl
set_option maxRecDepth 100000
theorem readB19 : StableHlo.after (opsB (F := F)) X (Proc.devRef .tc main_v19) = holdsW (X (Proc.devRef .tc main_v7)) blkW := by
  after_reads_simp
  rfl
theorem readB23 : StableHlo.after (opsB (F := F)) X (Proc.devRef .tc main_v23) = usedW (X (Proc.devRef .tc main_v7)) := by
  after_reads_simp
  rfl
theorem readB36 : StableHlo.after (opsB (F := F)) X (Proc.devRef .tc main_v36) = moreW (X (Proc.devRef .tc main_v7)) := by
  after_reads_simp
  rfl
theorem readB45 : StableHlo.after (opsB (F := F)) X (Proc.devRef .tc main_v45) = holdsW (X (Proc.devRef .tc main_v7)) (segW (X (Proc.devRef .tc main_v7))) := by
  after_reads_simp
  rfl
theorem readB58 : StableHlo.after (opsB (F := F)) X (Proc.devRef .tc main_v58) = parityW (doneW (X (Proc.devRef .tc main_v6)) (X (Proc.devRef .tc main_v7))) := by
  after_reads_simp
  rfl
end Reads

end Cert.KernelIdeal.Hand

end
-- ==== Proof.Ends.lean ====
/-
  The routing tables as arithmetic on natural numbers: from the lengths of 64 segments, each a multiple of 256, to the
  facts about neighbouring blocks that the kernel relies on.
-/
module

public import proofs.«01_k».proof.Proof.Setup
public import Idealize.ShloMosaic.Lib.Routing.Ops

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.WordCmp
open Idealize.ShloMosaic.Pipeline (Dat Cfg Window BodyObligation cellOf)

variable {F : FTy → Type} [FloatOps F]

local notation "𝕄" => MT nD τ sig Unit (Elt F) ℕ (Pipeline.UD sig nD τ) ℕ

namespace Seg

/-- Where segment `e` ends. -/
def fin (p : ℕ → ℕ) (e : ℕ) : ℕ := ((List.range (e + 1)).map p).sum

/-- How many segments end at or before row `r`. -/
def before (p : ℕ → ℕ) (r : ℕ) : ℕ := Nat.count (fun e => fin p e ≤ r) 64

/-- How many segments that are not empty end at or before row `r`. -/
def full (p : ℕ → ℕ) (r : ℕ) : ℕ := Nat.count (fun e => fin p e ≤ r ∧ 0 < p e) 64

/-- Where the segment of row `r` ends. -/
def upTo (p : ℕ → ℕ) (r : ℕ) : ℕ := if before p r < 64 then fin p (before p r) else 81920

theorem fin_succ (p : ℕ → ℕ) (e : ℕ) : fin p (e + 1) = fin p e + p (e + 1) := by
  unfold fin
  rw [List.range_succ (n := e + 1), List.map_append, List.sum_append]
  simp only [List.map_cons, List.map_nil, List.sum_cons, List.sum_nil, Nat.add_zero]

theorem fin_zero (p : ℕ → ℕ) : fin p 0 = p 0 := by
  unfold fin
  simp only [Nat.zero_add, List.range_one, List.map_cons, List.map_nil, List.sum_cons, List.sum_nil, Nat.add_zero]

theorem fin_mono (p : ℕ → ℕ) {a b : ℕ} (h : a ≤ b) : fin p a ≤ fin p b := by
  induction b with
  | zero => rw [Nat.le_zero.1 h]
  | succ b ih =>
    rcases Nat.lt_or_eq_of_le h with hl | rfl
    · rw [fin_succ]; exact Nat.le_add_right_of_le (ih (Nat.lt_succ_iff.1 hl))
    · exact Nat.le_refl _

theorem fin_dvd (p : ℕ → ℕ) (hp : ∀ e, 256 ∣ p e) (e : ℕ) : 256 ∣ fin p e := by
  induction e with
  | zero => rw [fin_zero]; exact hp 0
  | succ e ih => rw [fin_succ]; exact Nat.dvd_add ih (hp _)

/-- Counting a property of all the numbers below a bound counts up to the bound. -/
theorem count_cut (Q : ℕ → Prop) [DecidablePred Q] (hQ : ∀ a b, a ≤ b → Q b → Q a) : ∀ n e, e < n → (Q e ↔ e < Nat.count Q n)
  | 0, _, h => absurd h (Nat.not_lt_zero _)
  | n + 1, e, h => by
    rw [Nat.count_succ]
    by_cases hn : Q n
    · have hall : Nat.count Q n = n := by
        rw [Nat.count_iff_forall]
        exact fun {m} hm => hQ m n (Nat.le_of_lt hm) hn
      rw [if_pos hn, hall]
      exact ⟨fun _ => h, fun _ => hQ e n (Nat.lt_succ_iff.1 h) hn⟩
    · rw [if_neg hn, Nat.add_zero]
      rcases Nat.lt_or_eq_of_le (Nat.lt_succ_iff.1 h) with hl | rfl
      · exact count_cut Q hQ n e hl
      · exact ⟨fun hq => absurd hq hn, fun hl => absurd hl (Nat.not_lt.2 (Nat.count_le _))⟩

theorem before_iff (p : ℕ → ℕ) (r e : ℕ) (he : e < 64) : fin p e ≤ r ↔ e < before p r :=
  count_cut (fun e => fin p e ≤ r) (fun _ _ hab hb => (fin_mono p hab).trans hb) 64 e he

theorem before_le (p : ℕ → ℕ) (r : ℕ) : before p r ≤ 64 := Nat.count_le _

theorem count_and (Q : ℕ → Prop) [DecidablePred Q] (k : ℕ) : ∀ n, k ≤ n → Nat.count (fun e => e < k ∧ Q e) n = Nat.count Q k
  | n, h => by
    induction n with
    | zero => rw [Nat.le_zero.1 h]; rfl
    | succ n ih =>
      rw [Nat.count_succ]
      rcases Nat.lt_or_eq_of_le h with hl | rfl
      · have hk : ¬ (n < k ∧ Q n) := fun hh => by omega
        rw [if_neg hk, Nat.add_zero, ih (by omega)]
      · rw [Nat.count_succ]
        have : Nat.count (fun e => e < n + 1 ∧ Q e) n = Nat.count Q n := by
          rw [Nat.count_eq_card_filter_range, Nat.count_eq_card_filter_range]
          refine congrArg Finset.card (Finset.filter_congr fun x hx => ?_)
          have := Finset.mem_range.1 hx
          exact ⟨fun hh => hh.2, fun hh => ⟨by omega, hh⟩⟩
        rw [this]
        refine congrArg (Nat.count Q n + ·) ?_
        by_cases hq : Q n
        · rw [if_pos hq, if_pos ⟨Nat.lt_succ_self n, hq⟩]
        · rw [if_neg hq, if_neg fun hh => hq hh.2]

theorem full_eq (p : ℕ → ℕ) (r : ℕ) : full p r = Nat.count (fun e => 0 < p e) (before p r) := by
  rw [← count_and (fun e => 0 < p e) (before p r) 64 (before_le p r)]
  unfold full
  rw [Nat.count_eq_card_filter_range, Nat.count_eq_card_filter_range]
  refine congrArg Finset.card (Finset.filter_congr fun x hx => ?_)
  rw [before_iff p r x (Finset.mem_range.1 hx)]

/-- The segments skipped between two neighbouring blocks count as one: all but the first of them are empty. -/
theorem count_step (Q : ℕ → Prop) [DecidablePred Q] (k : ℕ) (hk : Q k) : ∀ k', k < k' → (∀ e, k < e → e < k' → ¬ Q e) → Nat.count Q k' = Nat.count Q k + 1
  | 0, h, _ => absurd h (Nat.not_lt_zero _)
  | k' + 1, h, hn => by
    rw [Nat.count_succ]
    rcases Nat.lt_or_eq_of_le (Nat.lt_succ_iff.1 h) with hl | rfl
    · rw [if_neg (hn k' hl (Nat.lt_succ_self _)), Nat.add_zero, count_step Q k hk k' hl fun e h1 h2 => hn e h1 (by omega)]
    · rw [if_pos hk]

section Blocks
variable (p : ℕ → ℕ) (hp : ∀ e, 256 ∣ p e) (lo : 256 ≤ fin p 63) (hi : fin p 63 ≤ 81920)

def nu : ℕ := fin p 63 / 256
def be (i : ℕ) : Fin 64 := ⟨min (before p (256 * i)) 63, by omega⟩
def nx (i : ℕ) : Fin 64 := ⟨min (before p (upTo p (256 * i))) 63, by omega⟩
def slot (i : ℕ) : Fin 2 := ⟨full p (256 * i) % 2, by omega⟩
def hn (i : ℕ) : Bool := decide (upTo p (256 * i) < fin p 63)

include hp in
theorem nu_mul : 256 * nu p = fin p 63 := Nat.mul_div_cancel' (fin_dvd p hp 63)

theorem lt_of_row {r : ℕ} (h : r < fin p 63) : before p r ≤ 63 := by
  by_contra hc
  have := (before_iff p r 63 (by omega)).2 (by omega)
  omega

theorem be_val {i : ℕ} (h : 256 * i < fin p 63) : (be p i).val = before p (256 * i) := Nat.min_eq_left (lt_of_row p h)

theorem upTo_val {r : ℕ} (h : r < fin p 63) : upTo p r = fin p (before p r) := by
  unfold upTo
  rw [if_pos (Nat.lt_of_le_of_lt (lt_of_row p h) (by omega))]

include hp in
/-- Where the next block belongs to another segment, the segment ends between the two. -/
theorem upTo_next {i : ℕ} (h : 256 * (i + 1) < fin p 63) (hne : be p (i + 1) ≠ be p i) :
    before p (256 * i) < before p (256 * (i + 1)) ∧ fin p (before p (256 * i)) = 256 * (i + 1) := by
  have h0 : 256 * i < fin p 63 := by omega
  have hk := lt_of_row p h0
  have hk' := lt_of_row p h
  have hne' : before p (256 * i) ≠ before p (256 * (i + 1)) := fun e => hne (Fin.ext (by rw [be_val p h, be_val p h0, e]))
  have hlt : before p (256 * i) < before p (256 * (i + 1)) := by
    rcases Nat.lt_or_ge (before p (256 * i)) (before p (256 * (i + 1))) with hl | hg
    · exact hl
    · exfalso
      have h1 := (before_iff p (256 * i) (before p (256 * (i + 1))) (by omega)).2 (by omega)
      have h2 := (before_iff p (256 * (i + 1)) (before p (256 * (i + 1))) (by omega)).1 (by omega)
      omega
  have ha := (before_iff p (256 * (i + 1)) (before p (256 * i)) (by omega)).2 hlt
  have hb : ¬ fin p (before p (256 * i)) ≤ 256 * i := fun hh => by
    have := (before_iff p (256 * i) (before p (256 * i)) (by omega)).1 hh
    omega
  obtain ⟨q, hq⟩ := fin_dvd p hp (before p (256 * i))
  exact ⟨hlt, by omega⟩

include hp in
theorem full_next {i : ℕ} (h : 256 * (i + 1) < fin p 63) (hne : be p (i + 1) ≠ be p i) :
    full p (256 * (i + 1)) = full p (256 * i) + 1 := by
  obtain ⟨hlt, he⟩ := upTo_next p hp h hne
  have hk' := lt_of_row p h
  rw [full_eq, full_eq]
  refine count_step _ _ ?_ _ hlt ?_
  · have hb : ¬ fin p (before p (256 * i)) ≤ 256 * i := by omega
    rcases hz : before p (256 * i) with _ | k
    · rw [hz, fin_zero] at hb; omega
    · have := (before_iff p (256 * i) k (by omega)).2 (by omega)
      rw [hz, fin_succ] at hb
      omega
  · intro e h1 h2
    obtain ⟨k, rfl⟩ : ∃ k, e = k + 1 := ⟨e - 1, by omega⟩
    have ha := (before_iff p (256 * (i + 1)) (k + 1) (by omega)).2 h2
    have hb := fin_mono p (show before p (256 * i) ≤ k by omega)
    rw [fin_succ] at ha
    omega

/-- The tables of segments of these lengths. -/
def route : Route where
  be := be p
  nx := nx p
  slot := slot p
  hn := hn p
  nu := nu p
  nu_pos := by unfold nu; omega
  nu_le := by unfold nu; omega
  same i h e := by
    have hm := nu_mul p hp
    have h1 : 256 * (i + 1) < fin p 63 := by omega
    have hb : before p (256 * (i + 1)) = before p (256 * i) := by
      rw [← be_val p h1, ← be_val p (show 256 * i < fin p 63 by omega), e]
    have hu : upTo p (256 * (i + 1)) = upTo p (256 * i) := by unfold upTo; rw [hb]
    refine ⟨?_, ?_, ?_⟩
    · unfold hn; rw [hu]
    · unfold nx; simp only [hu]
    · unfold slot; simp only [full_eq, hb]
  next i h e := by
    have hm := nu_mul p hp
    have h1 : 256 * (i + 1) < fin p 63 := by omega
    obtain ⟨_, he⟩ := upTo_next p hp h1 e
    have hu : upTo p (256 * i) = 256 * (i + 1) := by rw [upTo_val p (by omega), he]
    refine ⟨?_, ?_, ?_⟩
    · unfold hn; rw [hu]; exact decide_eq_true h1
    · unfold nx be; simp only [hu]
    · apply Fin.ext
      have hf := full_next p hp h1 e
      have hs : (slot p i).val = full p (256 * i) % 2 := rfl
      have hs' : (slot p (i + 1)).val = full p (256 * (i + 1)) % 2 := rfl
      rw [Fin.sub_def, hs', hf]
      show _ = (2 - (slot p i).val + 1) % 2
      rw [hs]
      omega
  last i h := by
    have hm := nu_mul p hp
    unfold hn
    refine decide_eq_false ?_
    rcases Nat.lt_or_ge (256 * i) (fin p 63) with hl | hg
    · have hi1 : fin p 63 = 256 * (i + 1) := by omega
      rw [upTo_val p hl]
      have hk := lt_of_row p hl
      obtain ⟨q, hq⟩ := fin_dvd p hp (before p (256 * i))
      have hb : ¬ fin p (before p (256 * i)) ≤ 256 * i := fun hh => by
        have := (before_iff p (256 * i) (before p (256 * i)) (by omega)).1 hh
        omega
      omega
    · have hb : ¬ before p (256 * i) < 64 := by
        have := (before_iff p (256 * i) 63 (by omega)).1 hg
        omega
      unfold upTo
      rw [if_neg hb]
      omega

theorem route_hn (i : ℕ) : (route p hp lo hi).hn i = hn p i := by rw [route]
theorem route_be (i : ℕ) : (route p hp lo hi).be i = be p i := by rw [route]
theorem route_nu : (route p hp lo hi).nu = nu p := by rw [route]

end Blocks

end Seg

end Cert.KernelIdeal.Hand

end
-- ==== Proof.Eval.lean ====
/-
  The routing tables that the host lines leave are the arithmetic of the segments: each table's word at a block.
-/
module

public import proofs.«01_k».proof.Proof.Words
public import proofs.«01_k».proof.Proof.Ends
public import Idealize.ShloMosaic.Lib.Routing.Ops
public import Idealize.ShloMosaic.Lib.Routing.Words
public import Idealize.ShloMosaic.Lib.Routing.OpsSearch
public import Idealize.ShloMosaic.Lib.PlanTiles.Rows

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.WordCmp
open Idealize.ShloMosaic.Pipeline (Dat Cfg Window BodyObligation cellOf)

variable {F : FTy → Type} [FloatOps F]

local notation "𝕄" => MT nD τ sig Unit (Elt F) ℕ (Pipeline.UD sig nD τ) ℕ

open Idealize.ShloMosaic.Routing Idealize.ShloMosaic.ValueIdx

/-- How many rows expert `e` has. -/
def rowsOf (c : IVec S64 32) (e : ℕ) : ℕ := if h : e < 64 then (c (ix1 (⟨e, h⟩ : Fin 64))).toNat else 0
/-- The same rounded up to blocks. -/
def pad (c : IVec S64 32) (e : ℕ) : ℕ := (rowsOf c e + 255) / 256 * 256

/-- The counts are those of 65536 rows, none of them more than 8192. -/
structure Routed (c : IVec S64 32) : Prop where
  le : ∀ e, rowsOf c e ≤ 8192
  sum : ((List.range 64).map (rowsOf c)).sum = 65536

theorem pad_dvd (c : IVec S64 32) (e : ℕ) : 256 ∣ pad c e := ⟨_, Nat.mul_comm _ _⟩

theorem sum_bounds (f g : ℕ → ℕ) (h : ∀ e, f e ≤ g e ∧ g e ≤ f e + 255) : ∀ n, ((List.range n).map f).sum ≤ ((List.range n).map g).sum
    ∧ ((List.range n).map g).sum ≤ ((List.range n).map f).sum + 255 * n
  | 0 => ⟨Nat.le_refl _, Nat.le_refl _⟩
  | n + 1 => by
    have ih := sum_bounds f g h n
    have := h n
    rw [List.range_succ, List.map_append, List.map_append, List.sum_append, List.sum_append]
    simp only [List.map_cons, List.map_nil, List.sum_cons, List.sum_nil, Nat.add_zero]
    omega

theorem total (c : IVec S64 32) (hc : Routed c) : 65536 ≤ Seg.fin (pad c) 63 ∧ Seg.fin (pad c) 63 ≤ 81856 := by
  have h := sum_bounds (rowsOf c) (pad c) (fun e => by unfold pad; omega) 64
  have hs := hc.sum
  have he : Seg.fin (pad c) 63 = ((List.range 64).map (pad c)).sum := rfl
  omega

theorem rowsOf_word (c : IVec S64 32) (e : Fin 64) : c (ix1 e) = wd (rowsOf c e.val) := by
  unfold rowsOf
  rw [dif_pos e.isLt]
  exact BitVec.eq_of_toNat_eq (by rw [BitVec.toNat_ofNat]; exact (Nat.mod_eq_of_lt (c (ix1 e)).isLt).symm)

section At
variable (c : IVec S64 32) (hc : Routed c)

include hc in
theorem padW_at (e : Fin 64) : padW c (ix1 e) = wd (pad c e.val) := by
  have hle := hc.le e.val
  have hup : upW c (ix1 e) = wd (rowsOf c e.val + 255) := by
    unfold upW
    rw [subi_ap, addi_ap, bc0, bc0, rowsOf_word c e]
    show wd (rowsOf c e.val) + wd 256 - wd 1 = _
    rw [← BitVec.ofNat_add]
    exact StableHlo.Predicate.sub_one_ofNat _ (by omega) (by omega)
  unfold padW
  rw [muli_ap, bc0]
  have hd := pyDiv_ap bcast_S_S64 (upW c) (constantI S_ 32 256#32) (ix1 e) hup rfl (by omega) (by decide) (by decide)
  refine (congrArg (· * (256#32 : BitVec 32)) ((show _ = _ from rfl).trans hd)).trans ?_
  exact (BitVec.ofNat_mul ..).symm

include hc in
theorem endW_at (e : Fin 64) : endW (padW c) (ix1 e) = wd (Seg.fin (pad c) e.val) :=
  cumsum1 (by decide) (padW c) (pad c) (padW_at c hc) _ (bc0 _ _ _) _ _ e

end At

theorem ix_eq (i : Fin 320) : ix i = ix1 i := by
  funext a
  match a with
  | ⟨0, _⟩ => rfl

theorem blkW_at (i : Fin 320) : blkW (ix1 i) = wd (256 * i.val) := by
  unfold blkW
  rw [muli_ap, bc0]
  show wd i.val * wd 256 = _
  rw [← BitVec.ofNat_mul, Nat.mul_comm]

theorem overBlocks_at {a : ℕ} (q : IVec S64 a) (i : Fin 320) (e : Fin 64) : overBlocks q (ix2 i e) = q (ix1 e) := bcCols _ _ q i e
theorem overExperts_at (b : IVec S320 32) (i : Fin 320) (e : Fin 64) : overExperts b (ix2 i e) = b (ix1 i) := bcRows _ _ b i e

theorem count_congr (P Q : ℕ → Prop) [DecidablePred P] [DecidablePred Q] (h : ∀ e, P e ↔ Q e) (n : ℕ) : Nat.count P n = Nat.count Q n := by
  rw [Nat.count_eq_card_filter_range, Nat.count_eq_card_filter_range]
  exact congrArg Finset.card (Finset.filter_congr fun x _ => h x)

section Tabs
variable (p : ℕ → ℕ) (lo : 256 ≤ Seg.fin p 63) (hi : Seg.fin p 63 ≤ 81920) (q : IVec S64 32) (hq : ∀ e : Fin 64, q (ix1 e) = wd (Seg.fin p e.val))

include hi in
theorem fin_small (e : Fin 64) : Seg.fin p e.val ≤ 81920 := (Seg.fin_mono p (by omega)).trans hi

theorem small_toNat {n : ℕ} (h : n < 2 ^ 31) : (wd n).toNat = n := by
  rw [BitVec.toNat_ofNat]; exact Nat.mod_eq_of_lt (by omega)

theorem sle_words {a b : ℕ} (ha : a < 2 ^ 31) (hb : b < 2 ^ 31) : IntOp.cmpi .sle (wd a) (wd b) = 1#1 ↔ a ≤ b := by
  rw [StableHlo.Predicate.sle_iff_toNat (by rw [small_toNat ha]; exact ha) (by rw [small_toNat hb]; exact hb), small_toNat ha, small_toNat hb]
theorem sgt_words {a b : ℕ} (ha : a < 2 ^ 31) (hb : b < 2 ^ 31) : IntOp.cmpi .sgt (wd a) (wd b) = 1#1 ↔ b < a := by
  rw [StableHlo.Predicate.sgt_iff_toNat (by rw [small_toNat ha]; exact ha) (by rw [small_toNat hb]; exact hb), small_toNat ha, small_toNat hb]

include hi hq in
theorem holdsW_at (b : IVec S320 32) (i : Fin 320) {r : ℕ} (hr : r < 2 ^ 31) (hb : b (ix1 i) = wd r) :
    holdsW q b (ix1 i) = wd (min (Seg.before p r) 63) := by
  have hcount : countW (cmpi .sle (overBlocks q) (overExperts b)) (ix1 i) = wd (Seg.before p r) := by
    unfold countW
    refine reduce_count (by decide) _ _ _ _ i (fun e => Seg.fin p e ≤ r) fun e => ?_
    show IntOp.cmpi .sle (overBlocks q (ix2 i e)) (overExperts b (ix2 i e)) = 1#1 ↔ _
    rw [overBlocks_at, overExperts_at, hq, hb]
    exact sle_words (Nat.lt_of_le_of_lt (fin_small p hi e) (by decide)) hr
  unfold holdsW
  rw [minsi_apply]
  have hble := Seg.before_le p r
  rw [hcount, bc0]
  show IntOp.minsi (wd _) (wd 63) = _
  rw [PlanTiles.minsi_word (by omega) (by omega), Nat.min_comm]

include hq in
theorem lastW_at (x : S_.Idx) : lastW q x = wd (Seg.fin p 63) := by
  unfold lastW
  refine (shapeCast_apply _ shapeCasts_S1_S_ x (ix1 (0 : Fin 1)) ?_).trans ?_
  · rfl
  exact (slice1 63 q _ (0 : Fin 1) (by decide)).trans (hq ⟨63, by decide⟩)

include hi hq in
theorem usedW_at (x : S1.Idx) : usedW q x = wd (Seg.nu p) := by
  unfold usedW
  rw [bc0]
  exact pyDiv0_ap (lastW q) (constantI S_ 32 256#32) (lastW_at p q hq _) rfl (by omega) (by decide) (by decide)

include hi hq in
theorem doneW_at (w : IVec S64 32) (hw : ∀ e : Fin 64, w (ix1 e) = wd (p e.val)) (hp : ∀ e : Fin 64, p e.val < 2 ^ 31) (i : Fin 320) :
    doneW w q (ix1 i) = wd (Seg.full p (256 * i.val)) := by
  unfold doneW countW
  refine reduce_count (by decide) _ _ _ _ i (fun e => Seg.fin p e ≤ 256 * i.val ∧ 0 < p e) fun e => ?_
  show IntOp.andi (IntOp.cmpi .sle (overBlocks q (ix2 i e)) (overExperts blkW (ix2 i e))) _ = 1#1 ↔ _
  rw [overBlocks_at, overExperts_at, hq, blkW_at]
  have hb : broadcastInDim S320x64 ![0, 1] bcast_S1x64_S320x64_0_1
      (cmpi .sgt (broadcastInDim S1x64 ![1] bcast_S64_S1x64_1 w) (broadcastInDim S1x64 ![] bcast_S_S1x64 (constantI S_ 32 0#32))) (ix2 i e)
      = IntOp.cmpi .sgt (wd (p e.val)) (wd 0) := by
    refine (broadcastInDim_apply _ _ _ _ (ix2 (0 : Fin 1) e) fun a => ?_).trans ?_
    · match a with
      | ⟨0, _⟩ => rfl
      | ⟨1, _⟩ => rfl
    · show IntOp.cmpi .sgt (broadcastInDim S1x64 ![1] bcast_S64_S1x64_1 w (ix2 (0 : Fin 1) e)) _ = _
      rw [bc0]
      refine congrArg (IntOp.cmpi .sgt · _) ?_
      refine (broadcastInDim_apply _ _ _ _ (ix1 e) fun a => ?_).trans (hw e)
      match a with
      | ⟨0, _⟩ => rfl
  rw [hb]
  rw [← sle_words (Nat.lt_of_le_of_lt (fin_small p hi e) (by decide)) (show 256 * i.val < 2 ^ 31 by omega), ← sgt_words (hp e) (by decide : 0 < 2 ^ 31)]
  exact IntOp.andi_eq_one

theorem parityW_at (x : IVec S320 32) (i : Fin 320) {n : ℕ} (hn : n < 2 ^ 31) (hx : x (ix1 i) = wd n) : parityW x (ix1 i) = wd (n % 2) :=
  pyRem_ap bcast_S_S320 x (constantI S_ 32 2#32) (ix1 i) hx rfl hn (by decide) (by decide)

/-! ## The least of a row -/

theorem fold_min {ι : Type} [DecidableEq ι] (g : ι → BitVec 32) (f : ι → ℕ) (S : Finset ι) (hg : ∀ i ∈ S, g i = wd (f i) ∧ f i < 2 ^ 31) :
    ∃ r, S.fold IntOp.minsi (wd 2147483647) g = wd r ∧ r < 2 ^ 31 ∧ (∀ i ∈ S, r ≤ f i) ∧ (r = 2147483647 ∨ ∃ i ∈ S, r = f i) := by
  induction S using Finset.cons_induction with
  | empty => exact ⟨2147483647, rfl, by decide, fun i hi => absurd hi (Finset.notMem_empty i), .inl rfl⟩
  | cons a S ha ih =>
    obtain ⟨r, h1, h2, h3, h4⟩ := ih fun i hi => hg i (Finset.mem_cons_of_mem hi)
    obtain ⟨hga, hfa⟩ := hg a (Finset.mem_cons_self a S)
    refine ⟨min r (f a), ?_, by omega, ?_, ?_⟩
    · rw [Finset.fold_cons, h1, hga]
      exact PlanTiles.minsi_word hfa h2
    · intro i hi
      rcases Finset.mem_cons.1 hi with rfl | hi
      · exact Nat.min_le_right _ _
      · exact (Nat.min_le_left _ _).trans (h3 i hi)
    · rcases Nat.le_total r (f a) with hl | hl
      · rw [Nat.min_eq_left hl]
        rcases h4 with h | ⟨i, hi, h⟩
        · exact .inl h
        · exact .inr ⟨i, Finset.mem_cons_of_mem hi, h⟩
      · rw [Nat.min_eq_right hl]
        exact .inr ⟨a, Finset.mem_cons_self a S, rfl⟩

theorem reduce_min (x : IVec S320x64 32) (i : Fin 320) (f : Fin 64 → ℕ) (hx : ∀ e, x (ix2 i e) = wd (f e)) (hf : ∀ e, f e < 2 ^ 31)
    (v : ℕ) (hv : ∃ e, f e = v) (hl : ∀ e, v ≤ f e) :
    Host.reduce IntOp.minsi x (constantI S_ 32 2147483647#32) reducesTo_S320x64_S320_d1 h_S_ (ix1 i) = wd v := by
  classical
  rw [Host.reduce_eq_fold]
  have hmem : ∀ j : S320x64.Idx, reducesTo_S320x64_S320_d1.drop j = ix1 i → j = ix2 i (j 1) := by
    intro j e
    have h0 : (reducesTo_S320x64_S320_d1.drop j 0 : ℕ) = j 0 := Shape.ReducesTo.drop_apply_val reducesTo_S320x64_S320_d1 j 0
    rw [e] at h0
    funext b
    match b with
    | ⟨0, _⟩ => exact Fin.ext h0.symm
    | ⟨1, _⟩ => rfl
  obtain ⟨r, h1, h2, h3, h4⟩ := fold_min x (fun j => f (j 1)) (Finset.univ.filter fun j => reducesTo_S320x64_S320_d1.drop j = ix1 i)
    fun j hj => ⟨(congrArg x (hmem j (Finset.mem_filter.1 hj).2)).trans (hx (j 1)), hf _⟩
  refine h1.trans (congrArg wd ?_)
  obtain ⟨e, he⟩ := hv
  have hin : (ix2 i e : S320x64.Idx) ∈ Finset.univ.filter fun j => reducesTo_S320x64_S320_d1.drop j = ix1 i := by
    refine Finset.mem_filter.2 ⟨Finset.mem_univ _, ?_⟩
    funext b
    match b with
    | ⟨0, _⟩ => exact Fin.ext (Shape.ReducesTo.drop_apply_val reducesTo_S320x64_S320_d1 (ix2 i e) 0)
  have hle : r ≤ f e := h3 _ hin
  have hfe := hf e
  rcases h4 with rfl | ⟨j, _, hj⟩
  · omega
  · have := hl (j 1)
    omega

include hi hq in
theorem segW_at (i : Fin 320) : segW q (ix1 i) = wd (Seg.upTo p (256 * i.val)) := by
  unfold segW
  have hs := fin_small p hi
  refine reduce_min _ i (fun e => if 256 * i.val < Seg.fin p e.val then Seg.fin p e.val else 81920) (fun e => ?_) (fun e => ?_) _ ?_ fun e => ?_
  · rw [select_apply, cmpi_apply]
    rw [overBlocks_at, overExperts_at, hq, blkW_at, bc0]
    have hw := sgt_words (Nat.lt_of_le_of_lt (hs e) (by decide)) (show 256 * i.val < 2 ^ 31 by omega)
    unfold Scalar.select
    by_cases h : 256 * i.val < Seg.fin p e.val
    · rw [if_pos h]
      exact if_pos (hw.2 h)
    · rw [if_neg h]
      exact if_neg fun hh => h (hw.1 hh)
  · have := hs e
    split <;> omega
  · unfold Seg.upTo
    by_cases h : Seg.before p (256 * i.val) < 64
    · refine ⟨⟨_, h⟩, ?_⟩
      have hb : 256 * i.val < Seg.fin p (Seg.before p (256 * i.val)) := by
        by_contra hc
        have := (Seg.before_iff p (256 * i.val) _ h).1 (by omega)
        omega
      rw [if_pos h, if_pos hb]
    · refine ⟨0, ?_⟩
      rw [if_neg h, if_neg]
      have := (Seg.before_iff p (256 * i.val) 0 (by decide)).2 (by omega)
      exact Nat.not_lt.2 this
  · have hse := hs e
    unfold Seg.upTo
    by_cases h : Seg.before p (256 * i.val) < 64
    · rw [if_pos h]
      split
      · next hlt =>
        refine Seg.fin_mono p ?_
        by_contra hc
        have := (Seg.before_iff p (256 * i.val) e.val e.isLt).2 (by omega)
        omega
      · exact fin_small p hi ⟨_, h⟩
    · rw [if_neg h]
      have := (Seg.before_iff p (256 * i.val) e.val e.isLt).2 (by omega)
      rw [if_neg (Nat.not_lt.2 this)]

theorem upTo_small (hi : Seg.fin p 63 ≤ 81920) (r : ℕ) : Seg.upTo p r ≤ 81920 := by
  unfold Seg.upTo
  split
  · next h => exact fin_small p hi ⟨_, h⟩
  · exact Nat.le_refl _

include hi hq in
theorem moreW_at (i : Fin 320) : moreW q (ix1 i) = if Seg.hn p i.val then 1#32 else 0#32 := by
  unfold moreW
  rw [extui_apply, cmpi_apply]
  rw [segW_at p hi q hq, bc0, lastW_at p q hq]
  have hu := upTo_small p hi (256 * i.val)
  unfold IntOp.cmpi
  dsimp only
  rw [slt_ofNat32 (by omega) (by omega), setWidth_ofBool]
  unfold Seg.hn
  by_cases h : Seg.upTo p (256 * i.val) < Seg.fin p 63
  · rw [if_pos h, if_pos (decide_eq_true h)]
  · rw [if_neg h, decide_eq_false h, if_neg Bool.false_ne_true]

end Tabs

end Cert.KernelIdeal.Hand

end
-- ==== Proof.Framed.lean ====
/-
  Under the precondition the host lines leave tables of which the kernel's run was proved: the run of the whole program.
-/
module

public import proofs.«01_k».proof.Proof.Eval
public import proofs.«01_k».proof.Defs
public import Idealize.ShloMosaic.Lib.ReduceAll

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.WordCmp
open Idealize.ShloMosaic.Pipeline (Dat Cfg Window BodyObligation cellOf)

variable {F : FTy → Type} [FloatOps F]

local notation "𝕄" => MT nD τ sig Unit (Elt F) ℕ (Pipeline.UD sig nD τ) ℕ

open Idealize.ShloMosaic.Routing Idealize.ShloMosaic.ValueIdx

/-! ## The precondition, decoded -/

theorem small_of_range {w : BitVec 32} (h0 : IntOp.cmpi .sge w 0#32 = 1#1) (h1 : IntOp.cmpi .sle w 8192#32 = 1#1) : w.toNat ≤ 8192 := by
  simp only [IntOp.cmpi, StableHlo.Predicate.ofBool_eq_one_iff, BitVec.sle, decide_eq_true_eq, BitVec.toInt_eq_toNat_cond] at h0 h1
  simp only [BitVec.toNat_ofNat] at h0 h1
  have := w.isLt
  split at h0 <;> split at h1 <;> omega

theorem sum_le (f : ℕ → ℕ) (b : ℕ) (h : ∀ e, f e ≤ b) : ∀ n, ((List.range n).map f).sum ≤ n * b
  | 0 => Nat.zero_le _
  | n + 1 => by
    have ih := sum_le f b h n
    have := h n
    rw [List.range_succ, List.map_append, List.sum_append, Nat.add_mul]
    simp only [List.map_cons, List.map_nil, List.sum_cons, List.sum_nil, Nat.add_zero]
    omega

theorem routed_of [Cert.Pre_routed.Facts] (c : IVec S64 32) (x g u d)
    (h : Cert.Pre_routed.fn (F := F) c x g u d = fun _ => 1#1) : Routed c := by
  have e := congrFun h ValueIdx.ix0
  dsimp only [Cert.Pre_routed.fn] at e
  obtain ⟨e1, e2⟩ := IntOp.andi_eq_one.1 e
  obtain ⟨ea, eb⟩ := IntOp.andi_eq_one.1 e1
  haveI : Subsingleton S_.Idx := ⟨fun a b => funext fun k => k.elim0⟩
  have hle : ∀ e, rowsOf c e ≤ 8192 := by
    intro e
    unfold rowsOf
    split
    · next he =>
      have h0 := Host.reduce_andi_all _ _ _ _ _ ea (ix1 (⟨e, he⟩ : Fin 64))
      have h1 := Host.reduce_andi_all _ _ _ _ _ eb (ix1 (⟨e, he⟩ : Fin 64))
      rw [cmpi_apply, bc0] at h0 h1
      exact small_of_range h0 h1
    · omega
  refine ⟨hle, ?_⟩
  have hs := StableHlo.Predicate.cmpi_eq_iff.1 e2
  rw [reduce_sum c (rowsOf c) (rowsOf_word c)] at hs
  have hb := sum_le (rowsOf c) 8192 hle 64
  have ht := congrArg BitVec.toNat hs
  rw [BitVec.toNat_ofNat, Nat.mod_eq_of_lt (by omega)] at ht
  exact ht

/-! ## What the call finds -/

variable (m : (ℓ : Loc nD τ sig) → Buf (Elt F) ℓ) (ρ : Dev nD → PrngReg)

/-- The counts. -/
def counts (c : Dev nD) : IVec S64 32 := m ((c.tc : Thread nD τ).loc main_arg0)

section Split
variable (c : Dev nD)

def X0 : Valuation τ sig (Elt F) := fun b => m (c, b)
def X3 : Valuation τ sig (Elt F) := StableHlo.after (hostOps0_2 ++ hostOps0_3) (StableHlo.after hostOps0_1 (StableHlo.after hostOps0 (X0 m c)))

theorem V_split (b : Ref sig .tc) : V m c b = StableHlo.after opsB (X3 m c) (Proc.devRef .tc b) := by
  unfold V X3
  have e : (opss (F := F)).flatten = hostOps0 ++ (hostOps0_1 ++ ((hostOps0_2 ++ hostOps0_3) ++ opsB)) := by
    simp only [opss, opsB, List.flatten_cons, List.flatten_nil, List.append_nil, List.append_assoc]
  rw [e, StableHlo.after_append, StableHlo.after_append, StableHlo.after_append]
  rfl

theorem X3_v4 : (StableHlo.after hostOps0_1 (StableHlo.after hostOps0 (X0 m c))) (Proc.devRef .tc main_v4)
    = floorW (broadcastInDim S64 ![] bcast_S_S64 (constantI S_ 32 256#32)) (broadcastInDim S64 ![] bcast_S_S64 (constantI S_ 32 1#32))
      (broadcastInDim S64 ![] bcast_S_S64 (constantI S_ 32 0#32)) (broadcastInDim S64 ![] bcast_S_S64 (signi (constantI S_ 32 256#32))) (upW (counts m c)) :=
  readA4 _ _ (readA3 _) (readAc _)
theorem X3_v6 : X3 m c (Proc.devRef .tc main_v6) = padW (counts m c) := by
  unfold X3 padW
  rw [readA6, X3_v4]
theorem X3_v7 : X3 m c (Proc.devRef .tc main_v7) = endW (padW (counts m c)) := by
  unfold X3 padW
  rw [readA7, X3_v4]

theorem V19 : V m c main_v19 = holdsW (endW (padW (counts m c))) blkW := by rw [V_split, readB19, X3_v7]
theorem V23 : V m c main_v23 = usedW (endW (padW (counts m c))) := by rw [V_split, readB23, X3_v7]
theorem V36 : V m c main_v36 = moreW (endW (padW (counts m c))) := by rw [V_split, readB36, X3_v7]
theorem V45 : V m c main_v45 = holdsW (endW (padW (counts m c))) (segW (endW (padW (counts m c)))) := by rw [V_split, readB45, X3_v7]
theorem V58 : V m c main_v58 = parityW (doneW (padW (counts m c)) (endW (padW (counts m c)))) := by rw [V_split, readB58, X3_v7, X3_v6]

theorem V_arg0 : V m c main_arg0 = m ((c.tc : Thread nD τ).loc main_arg0) := by
  rw [V_split]; unfold X3; after_reads_simp; rfl
theorem V_arg1 : V m c main_arg1 = m ((c.tc : Thread nD τ).loc main_arg1) := by
  rw [V_split]; unfold X3; after_reads_simp; rfl
theorem V_arg2 : V m c main_arg2 = m ((c.tc : Thread nD τ).loc main_arg2) := by
  rw [V_split]; unfold X3; after_reads_simp; rfl
theorem V_arg3 : V m c main_arg3 = m ((c.tc : Thread nD τ).loc main_arg3) := by
  rw [V_split]; unfold X3; after_reads_simp; rfl
theorem V_arg4 : V m c main_arg4 = m ((c.tc : Thread nD τ).loc main_arg4) := by
  rw [V_split]; unfold X3; after_reads_simp; rfl
theorem V59 : V m c main_v59 = shapeCast S64x2048x512 (m ((c.tc : Thread nD τ).loc main_arg2) : S1x64x2048x512.Idx → F .f32) shapeCasts_S1x64x2048x512_S64x2048x512 := by
  rw [V_split]; unfold X3; after_reads_simp; rfl
theorem V60 : V m c main_v60 = shapeCast S64x2048x512 (m ((c.tc : Thread nD τ).loc main_arg3) : S1x64x2048x512.Idx → F .f32) shapeCasts_S1x64x2048x512_S64x2048x512 := by
  rw [V_split]; unfold X3; after_reads_simp; rfl
theorem V61 : V m c main_v61 = shapeCast S64x512x2048 (m ((c.tc : Thread nD τ).loc main_arg4) : S1x64x512x2048.Idx → F .f32) shapeCasts_S1x64x512x2048_S64x512x2048 := by
  rw [V_split]; unfold X3; after_reads_simp; rfl
end Split

/-! ## The tables are a route -/

section Tables
variable (hc : Routed (counts m 0))

/-- The route of the counts. -/
def theRoute : Route := Seg.route (pad (counts m 0)) (pad_dvd _) (by have := total _ hc; omega) (by have := total _ hc; omega)

theorem theRoute_hn (i : ℕ) : (theRoute m hc).hn i = Seg.hn (pad (counts m 0)) i := Seg.route_hn _ _ _ _ _
theorem theRoute_be (i : ℕ) : (theRoute m hc).be i = Seg.be (pad (counts m 0)) i := Seg.route_be _ _ _ _ _
theorem theRoute_nu : (theRoute m hc).nu = Seg.nu (pad (counts m 0)) := Seg.route_nu _ _ _ _

theorem theTables : Tables (theRoute m hc) (tbl m) := by
  have hT := total _ hc
  have hq := endW_at (counts m 0) hc
  have hp := padW_at (counts m 0) hc
  have hi : Seg.fin (pad (counts m 0)) 63 ≤ 81920 := by omega
  constructor
  · intro i
    show V m 0 main_v19 (ix i) = _
    rw [V19, ix_eq, holdsW_at _ hi _ hq _ i (r := 256 * i.val) (by omega) (blkW_at i)]
    rfl
  · intro x
    show V m 0 main_v23 x = _
    rw [V23]
    exact usedW_at _ hi _ hq x
  · intro i
    show V m 0 main_v58 (ix i) = _
    rw [V58, ix_eq, parityW_at _ i (n := Seg.full (pad (counts m 0)) (256 * i.val)) (Nat.lt_of_le_of_lt (Nat.count_le _) (by decide))
      (doneW_at _ hi _ hq _ hp (fun e => by have := hc.le e.val; unfold pad; omega) i)]
    rfl
  · intro i
    have hu := upTo_small (pad (counts m 0)) hi (256 * i.val)
    show V m 0 main_v45 (ix i) = _
    rw [V45, ix_eq, holdsW_at _ hi _ hq _ i (r := Seg.upTo (pad (counts m 0)) (256 * i.val)) (by omega) (segW_at _ hi _ hq i)]
    rfl
  · intro i
    rw [theRoute_hn, ix_eq]
    exact (congrFun (V36 m 0) (ix1 i)).trans (moreW_at _ hi _ hq i)

/-- The block of rows that grid point `i` reads. -/
theorem win_at {R : Route} {pf : pre0.Contents (Elt F)} (hT : Tables R pf) (i : grid0.Coords) :
    cc0_transform_0 inb_S1_S1_0 numel1_S1 pf i = ![min (i 0).val (R.nu - 1), 0, 0] := by
  have hg := grid_lt i
  have hp := R.nu_pos
  have hl := R.nu_le
  unfold cc0_transform_0
  have h1 : pf.at 1 (Rect.unit (s := S1) ![0] S1.size inb_S1_S1_0) numel1_S1 = wd R.nu := hT.nu _
  dsimp only
  rw [h1]
  have hm : Scalar.minsi (BitVec.ofNat 32 (i 0).val) (Scalar.subi (wd R.nu) 1#32) = wd (min (i 0).val (R.nu - 1)) := by
    show IntOp.minsi _ (wd R.nu - 1#32) = _
    rw [StableHlo.Predicate.sub_one_ofNat _ hp (by omega), PlanTiles.minsi_word (by omega) (by omega), Nat.min_comm]
  rw [hm, small_toNat (by omega)]
  rfl

theorem ok_of {R : Route} {pf : pre0.Contents (Elt F)} (hT : Tables R pf) : ok0 pf := by
  intro i
  have hg := grid_lt i
  refine ⟨fun a => ?_, .inr (Affine.block_words_dvd (of_decide_eq_true rfl) (by decide))⟩
  rw [win_at hT i]
  match a with
  | ⟨0, _⟩ =>
    show (min (i 0).val (R.nu - 1) + 1) * 256 ≤ 81920
    omega
  | ⟨1, _⟩ => show (0 + 1) * 16 ≤ 16; omega
  | ⟨2, _⟩ => show (0 + 1) * 128 ≤ 128; omega

end Tables

/-! ## The run -/

/-- What is left of the run: the result array, and the arguments as they were. -/
theorem run_args (R : Route) (hT : Tables R (tbl m)) :
    θ_run defs (onTc (τ := τ) (main (F := F))) ⟨m, fun _ => 0, ρ⟩ (fun r =>
      (∀ c : Dev nD, (r.2.mem ((c.tc : Thread nD τ).loc main_v62) = (dats m R (ok_of hT) 0 c).arrAt 1 (C0 m (ok_of hT)).N)
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)))
      ∧ r.2.sem = fun _ => 0) :=
  (θ_run defs _ _).mono (fun _ h => ⟨fun c => ⟨(h.1 c).1 1,
      ((h.1 c).2 main_arg0 (Pipeline.mem_restRefs_of main_arg0 (by decide) (show ∀ w : Fin 2, (spec0 w).arr.view.ref ≠ main_arg0 by decide))).trans (V_arg0 m c),
      ((h.1 c).1 0).trans (((dats m R (ok_of hT) 0 c).arrAt_in 0 rfl _).trans ((A_eq m R (ok_of hT) c 0).trans (V_arg1 m c))),
      ((h.1 c).2 main_arg2 (Pipeline.mem_restRefs_of main_arg2 (by decide) (show ∀ w : Fin 2, (spec0 w).arr.view.ref ≠ main_arg2 by decide))).trans (V_arg2 m c),
      ((h.1 c).2 main_arg3 (Pipeline.mem_restRefs_of main_arg3 (by decide) (show ∀ w : Fin 2, (spec0 w).arr.view.ref ≠ main_arg3 by decide))).trans (V_arg3 m c),
      ((h.1 c).2 main_arg4 (Pipeline.mem_restRefs_of main_arg4 (by decide) (show ∀ w : Fin 2, (spec0 w).arr.view.ref ≠ main_arg4 by decide))).trans (V_arg4 m c)⟩, h.2⟩)
    (run_main m ρ R hT (ok_of hT))

end Cert.KernelIdeal.Hand

end
-- ==== Proof.KernelValue.lean ====
/-
  The array that the call leaves, element by element, over the extended reals.
-/
module

public import proofs.«01_k».proof.Proof.BlockOut
public import proofs.«01_k».proof.Proof.Framed
public import Idealize.ShloMosaic.Lib.Pipeline.ValueKit
public import Idealize.ShloMosaic.Lib.Pipeline.Covers

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.WordCmp
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt Ideal) ℓ) (R : Route) (hT : Tables R (tbl m)) (hok : ok0 (tbl m)) (c : Dev nD)

theorem point (t : Fin (C0 m hok).N) : t.val < 320 := t.isLt

/-- What the call leaves at row `n` and column `(a, b)`. -/
def resultAt (n : Fin 81920) (a : Fin 16) (b : Fin 128) : EReal :=
  if n.val / 256 < R.nu then
    swig (fun k => (V m c main_arg1 : S81920x16x128.Idx → EReal) (Idealize.ShloMosaic.ix3 n (hiOf k) (loOf k)))
      (fun k f => (wts m c).g (Idealize.ShloMosaic.ix3 (R.be (n.val / 256)) k f)) (fun k f => (wts m c).u (Idealize.ShloMosaic.ix3 (R.be (n.val / 256)) k f))
      (fun f => (wts m c).d (Idealize.ShloMosaic.ix3 (R.be (n.val / 256)) f (colOf a b)))
  else 0

theorem at_block (y : S256x16x128.Idx) : ∃ (r : Fin 256) (a : Fin 16) (b : Fin 128), y = Idealize.ShloMosaic.ix3 r a b :=
  ⟨y 0, y 1, y 2, Idealize.ShloMosaic.eq_ix3 y⟩

/-- Every block of the result is some grid point's. -/
theorem covers1 : ((C0 m hok).win 1).Covers :=
  Pipeline.Window.covers_of_index_surj _ rfl (show ∀ a : Fin 3, 0 < S256x16x128.size a by decide) fun β => by
    have h0 : (β (0 : Fin 3)).val < 320 := (β (0 : Fin 3)).isLt.trans_eq (by show (S81920x16x128.size 0 + S256x16x128.size 0 - 1) / S256x16x128.size 0 = 320; decide)
    refine ⟨⟨(β (0 : Fin 3)).val, h0⟩, fun a => ?_⟩
    have h1 : (β (1 : Fin 3)).val < 1 := (β (1 : Fin 3)).isLt.trans_eq (by show (S81920x16x128.size 1 + S256x16x128.size 1 - 1) / S256x16x128.size 1 = 1; decide)
    have h2 : (β (2 : Fin 3)).val < 1 := (β (2 : Fin 3)).isLt.trans_eq (by show (S81920x16x128.size 2 + S256x16x128.size 2 - 1) / S256x16x128.size 2 = 1; decide)
    show cc0_transform_4 (grid0.coords ⟨(β (0 : Fin 3)).val, h0⟩) a = (β a).val
    unfold cc0_transform_4
    rw [coord_val]
    match a with
    | ⟨0, _⟩ => exact small_toNat (by show (β (0 : Fin 3)).val < 2 ^ 31; omega)
    | ⟨1, _⟩ => show (0 : ℕ) = (β (1 : Fin 3)).val; omega
    | ⟨2, _⟩ => show (0 : ℕ) = (β (2 : Fin 3)).val; omega

/-- Where element `(r, a, b)` of point `t`'s block of the result stands. -/
theorem out_place (t : Fin (C0 m hok).N) (r : Fin 256) (a : Fin 16) (b : Fin 128) :
    (((C0 m hok).win 1).blk t).view.emb (Idealize.ShloMosaic.ix3 r a b : S256x16x128.Idx)
      = (Idealize.ShloMosaic.ix3 (⟨t.val * 256 + r.val, by have := point m hok t; omega⟩ : Fin 81920) a b : S81920x16x128.Idx) := by
  have hv : ∀ x, ((((C0 m hok).win 1).blk t).view.emb (Idealize.ShloMosaic.ix3 r a b : S256x16x128.Idx) x : ℕ)
      = cc0_transform_4 (grid0.coords t) x * S256x16x128.size x + ((Idealize.ShloMosaic.ix3 r a b : S256x16x128.Idx) x).val := fun x => by
    blk_simp
    rfl
  funext x
  apply Fin.ext
  rw [hv]
  unfold cc0_transform_4
  rw [coord_val]
  have ht := point m hok t
  match x with
  | ⟨0, _⟩ =>
    show (wd t.val).toNat * 256 + r.val = t.val * 256 + r.val
    rw [small_toNat (by omega)]
  | ⟨1, _⟩ => show 0 * 16 + a.val = a.val; omega
  | ⟨2, _⟩ => show 0 * 128 + b.val = b.val; omega

include hT in
/-- The same for the rows that the point reads, while it is a block in use. -/
theorem in_place (t : Fin (C0 m hok).N) (h : t.val < R.nu) (r : Fin 256) (a : Fin 16) (b : Fin 128) :
    (((C0 m hok).win 0).blk t).view.emb (Idealize.ShloMosaic.ix3 r a b : S256x16x128.Idx)
      = (Idealize.ShloMosaic.ix3 (⟨t.val * 256 + r.val, by have := point m hok t; omega⟩ : Fin 81920) a b : S81920x16x128.Idx) := by
  have hv : ∀ x, ((((C0 m hok).win 0).blk t).view.emb (Idealize.ShloMosaic.ix3 r a b : S256x16x128.Idx) x : ℕ)
      = cc0_transform_0 inb_S1_S1_0 numel1_S1 (tbl m) (grid0.coords t) x * S256x16x128.size x + ((Idealize.ShloMosaic.ix3 r a b : S256x16x128.Idx) x).val := fun x => by
    blk_simp
    rfl
  funext x
  apply Fin.ext
  rw [hv, win_at hT, coord_val]
  have ht := point m hok t
  match x with
  | ⟨0, _⟩ =>
    show min t.val (R.nu - 1) * 256 + r.val = t.val * 256 + r.val
    rw [Nat.min_eq_left (by omega)]
  | ⟨1, _⟩ => show 0 * 16 + a.val = a.val; omega
  | ⟨2, _⟩ => show 0 * 128 + b.val = b.val; omega

include hT in
theorem xAt_at (t : Fin (C0 m hok).N) (h : t.val < R.nu) (r : Fin 256) (a : Fin 16) (b : Fin 128) :
    xAt m hok c t (Idealize.ShloMosaic.ix3 r a b)
      = (V m c main_arg1 : S81920x16x128.Idx → EReal) (Idealize.ShloMosaic.ix3 (⟨t.val * 256 + r.val, by have := point m hok t; omega⟩ : Fin 81920) a b) :=
  congrArg (V m c main_arg1 : S81920x16x128.Idx → EReal) (in_place m R hT hok t h r a b)

include hT in
/-- The result array. -/
theorem result_eq : (dats m R hok 0 c).arrAt 1 (C0 m hok).N
    = (fun j => resultAt m R c (j 0) (j 1) (j 2) : S81920x16x128.Idx → EReal) := by
  refine (dats m R hok 0 c).arrAt_eq_of_covers 1 _ (covers1 m hok) fun t hf y => ?_
  show (dats m R hok 0 c).after 1 t y = _
  rw [after1, coord_val]
  obtain ⟨r, a, b, rfl⟩ := at_block y
  rw [out_place]
  refine (outAt_at _ _ r a b R t.val).trans ?_
  show _ = resultAt m R c (⟨t.val * 256 + r.val, _⟩ : Fin 81920) a b
  unfold resultAt
  have hq : (t.val * 256 + r.val) / 256 = t.val := by omega
  dsimp only
  rw [hq]
  by_cases h : t.val < R.nu
  · rw [if_pos h, if_pos h]
    unfold blockAt
    simp only [xAt_at m R hT hok c t h]
  · rw [if_neg h, if_neg h]

end Cert.KernelIdeal.Hand

end
-- ==== Proof.RefValue.lean ====
/-
  The reference's result as one expression in the segments' ends, the blocks' experts, the rows and the weights; and that
  expression element by element, over the extended reals.
-/
module

public import proofs.«01_k».proof.Proof.Swiglu
public import proofs.«01_k».proof.Proof.Gen.ReferenceIdeal.Run
public import Idealize.ShloMosaic.Lib.Pointwise

@[expose] public section

noncomputable section

namespace Cert.ReferenceIdeal.Hand

open Cert.ReferenceIdeal Cert.ReferenceIdeal.Gen Idealize.ShloMosaic Idealize.ShloMosaic.TcCoe
open Cert.KernelIdeal.Hand (swig hiOf loOf colOf)

variable {F : FTy → Type} [FloatOps F]

/-- The experts' numbers as jnp takes them: a negative one counts from the end. -/
def takenW (be : IVec S320 32) : IVec S320x1 32 :=
  broadcastInDim S320x1 ![0] bcast_S320_S320x1_0 (select (cmpi .slt be (broadcastInDim S320 ![] bcast_S_S320 (constantI S_ 32 0#32)))
    (addi be (broadcastInDim S320 ![] bcast_S_S320 (constantI S_ 32 64#32))) be)

/-- The rows in blocks of 256, times each block's expert's matrix. -/
def timesW (x : FVec F S81920x16x128 .bf16) (be : IVec S320 32) (w : FVec F S1x64x2048x512 .f32) : FVec F S320x256x512 .f32 :=
  Host.dotGeneral dot_S320x256x2048_S320x2048x512_S320x256x512_2_1_1_2_0_0 none
    (shapeCast _ (extf .f32 x bitsLt_bf16_f32) shapeCasts_S81920x16x128_S320x256x2048)
    (Host.gather gather_S64x2048x512_S320x1_S320x2048x512_12_0_n_n_0_1_12048512 (shapeCast _ w shapeCasts_S1x64x2048x512_S64x2048x512) (takenW be))

/-- SiLU of the gate times the other product. -/
def actW (g u : FVec F S320x256x512 .f32) : FVec F S320x256x512 .f32 :=
  mulf (mulf g (Host.divf (broadcastInDim S320x256x512 ![] bcast_S_S320x256x512 (constant S_ .f32 0x3F800000#32))
    (addf (broadcastInDim S320x256x512 ![] bcast_S_S320x256x512 (constant S_ .f32 0x3F800000#32)) (Host.exp (Host.negf g))))) u

/-- All blocks through their experts. -/
def denseW (x : FVec F S81920x16x128 .bf16) (be : IVec S320 32) (wg wu : FVec F S1x64x2048x512 .f32) (wd : FVec F S1x64x512x2048 .f32) :
    FVec F S320x256x2048 .f32 :=
  Host.dotGeneral dot_S320x256x512_S320x512x2048_S320x256x2048_2_1_1_2_0_0 none (actW (timesW x be wg) (timesW x be wu))
    (Host.gather gather_S64x512x2048_S320x1_S320x512x2048_12_0_n_n_0_1_15122048 (shapeCast _ wd shapeCasts_S1x64x512x2048_S64x512x2048) (takenW be))

/-- Which blocks begin before the last segment's end. -/
def usedW (first : IVec S320 32) (last : IVec S_ 32) : IVec S320x256x2048 1 :=
  broadcastInDim S320x256x2048 ![0, 1, 2] bcast_S320x1x1_S320x256x2048_0_1_2 (broadcastInDim S320x1x1 ![0] bcast_S320_S320x1x1_0
    (cmpi .slt first (broadcastInDim S320 ![] bcast_S_S320 last)))

/-- The reference's result. -/
def refW (first : IVec S320 32) (last : IVec S_ 32) (be : IVec S320 32) (x : FVec F S81920x16x128 .bf16)
    (wg wu : FVec F S1x64x2048x512 .f32) (wd : FVec F S1x64x512x2048 .f32) : FVec F S81920x16x128 .bf16 :=
  truncf .bf16 (shapeCast _ (select (usedW first last) (denseW x be wg wu wd)
    (broadcastInDim S320x256x2048 ![] bcast_S_S320x256x2048 (id (constant S_ .f32 0x00000000#32)))) shapeCasts_S320x256x2048_S81920x16x128) bitsLt_bf16_f32

section At
variable (i : Fin 320) (e : Fin 64) (idx : IVec S320x1 32) (he : idx (ix2 i (0 : Fin 1)) = BitVec.ofNat 32 e.val)

include he in
theorem start_at : min (idx (ix2 i (0 : Fin 1))).toInt.toNat 63 = e.val := by
  rw [he]
  clear he
  revert e
  decide

include he in
theorem gatherG_at {α : Type} (w : S64x2048x512.Idx → α) (k : Fin 2048) (f : Fin 512) :
    Host.gather gather_S64x2048x512_S320x1_S320x2048x512_12_0_n_n_0_1_12048512 w idx (ix3 i k f) = w (ix3 e k f) := by
  unfold Host.gather
  refine congrArg w (funext fun a => Fin.ext ?_)
  match a with
  | ⟨0, _⟩ =>
    refine Eq.trans ?_ (start_at i e idx he)
    show min (idx _).toInt.toNat 63 + 0 + 0 = _
    refine congrArg (fun j => min (idx j).toInt.toNat 63) (funext fun a => ?_)
    match a with
    | ⟨0, _⟩ => rfl
    | ⟨1, _⟩ => rfl
  | ⟨1, _⟩ => exact (Nat.zero_add _).trans rfl
  | ⟨2, _⟩ => exact (Nat.zero_add _).trans rfl

include he in
theorem gatherD_at {α : Type} (w : S64x512x2048.Idx → α) (f : Fin 512) (k : Fin 2048) :
    Host.gather gather_S64x512x2048_S320x1_S320x512x2048_12_0_n_n_0_1_15122048 w idx (ix3 i f k) = w (ix3 e f k) := by
  unfold Host.gather
  refine congrArg w (funext fun a => Fin.ext ?_)
  match a with
  | ⟨0, _⟩ =>
    refine Eq.trans ?_ (start_at i e idx he)
    show min (idx _).toInt.toNat 63 + 0 + 0 = _
    refine congrArg (fun j => min (idx j).toInt.toNat 63) (funext fun a => ?_)
    match a with
    | ⟨0, _⟩ => rfl
    | ⟨1, _⟩ => rfl
  | ⟨1, _⟩ => exact (Nat.zero_add _).trans rfl
  | ⟨2, _⟩ => exact (Nat.zero_add _).trans rfl

end At

theorem takenW_at (be : IVec S320 32) (i : Fin 320) (e : Fin 64) (he : be (ix1 i) = BitVec.ofNat 32 e.val) :
    takenW be (ix2 i (0 : Fin 1)) = BitVec.ofNat 32 e.val := by
  pointwise [takenW]
  rw [he]
  clear he
  revert e
  decide

section Dense
variable (x : FVec Ideal S81920x16x128 .bf16) (be : IVec S320 32) (i : Fin 320) (e : Fin 64) (he : be (ix1 i) = BitVec.ofNat 32 e.val)

/-- Row `r` of block `i`. -/
def rowOf (i : Fin 320) (r : Fin 256) : Fin 81920 := ⟨i.val * 256 + r.val, by omega⟩

include he in
theorem timesW_at (w : FVec Ideal S1x64x2048x512 .f32) (r : Fin 256) (f : Fin 512) :
    timesW x be w (ix3 i r f) = ∑ k : Fin 2048, x (ix3 (rowOf i r) (hiOf k) (loOf k)) * w (ix4 (0 : Fin 1) e k f) := by
  pointwise [timesW]
  simp only [gatherG_at i e _ (takenW_at be i e he)]
  pointwise
  rfl

include he in
theorem denseW_at (wg wu : FVec Ideal S1x64x2048x512 .f32) (wd : FVec Ideal S1x64x512x2048 .f32) (r : Fin 256) (k : Fin 2048) :
    denseW x be wg wu wd (ix3 i r k) = swig (fun k => x (ix3 (rowOf i r) (hiOf k) (loOf k))) (fun k f => wg (ix4 (0 : Fin 1) e k f))
      (fun k f => wu (ix4 (0 : Fin 1) e k f)) (fun f => wd (ix4 (0 : Fin 1) e f k)) := by
  pointwise [denseW, actW]
  simp only [gatherD_at i e _ (takenW_at be i e he), timesW_at x be i e he]
  pointwise
  rfl

end Dense

/-- The reference's result at a row and a column. -/
theorem refW_at (first : IVec S320 32) (last : IVec S_ 32) (be : IVec S320 32) (x : FVec Ideal S81920x16x128 .bf16)
    (wg wu : FVec Ideal S1x64x2048x512 .f32) (wd : FVec Ideal S1x64x512x2048 .f32) (n : Fin 81920) (a : Fin 16) (b : Fin 128)
    (i : Fin 320) (hi : i.val = n.val / 256) (e : Fin 64) (he : be (ix1 i) = BitVec.ofNat 32 e.val)
    (P : Prop) [Decidable P] (hP : IntOp.cmpi .slt (first (ix1 i)) (last ix0) = 1#1 ↔ P) :
    refW first last be x wg wu wd (ix3 n a b)
      = if P then swig (fun k => x (ix3 n (hiOf k) (loOf k))) (fun k f => wg (ix4 (0 : Fin 1) e k f)) (fun k f => wu (ix4 (0 : Fin 1) e k f))
          (fun f => wd (ix4 (0 : Fin 1) e f (colOf a b))) else 0 := by
  have hd : n.val / 256 < 320 := by have := n.isLt; omega
  have ei : (⟨n.val / 256, hd⟩ : Fin 320) = i := Fin.ext hi.symm
  pointwise [refW, usedW]
  rw [ei, denseW_at x be i e he]
  have hn : rowOf i ⟨n.val % 256, by omega⟩ = n := Fin.ext (by show i.val * 256 + n.val % 256 = n.val; omega)
  rw [hn]
  have hz : (id (constant (F := Ideal) S_ .f32 0x00000000#32) ix0 : EReal) = 0 := by unfold id; pointwise
  rw [hz]
  unfold Scalar.select
  by_cases h : P
  · rw [if_pos h, hP.2 h]; rfl
  · rw [if_neg h]
    have hne := fun h' => h (hP.1 h')
    exact if_neg hne

end Cert.ReferenceIdeal.Hand

end
-- ==== Proof.Same.lean ====
/-
  The two kernel programs are one text.
-/
module

public import proofs.«01_k».proof.Proof.Setup
public import proofs.«01_k».proof.Kernel
public import proofs.«01_k».proof.Proof.Gen.Kernel
public import proofs.«01_k».proof.Proof.Gen.Kernel.Launch
public import proofs.«01_k».proof.Proof.Gen.KernelIdeal.Launch

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.WordCmp
open Idealize.ShloMosaic.Pipeline (Dat Cfg Window BodyObligation cellOf)

variable {F : FTy → Type} [FloatOps F]

local notation "𝕄" => MT nD τ sig Unit (Elt F) ℕ (Pipeline.UD sig nD τ) ℕ

theorem calls_same : @Cert.Kernel.pcfgs F _ _ = @Cert.KernelIdeal.pcfgs F _ _ := Eq.trans rfl rfl
theorem ops_same : (Cert.Kernel.Gen.hostOps0 : List (HloOp Cert.Kernel.τ Cert.Kernel.sig (Elt F))) = Cert.KernelIdeal.Gen.hostOps0 (F := F) := Eq.trans rfl rfl
theorem ops_same_1 : (Cert.Kernel.Gen.hostOps0_1 : List (HloOp Cert.Kernel.τ Cert.Kernel.sig (Elt F))) = Cert.KernelIdeal.Gen.hostOps0_1 (F := F) := Eq.trans rfl rfl
theorem ops_same_2 : (Cert.Kernel.Gen.hostOps0_2 : List (HloOp Cert.Kernel.τ Cert.Kernel.sig (Elt F))) = Cert.KernelIdeal.Gen.hostOps0_2 (F := F) := Eq.trans rfl rfl
theorem ops_same_3 : (Cert.Kernel.Gen.hostOps0_3 : List (HloOp Cert.Kernel.τ Cert.Kernel.sig (Elt F))) = Cert.KernelIdeal.Gen.hostOps0_3 (F := F) := Eq.trans rfl rfl
theorem ops_same_4 : (Cert.Kernel.Gen.hostOps0_4 : List (HloOp Cert.Kernel.τ Cert.Kernel.sig (Elt F))) = Cert.KernelIdeal.Gen.hostOps0_4 (F := F) := Eq.trans rfl rfl
theorem ops_same_5 : (Cert.Kernel.Gen.hostOps0_5 : List (HloOp Cert.Kernel.τ Cert.Kernel.sig (Elt F))) = Cert.KernelIdeal.Gen.hostOps0_5 (F := F) := Eq.trans rfl rfl
theorem ops_same_6 : (Cert.Kernel.Gen.hostOps0_6 : List (HloOp Cert.Kernel.τ Cert.Kernel.sig (Elt F))) = Cert.KernelIdeal.Gen.hostOps0_6 (F := F) := Eq.trans rfl rfl
theorem ops_same_7 : (Cert.Kernel.Gen.hostOps0_7 : List (HloOp Cert.Kernel.τ Cert.Kernel.sig (Elt F))) = Cert.KernelIdeal.Gen.hostOps0_7 (F := F) := Eq.trans rfl rfl
theorem ops_same_8 : (Cert.Kernel.Gen.hostOps0_8 : List (HloOp Cert.Kernel.τ Cert.Kernel.sig (Elt F))) = Cert.KernelIdeal.Gen.hostOps0_8 (F := F) := Eq.trans rfl rfl
theorem ops_same_9 : (Cert.Kernel.Gen.hostOps0_9 : List (HloOp Cert.Kernel.τ Cert.Kernel.sig (Elt F))) = Cert.KernelIdeal.Gen.hostOps0_9 (F := F) := Eq.trans rfl rfl
theorem ops_same_10 : (Cert.Kernel.Gen.hostOps0_10 : List (HloOp Cert.Kernel.τ Cert.Kernel.sig (Elt F))) = Cert.KernelIdeal.Gen.hostOps0_10 (F := F) := Eq.trans rfl rfl

theorem bodies_same : @Cert.Kernel.defs₀ F _ _ = @Cert.KernelIdeal.defs₀ F _ _ := by
  unfold Cert.Kernel.defs₀ Cert.KernelIdeal.defs₀
  refine congrArg Defs.onTc (funext fun l => funext fun a => ?_)
  match l, a with
  | 0, (t, s) => exact Eq.trans rfl rfl
theorem defs_same : @Cert.Kernel.defs F _ _ = @Cert.KernelIdeal.defs F _ _ := by
  unfold Cert.Kernel.defs Cert.KernelIdeal.defs
  rw [bodies_same]
  rfl

/-- Host lines, then the call. -/
def linesThenCall (L : List (List (HloOp τ sig (Elt F)))) : Prog (TpuEff nD τ sig (Elt F) (Pipeline.Sig Λ₀ (Fin 1) fun p => (pcfgs (F := F) p).Adm) .tc) PUnit :=
  Pipeline.chain (L.map StableHlo.seq ++ [Prog.lift (.customCall (Pipeline.entry 0) ())])

theorem lines_kernel (c : Dev nD) : Cert.Kernel.main (F := F) c = linesThenCall [Cert.Kernel.Gen.hostOps0, Cert.Kernel.Gen.hostOps0_1, Cert.Kernel.Gen.hostOps0_2, Cert.Kernel.Gen.hostOps0_3, Cert.Kernel.Gen.hostOps0_4, Cert.Kernel.Gen.hostOps0_5, Cert.Kernel.Gen.hostOps0_6, Cert.Kernel.Gen.hostOps0_7, Cert.Kernel.Gen.hostOps0_8, Cert.Kernel.Gen.hostOps0_9, Cert.Kernel.Gen.hostOps0_10] :=
  (Cert.Kernel.Gen.main_chain c).trans rfl

theorem lines_ideal (c : Dev nD) : Cert.KernelIdeal.main (F := F) c = linesThenCall [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10] :=
  (Cert.KernelIdeal.Gen.main_chain c).trans rfl

theorem cons_same {a b : List (HloOp τ sig (Elt F))} {l k : List (List (HloOp τ sig (Elt F)))} (h : a = b) (h' : l = k) : a :: l = b :: k := by rw [h, h']

theorem main_same_at (c : Dev nD) : Cert.Kernel.main (F := F) c = Cert.KernelIdeal.main (F := F) c :=
  (lines_kernel c).trans ((congrArg linesThenCall (
    cons_same ops_same (cons_same ops_same_1 (cons_same ops_same_2 (cons_same ops_same_3 (cons_same ops_same_4 (cons_same ops_same_5 (cons_same ops_same_6 (cons_same ops_same_7 (cons_same ops_same_8 (cons_same ops_same_9 (cons_same ops_same_10 rfl)))))))))))).trans (lines_ideal c).symm)
theorem main_same : Cert.Kernel.main (F := F) = Cert.KernelIdeal.main (F := F) := funext main_same_at

/-- A run of the one text is a run of the other. -/
theorem same_run (s : MemSt nD τ sig (Elt F)) (Q : PUnit × MemSt nD τ sig (Elt F) → Prop)
    (h : θ_run (Cert.KernelIdeal.defs (F := F)) (onTc (τ := τ) (Cert.KernelIdeal.main (F := F))) s Q) :
    θ_run (Cert.Kernel.defs (F := F)) (onTc (τ := Cert.Kernel.τ) (Cert.Kernel.main (F := F))) s Q := by
  have e : θ_run (Cert.Kernel.defs (F := F)) (onTc (τ := Cert.Kernel.τ) (Cert.Kernel.main (F := F))) s
      = θ_run (Cert.KernelIdeal.defs (F := F)) (onTc (τ := τ) (Cert.KernelIdeal.main (F := F))) s := by
    rw [main_same, defs_same]
    rfl
  rw [e]
  exact h

end Cert.KernelIdeal.Hand

end
-- ==== Proof.Frames.lean ====
/-
  The frames of the three programs.
-/
module

public import proofs.«01_k».proof.Proof.Framed
public import proofs.«01_k».proof.Proof.Same
public import proofs.«01_k».proof.Proof.Gen.ReferenceIdeal.Run

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.WordCmp
open Idealize.ShloMosaic.Pipeline (Dat Cfg Window BodyObligation cellOf)

variable {F : FTy → Type} [FloatOps F]

local notation "𝕄" => MT nD τ sig Unit (Elt F) ℕ (Pipeline.UD sig nD τ) ℕ

/-- The kernel at ideal arithmetic leaves its arguments alone and every counter at zero. -/
theorem frame_ideal [hPre : Cert.Pre_routed.Facts] : Cert.quiescent_KernelIdeal := fun m ρ hpre =>
  (θ_run Cert.KernelIdeal.defs _ _).mono (fun _ h => ⟨fun c => (h.1 c).2, h.2⟩)
    (run_args (F := Ideal) m ρ _ (theTables m (routed_of _ _ _ _ _ (hpre 0))))

theorem routed_bits [hPre : Cert.Pre_routed.Facts] (m : (ℓ : Loc Cert.Kernel.nD Cert.Kernel.τ Cert.Kernel.sig) → Buf (Elt Bits) ℓ)
    (h : Cert.Pre_Kernel m) : Routed (counts (F := Bits) m 0) := routed_of _ _ _ _ _ (h 0)

/-- The kernel at machine arithmetic does too. -/
theorem frame_bits [hPre : Cert.Pre_routed.Facts] : Cert.quiescent_Kernel := fun m ρ hpre =>
  same_run (F := Bits) _ _ ((θ_run Cert.KernelIdeal.defs _ _).mono (fun _ h => ⟨fun c => (h.1 c).2, h.2⟩)
    (run_args (F := Bits) m ρ _ (theTables m (routed_bits m hpre))))

/-- The reference, a list of host operations, does too. -/
theorem frame_reference [hPre : Cert.Pre_routed.Facts] : Cert.quiescent_ReferenceIdeal := by
  intro m ρ _
  exact (θ_run Cert.ReferenceIdeal.defs _ _).mono (fun r h => ⟨fun c => (h c).2,
      Idealize.ShloMosaic.sem_eq_zero_of_no_sems (by decide) r.2⟩)
    (Cert.ReferenceIdeal.Value.run (F := Ideal) m ρ)

end Cert.KernelIdeal.Hand

end
-- ==== Proof.Algebraic.lean ====
/-
  The call and the reference leave the same array, at ideal arithmetic.
-/
module

public import proofs.«01_k».proof.Proof.KernelValue
public import proofs.«01_k».proof.Proof.RefValue
public import proofs.«01_k».proof.Proof.Frames
public import Idealize.ShloMosaic.Lib.Pointwise.IndexBridge

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.WordCmp
open Idealize.ShloMosaic.Pipeline (Dat Cfg Window BodyObligation cellOf)

variable {F : FTy → Type} [FloatOps F]

local notation "𝕄" => MT nD τ sig Unit (Elt F) ℕ (Pipeline.UD sig nD τ) ℕ

section Term
variable (m' : (ℓ : Loc Cert.ReferenceIdeal.nD Cert.ReferenceIdeal.τ Cert.ReferenceIdeal.sig) → Buf (Elt F) ℓ) (c : Dev nD)

attribute [local irreducible] Host.reduceWindow Host.reduce Host.gather in
set_option maxRecDepth 100000 in
/-- The reference's result, in the tables that the kernel's host lines compute too. -/
theorem ref_term : Cert.ReferenceIdeal.Value.res_main_v58 m' c
    = Cert.ReferenceIdeal.Hand.refW blkW (lastW (endW (padW (m' ((c.tc : Thread nD τ).loc Cert.ReferenceIdeal.main_arg0)))))
        (holdsW (endW (padW (m' ((c.tc : Thread nD τ).loc Cert.ReferenceIdeal.main_arg0)))) blkW)
        (m' ((c.tc : Thread nD τ).loc Cert.ReferenceIdeal.main_arg1)) (m' ((c.tc : Thread nD τ).loc Cert.ReferenceIdeal.main_arg2))
        (m' ((c.tc : Thread nD τ).loc Cert.ReferenceIdeal.main_arg3)) (m' ((c.tc : Thread nD τ).loc Cert.ReferenceIdeal.main_arg4)) := by
  unfold Cert.ReferenceIdeal.Value.res_main_v58
  rfl

end Term

theorem slt_words {a b : ℕ} (ha : a < 2 ^ 31) (hb : b < 2 ^ 31) : IntOp.cmpi .slt (wd a) (wd b) = 1#1 ↔ a < b := by
  rw [StableHlo.Predicate.slt_iff_toNat (by rw [small_toNat ha]; exact ha) (by rw [small_toNat hb]; exact hb), small_toNat ha, small_toNat hb]

theorem lead_at (w : S1x64x2048x512.Idx → EReal) (e : Fin 64) (k : Fin 2048) (f : Fin 512) :
    shapeCast S64x2048x512 w shapeCasts_S1x64x2048x512_S64x2048x512 (Idealize.ShloMosaic.ix3 e k f) = w (Idealize.ShloMosaic.ix4 (0 : Fin 1) e k f) := by
  pointwise
theorem leadD_at (w : S1x64x512x2048.Idx → EReal) (e : Fin 64) (f : Fin 512) (k : Fin 2048) :
    shapeCast S64x512x2048 w shapeCasts_S1x64x512x2048_S64x512x2048 (Idealize.ShloMosaic.ix3 e f k) = w (Idealize.ShloMosaic.ix4 (0 : Fin 1) e f k) := by
  pointwise

section Equal
variable (m : (ℓ : Loc nD τ sig) → Buf (Elt Ideal) ℓ) (hc : Routed (counts m 0))

/-- A weight matrix as the call takes it, at an index. -/
theorem wts_at (c : Dev nD) (e : Fin 64) :
    (∀ (k : Fin 2048) (f : Fin 512), (wts m c).g (Idealize.ShloMosaic.ix3 e k f) = (m ((c.tc : Thread nD τ).loc main_arg2) : S1x64x2048x512.Idx → EReal) (Idealize.ShloMosaic.ix4 (0 : Fin 1) e k f))
    ∧ (∀ (k : Fin 2048) (f : Fin 512), (wts m c).u (Idealize.ShloMosaic.ix3 e k f) = (m ((c.tc : Thread nD τ).loc main_arg3) : S1x64x2048x512.Idx → EReal) (Idealize.ShloMosaic.ix4 (0 : Fin 1) e k f))
    ∧ (∀ (f : Fin 512) (k : Fin 2048), (wts m c).d (Idealize.ShloMosaic.ix3 e f k) = (m ((c.tc : Thread nD τ).loc main_arg4) : S1x64x512x2048.Idx → EReal) (Idealize.ShloMosaic.ix4 (0 : Fin 1) e f k)) := by
  refine ⟨fun k f => ?_, fun k f => ?_, fun f k => ?_⟩
  · show V m c main_v59 (Idealize.ShloMosaic.ix3 e k f) = _
    rw [V59]
    exact lead_at _ _ _ _
  · show V m c main_v60 (Idealize.ShloMosaic.ix3 e k f) = _
    rw [V60]
    exact lead_at _ _ _ _
  · show V m c main_v61 (Idealize.ShloMosaic.ix3 e f k) = _
    rw [V61]
    exact leadD_at _ _ _ _

/-- Element by element, the call leaves what the reference's expression says. -/
theorem equal_at (n : Fin 81920) (a : Fin 16) (b : Fin 128) :
    resultAt m (theRoute m hc) 0 n a b
      = Cert.ReferenceIdeal.Hand.refW (F := Ideal) blkW (lastW (endW (padW (counts m 0)))) (holdsW (endW (padW (counts m 0))) blkW)
          (m (((0 : Dev nD).tc : Thread nD τ).loc main_arg1)) (m (((0 : Dev nD).tc : Thread nD τ).loc main_arg2))
          (m (((0 : Dev nD).tc : Thread nD τ).loc main_arg3)) (m (((0 : Dev nD).tc : Thread nD τ).loc main_arg4)) (Idealize.ShloMosaic.ix3 n a b) := by
  have hT := total _ hc
  have hi : Seg.fin (pad (counts m 0)) 63 ≤ 81920 := by omega
  have hq := endW_at (counts m 0) hc
  have hn : n.val / 256 < 320 := by have := n.isLt; omega
  have hm := Seg.nu_mul (pad (counts m 0)) (pad_dvd _)
  have hb := blkW_at ⟨n.val / 256, hn⟩
  refine Eq.trans ?_ (Cert.ReferenceIdeal.Hand.refW_at _ _ _ _ _ _ _ n a b ⟨n.val / 256, hn⟩ rfl (Seg.be (pad (counts m 0)) (n.val / 256)) ?_
    (n.val / 256 < (theRoute m hc).nu) ?_).symm
  · unfold resultAt
    have hw := wts_at m 0 (Seg.be (pad (counts m 0)) (n.val / 256))
    rw [theRoute_be]
    simp only [V_arg1, hw.1, hw.2.1, hw.2.2]
  · rw [Idealize.ShloMosaic.ix1_eq_valueIdx]
    exact (holdsW_at _ hi _ hq blkW ⟨n.val / 256, hn⟩ (by omega) hb).trans rfl
  · rw [Idealize.ShloMosaic.ix1_eq_valueIdx, hb, lastW_at _ _ hq, slt_words (by show 256 * (n.val / 256) < 2 ^ 31; omega) (by omega), theRoute_nu]
    show 256 * (n.val / 256) < _ ↔ _
    omega

end Equal

/-- The two programs' results are equal, as extended reals. -/
theorem algebraic [hPre : Cert.Pre_routed.Facts] : Cert.algebraic_KernelIdeal_ReferenceIdeal := fun m g m' g' hpre hagree => by
  have hc : Routed (counts m 0) := routed_of _ _ _ _ _ (hpre 0)
  refine ⟨fun c => (dats m (theRoute m hc) (ok_of (theTables m hc)) 0 c).arrAt 1 (C0 m (ok_of (theTables m hc))).N, ?_, ?_⟩
  · exact (θ_run Cert.KernelIdeal.defs _ _).mono (fun _ h => h.1) (run_args (F := Ideal) m g _ (theTables m hc))
  · refine (θ_run Cert.ReferenceIdeal.defs _ _).mono (fun r h c => ⟨(h c).1.trans ?_, (h c).2⟩) (Cert.ReferenceIdeal.Value.run (F := Ideal) m' g')
    obtain rfl : c = 0 := Subsingleton.elim _ _
    obtain ⟨h0, h1, h2, h3, h4⟩ := hagree 0
    refine (ref_term m' 0).trans ?_
    rw [h0, h1, h2, h3, h4]
    refine Eq.trans ?_ (result_eq m _ (theTables m hc) (ok_of (theTables m hc)) 0).symm
    funext j
    refine Eq.trans ?_ (equal_at m hc (j 0) (j 1) (j 2)).symm
    exact congrArg _ (Idealize.ShloMosaic.eq_ix3 j)

end Cert.KernelIdeal.Hand

end
-- ==== Proof.InFrames.lean ====
/-
  The two programs of the input projection's call are one text, and its runs leave the arguments alone.
-/
module

public import proofs.«01_k».proof.Defs
public import proofs.«01_k».proof.Proof.Gen.Kernel2Ideal.Value
public import proofs.«01_k».proof.Proof.Gen.Reference2Ideal.Run

@[expose] public section

noncomputable section

namespace Cert.Kernel2Ideal.Hand

open Cert.Kernel2Ideal Cert.Kernel2Ideal.Gen
open Idealize.ShloMosaic Idealize.ShloMosaic.TcCoe Idealize.SL.Sem

/-- What the one text asks of its shapes and windows, the other has proved. -/
instance side₀ : Cert.Kernel2.Facts₀ where
  shapeCasts_S2x4096x2048_S8192x2048 := @Cert.Kernel2Ideal.Gen.shapeCasts_S2x4096x2048_S8192x2048
  shapeCasts_S2x12288_S2x6x2048 := @Cert.Kernel2Ideal.Gen.shapeCasts_S2x12288_S2x6x2048
  inb_S512x2048_S512x2048_0_0 := @Cert.Kernel2Ideal.Gen.inb_S512x2048_S512x2048_0_0
  h_S512x2048 := @Cert.Kernel2Ideal.Gen.h_S512x2048
  shapeCasts_S512x2048_S512x2048 := @Cert.Kernel2Ideal.Gen.shapeCasts_S512x2048_S512x2048
  reduces_S512x2048_S512 := @Cert.Kernel2Ideal.Gen.reduces_S512x2048_S512
  shapeCasts_S512_S512x1 := @Cert.Kernel2Ideal.Gen.shapeCasts_S512_S512x1
  broadcasts_S512x1_S512x2048 := @Cert.Kernel2Ideal.Gen.broadcasts_S512x1_S512x2048
  inb_S1x2048_S1x2048_0_0 := @Cert.Kernel2Ideal.Gen.inb_S1x2048_S1x2048_0_0
  h_S1x2048 := @Cert.Kernel2Ideal.Gen.h_S1x2048
  broadcasts_S1x2048_S512x2048 := @Cert.Kernel2Ideal.Gen.broadcasts_S1x2048_S512x2048
  inb_S1x6x2048_S1x1x2048_0_1_0 := @Cert.Kernel2Ideal.Gen.inb_S1x6x2048_S1x1x2048_0_1_0
  h_S1x1x2048 := @Cert.Kernel2Ideal.Gen.h_S1x1x2048
  shapeCasts_S1x1x2048_S1x2048 := @Cert.Kernel2Ideal.Gen.shapeCasts_S1x1x2048_S1x2048
  inb_S1x6x2048_S1x1x2048_0_0_0 := @Cert.Kernel2Ideal.Gen.inb_S1x6x2048_S1x1x2048_0_0_0
  bitsLt_bf16_f32 := @Cert.Kernel2Ideal.Gen.bitsLt_bf16_f32
  packedbf16_S512x2048_S512x2048_0_0 := @Cert.Kernel2Ideal.Gen.packedbf16_S512x2048_S512x2048_0_0
  inb_S2048x2432_S2048x2432_0_0 := @Cert.Kernel2Ideal.Gen.inb_S2048x2432_S2048x2432_0_0
  h_S2048x2432 := @Cert.Kernel2Ideal.Gen.h_S2048x2432
  inb_S512x2432_S512x2432_0_0 := @Cert.Kernel2Ideal.Gen.inb_S512x2432_S512x2432_0_0
  h_S512x2432 := @Cert.Kernel2Ideal.Gen.h_S512x2432
  dot_S512x2048_S2048x2432_S512x2432_1_0_0_1_n_n_wf := @Cert.Kernel2Ideal.Gen.dot_S512x2048_S2048x2432_S512x2432_1_0_0_1_n_n_wf
  hrank0 := @Cert.Kernel2Ideal.Gen.hrank0
  hstage0_0 := @Cert.Kernel2Ideal.Gen.hstage0_0
  nbuf0_0 := @Cert.Kernel2Ideal.Gen.nbuf0_0
  hreads0_0 := @Cert.Kernel2Ideal.Gen.hreads0_0
  hinb0_0 := @Cert.Kernel2Ideal.Gen.hinb0_0
  hwx0_0 := @Cert.Kernel2Ideal.Gen.hwx0_0
  hstage0_1 := @Cert.Kernel2Ideal.Gen.hstage0_1
  nbuf0_1 := @Cert.Kernel2Ideal.Gen.nbuf0_1
  hreads0_1 := @Cert.Kernel2Ideal.Gen.hreads0_1
  hinb0_1 := @Cert.Kernel2Ideal.Gen.hinb0_1
  hwx0_1 := @Cert.Kernel2Ideal.Gen.hwx0_1
  hstage0_2 := @Cert.Kernel2Ideal.Gen.hstage0_2
  nbuf0_2 := @Cert.Kernel2Ideal.Gen.nbuf0_2
  hreads0_2 := @Cert.Kernel2Ideal.Gen.hreads0_2
  hinb0_2 := @Cert.Kernel2Ideal.Gen.hinb0_2
  hwx0_2 := @Cert.Kernel2Ideal.Gen.hwx0_2
  hstage0_3 := @Cert.Kernel2Ideal.Gen.hstage0_3
  nbuf0_3 := @Cert.Kernel2Ideal.Gen.nbuf0_3
  hreads0_3 := @Cert.Kernel2Ideal.Gen.hreads0_3
  hinb0_3 := @Cert.Kernel2Ideal.Gen.hinb0_3
  hwx0_3 := @Cert.Kernel2Ideal.Gen.hwx0_3
  hstage0_4 := @Cert.Kernel2Ideal.Gen.hstage0_4
  nbuf0_4 := @Cert.Kernel2Ideal.Gen.nbuf0_4
  hreads0_4 := @Cert.Kernel2Ideal.Gen.hreads0_4
  hinb0_4 := @Cert.Kernel2Ideal.Gen.hinb0_4
  hwx0_4 := @Cert.Kernel2Ideal.Gen.hwx0_4

instance side : Cert.Kernel2.Facts where

variable {F : FTy → Type} [FloatOps F]

theorem bodies_same : @Cert.Kernel2.defs₀ F _ _ = @Cert.Kernel2Ideal.defs₀ F _ _ := by
  unfold Cert.Kernel2.defs₀ Cert.Kernel2Ideal.defs₀
  refine congrArg Defs.onTc (funext fun l => funext fun a => ?_)
  match l, a with
  | 0, (t, s) => exact Eq.trans rfl rfl
theorem defs_same : @Cert.Kernel2.defs F _ _ = @Cert.Kernel2Ideal.defs F _ _ := by
  unfold Cert.Kernel2.defs Cert.Kernel2Ideal.defs
  rw [bodies_same]
  rfl
theorem main_same : Cert.Kernel2.main (F := F) = Cert.Kernel2Ideal.main (F := F) := Eq.trans rfl rfl

/-- A run of the one text is a run of the other. -/
theorem same_run (s : MemSt nD τ sig (Elt F)) (Q : PUnit × MemSt nD τ sig (Elt F) → Prop)
    (h : θ_run (Cert.Kernel2Ideal.defs (F := F)) (onTc (τ := τ) (Cert.Kernel2Ideal.main (F := F))) s Q) :
    θ_run (Cert.Kernel2.defs (F := F)) (onTc (τ := Cert.Kernel2.τ) (Cert.Kernel2.main (F := F))) s Q := by
  have e : θ_run (Cert.Kernel2.defs (F := F)) (onTc (τ := Cert.Kernel2.τ) (Cert.Kernel2.main (F := F))) s
      = θ_run (Cert.Kernel2Ideal.defs (F := F)) (onTc (τ := τ) (Cert.Kernel2Ideal.main (F := F))) s := by
    rw [main_same, defs_same]
    rfl
  rw [e]
  exact h

/-- The projection at machine arithmetic leaves its arguments alone and every counter at zero. -/
theorem frame_bits : Cert.quiescent_Kernel2 := fun m ρ _ =>
  same_run (F := Bits) _ _ (Cert.Kernel2Ideal.Gen.frame (F := Bits) m ρ)

/-- At ideal arithmetic too. -/
theorem frame_ideal : Cert.quiescent_Kernel2Ideal := fun m ρ _ => Cert.Kernel2Ideal.Gen.frame (F := Ideal) m ρ

/-- The reference, a list of host operations, does too. -/
theorem frame_reference : Cert.quiescent_Reference2Ideal := by
  intro m ρ _
  exact (θ_run Cert.Reference2Ideal.defs _ _).mono (fun r h => ⟨fun c => (h c).2,
      Idealize.ShloMosaic.sem_eq_zero_of_no_sems (by decide) r.2⟩)
    (Cert.Reference2Ideal.Value.run (F := Ideal) m ρ)

end Cert.Kernel2Ideal.Hand

end
-- ==== Proof.InBlock.lean ====
/-
  What a grid point of the input projection's call computes, element by element.
-/
module

public import proofs.«01_k».proof.Proof.Gen.Kernel2Ideal.Value
public import proofs.«01_k».proof.Proof.Gen.Reference2Ideal.Run
public import Idealize.ShloMosaic.Lib.VecWindow
public import Idealize.ShloMosaic.Lib.Pipeline.ValueKit.Tiles
public import Idealize.ShloMosaic.Lib.Pointwise

@[expose] public section

noncomputable section

namespace Cert.Kernel2Ideal.Hand

open Cert.Kernel2Ideal Cert.Kernel2Ideal.Gen
open Idealize.ShloMosaic Idealize.ShloMosaic.TcCoe Idealize.SL.Sem

variable {F : FTy → Type} [FloatOps F]

theorem zeros : ∀ a : Fin 2, (![0, 0] : Fin 2 → ℕ) a = 0 := by decide

/-- Row `n` of a block of the modulation. -/
def modRow (n : Fin 6) (x : Vec F S1x6x2048 .f32) : Vec F S1x1x2048 .f32 := fun i => x (Idealize.ShloMosaic.ix3 (0 : Fin 1) n (i 2))

section Case
variable (c : Dev nD) (i : grid0.Coords) (a2 : Memref sig .tc .vmem S512x2048 .f32) (h2 : a2.IsWhole) (a3 : Memref sig .tc .vmem S1x6x2048 .f32) (h3 : a3.IsWhole)
  (a4 : Memref sig .tc .vmem S1x2048 .f32) (h4 : a4.IsWhole) (a5 : Memref sig .tc .vmem S2048x2432 .bf16) (h5 : a5.IsWhole)
  (a6 : Memref sig .tc .vmem S512x2432 .f32) (h6 : a6.IsWhole) (a7 : Memref sig .tc .vmem S512x2048 .bf16) (h7 : a7.IsWhole)
  (x0 : Vec F S512x2048 .f32) (x1 : Vec F S1x6x2048 .f32) (x2 : Vec F S1x2048 .f32) (x3 : Vec F S2048x2432 .bf16) (xs : Vec F S512x2048 .bf16)

theorem row_read (n : Fin 6) (off : Fin 3 → ℕ) (inb : ∀ a, off a + S1x1x2048.size a ≤ S1x6x2048.size a) (h : off = ![0, n.val, 0]) :
    View.readAt (Elt F) a3.view (Rect.unit (s := S1x6x2048) off S1x1x2048.size inb).toLoadRect (h3.unread x1) = modRow n x1 := by
  subst h
  funext j
  rw [View.readAt_apply, h3.read_unread]
  exact congrArg x1 (funext fun a => Fin.ext (match a with
    | ⟨0, _⟩ => by show 0 + 1 * (j 0).val = 0; have : (j 0).val < 1 := (j 0).isLt; omega
    | ⟨1, _⟩ => by show n.val + 1 * (j 1).val = n.val; have : (j 1).val < 1 := (j 1).isLt; omega
    | ⟨2, _⟩ => by show 0 + 1 * (j 2).val = (j 2).val; omega))

/-- The normalized and modulated rows that a first column's point keeps. -/
theorem kept_A (hc : cond0_0 i) : sout0_A_0 c i a2 h2 a3 h3 a4 h4 a5 h5 a6 h6 a7 h7 hc x0 x1 x2 x3 = k0_pay1 x0 x2 (modRow 1 x1) (modRow 0 x1) := by
  unfold sout0_A_0 kernelRun0_A
  refine (View.read_writes_full _ _ _ _ _).trans ?_
  rw [View.readAt_full, View.readAt_full, h2.read_unread, h4.read_unread]
  exact congrArg₂ (k0_pay1 x0 x2) (row_read a3 h3 x1 1 _ _ rfl) (row_read a3 h3 x1 0 _ _ rfl)

/-- What it writes: those rows times its columns of the weight. -/
theorem out_A (hc : cond0_0 i) : out0_A_4 c i a2 h2 a3 h3 a4 h4 a5 h5 a6 h6 a7 h7 hc x0 x1 x2 x3 = k0_pay2 (k0_pay1 x0 x2 (modRow 1 x1) (modRow 0 x1)) x3 := by
  unfold out0_A_4 kernelRun0_A
  refine (View.read_writes_full _ _ _ _ _).trans ?_
  refine congrArg₂ k0_pay2 ((View.readCov_full _ _ _ _ _).trans ?_) ((View.readAt_full ..).trans (h5.read_unread _))
  rw [View.readAt_full, View.readAt_full, h2.read_unread, h4.read_unread]
  exact congrArg₂ (k0_pay1 x0 x2) (row_read a3 h3 x1 1 _ _ rfl) (row_read a3 h3 x1 0 _ _ rfl)

/-- What a later column's point writes: the kept rows times its columns of the weight. -/
theorem out_B (hc : ¬cond0_0 i) : out0_B_4 c i a2 h2 a3 h3 a4 h4 a5 h5 a6 h6 a7 h7 hc x0 x1 x2 x3 xs = k0_pay2 xs x3 := by
  unfold out0_B_4 kernelRun0_B
  refine (View.read_writes_full _ _ _ _ _).trans ?_
  exact congrArg₂ k0_pay2 ((View.readAt_full ..).trans (h7.read_unread _)) ((View.readAt_full ..).trans (h5.read_unread _))

end Case

section At

/-- A row normalized, scaled and shifted, at column `k`. -/
def normAt (x w s b : Fin 2048 → EReal) (k : Fin 2048) : EReal :=
  x k * Ideal.rsqrt (Ideal.div (∑ j, x j * x j) (Ideal.ofBits FTy.f32 0x45000000#32) + Ideal.ofBits FTy.f32 0x358637BD#32) * w k * (1 + s k) + b k

theorem pay1_at (x0 : S512x2048.Idx → EReal) (x2 : S1x2048.Idx → EReal) (s b : S1x1x2048.Idx → EReal) (r : Fin 512) (k : Fin 2048) :
    k0_pay1 (F := Ideal) x0 x2 s b (Idealize.ShloMosaic.ix2 r k)
      = normAt (fun k => x0 (Idealize.ShloMosaic.ix2 r k)) (fun k => x2 (Idealize.ShloMosaic.ix2 (0 : Fin 1) k))
          (fun k => s (Idealize.ShloMosaic.ix3 (0 : Fin 1) (0 : Fin 1) k)) (fun k => b (Idealize.ShloMosaic.ix3 (0 : Fin 1) (0 : Fin 1) k)) k := by
  pointwise [k0_pay1]
  rfl

theorem pay2_at (h : S512x2048.Idx → EReal) (w : S2048x2432.Idx → EReal) (r : Fin 512) (j : Fin 2432) :
    k0_pay2 (F := Ideal) h w (Idealize.ShloMosaic.ix2 r j) = ∑ k : Fin 2048, h (Idealize.ShloMosaic.ix2 r k) * w (Idealize.ShloMosaic.ix2 k j) := by
  pointwise [k0_pay2]

end At

end Cert.Kernel2Ideal.Hand

end
-- ==== Proof.InRef.lean ====
/-
  What the input projection's reference says, element by element.
-/
module

public import proofs.«01_k».proof.Proof.InBlock

@[expose] public section

noncomputable section

namespace Cert.Reference2Ideal.Hand

open Cert.Reference2Ideal Cert.Reference2Ideal.Gen
open Idealize.ShloMosaic Idealize.ShloMosaic.TcCoe Idealize.SL.Sem
open Cert.Kernel2Ideal.Hand (normAt)

variable {F : FTy → Type} [FloatOps F]

/-- One over the root of a row's mean square, a little raised. -/
def scaleOf (x : FVec F S2x4096x2048 .f32) : FVec F S2x4096x1 .f32 :=
  Host.rsqrt (addf (Host.divf (broadcastInDim S2x4096x1 ![0, 1] bcast_S2x4096_S2x4096x1_0_1
      (Host.reduceAdd (mulf x x) (constant S_ .f32 0x00000000#32) reducesTo_S2x4096x2048_S2x4096_d2 h_S_))
    (broadcastInDim S2x4096x1 ![] bcast_S_S2x4096x1 (constant S_ .f32 0x45000000#32)))
    (broadcastInDim S2x4096x1 ![] bcast_S_S2x4096x1 (constant S_ .f32 0x358637BD#32)))

/-- The rows normalized. -/
def normOf (x : FVec F S2x4096x2048 .f32) (nw : FVec F S1x2048 .f32) : FVec F S2x4096x2048 .f32 :=
  mulf (mulf x (broadcastInDim S2x4096x2048 ![0, 1, 2] bcast_S2x4096x1_S2x4096x2048_0_1_2 (scaleOf x)))
    (broadcastInDim S2x4096x2048 ![0, 1, 2] bcast_S1x1x2048_S2x4096x2048_0_1_2
      (broadcastInDim S1x1x2048 ![2] bcast_S2048_S1x1x2048_2 (shapeCast _ nw shapeCasts_S1x2048_S2048)))

/-- The modulation, with an axis for the positions. -/
def modOf (mod : FVec F S2x12288 .f32) : FVec F S2x1x12288 .f32 := broadcastInDim S2x1x12288 ![0, 2] bcast_S2x12288_S2x1x12288_0_2 mod

/-- The rows scaled and shifted. -/
def inOf (x : FVec F S2x4096x2048 .f32) (mod : FVec F S2x12288 .f32) (nw : FVec F S1x2048 .f32) : FVec F S2x4096x2048 .f32 :=
  addf (mulf (normOf x nw) (broadcastInDim S2x4096x2048 ![0, 1, 2] bcast_S2x1x2048_S2x4096x2048_0_1_2
      (addf (broadcastInDim S2x1x2048 ![] bcast_S_S2x1x2048 (constant S_ .f32 0x3F800000#32))
        (extractStridedSlice S2x1x2048 ![0, 0, 2048] (modOf mod) slices_S2x1x12288_S2x1x2048_0_0_2048))))
    (broadcastInDim S2x4096x2048 ![0, 1, 2] bcast_S2x1x2048_S2x4096x2048_0_1_2
      (extractStridedSlice S2x1x2048 ![0, 0, 0] (modOf mod) slices_S2x1x12288_S2x1x2048_0_0_0))

/-- The reference's result. -/
def projOf (x : FVec F S2x4096x2048 .f32) (mod : FVec F S2x12288 .f32) (nw : FVec F S1x2048 .f32) (w : FVec F S2048x7296 .bf16) : FVec F S8192x7296 .f32 :=
  shapeCast _ (Host.dotGeneral dot_S2x4096x2048_S2048x7296_S2x4096x7296_2_0_01_1_n_n none (inOf x mod nw) (extf .f32 w bitsLt_bf16_f32))
    shapeCasts_S2x4096x7296_S8192x7296

/-- The result at row `n` and column `j`. -/
def projAt (x : S2x4096x2048.Idx → EReal) (mod : S2x12288.Idx → EReal) (nw : S1x2048.Idx → EReal) (w : S2048x7296.Idx → EReal) (n : Fin 8192) (j : Fin 7296) : EReal :=
  ∑ k : Fin 2048, normAt (fun k => x (ix3 (⟨n.val / 4096, by omega⟩ : Fin 2) (⟨n.val % 4096, by omega⟩ : Fin 4096) k)) (fun k => nw (ix2 (0 : Fin 1) k))
    (fun k => mod (ix2 (⟨n.val / 4096, by omega⟩ : Fin 2) (⟨2048 + k.val, by omega⟩ : Fin 12288))) (fun k => mod (ix2 (⟨n.val / 4096, by omega⟩ : Fin 2) (⟨k.val, by omega⟩ : Fin 12288))) k
      * w (ix2 k j)

theorem scaleOf_at (x : FVec Ideal S2x4096x2048 .f32) (b : Fin 2) (t : Fin 4096) (o : Fin 1) :
    scaleOf x (ix3 b t o) = Ideal.rsqrt (Ideal.div (∑ j : Fin 2048, x (ix3 b t j) * x (ix3 b t j)) (Ideal.ofBits FTy.f32 0x45000000#32) + Ideal.ofBits FTy.f32 0x358637BD#32) := by
  pointwise [scaleOf]

theorem inOf_at (x : FVec Ideal S2x4096x2048 .f32) (mod : FVec Ideal S2x12288 .f32) (nw : FVec Ideal S1x2048 .f32) (b : Fin 2) (t : Fin 4096) (k : Fin 2048) :
    inOf x mod nw (ix3 b t k) = normAt (fun k => x (ix3 b t k)) (fun k => nw (ix2 (0 : Fin 1) k))
      (fun k => mod (ix2 b (⟨2048 + k.val, by omega⟩ : Fin 12288))) (fun k => mod (ix2 b (⟨k.val, by omega⟩ : Fin 12288))) k := by
  unfold normAt
  pointwise [inOf, normOf, modOf]
  simp only [scaleOf_at]

theorem projOf_at (x : FVec Ideal S2x4096x2048 .f32) (mod : FVec Ideal S2x12288 .f32) (nw : FVec Ideal S1x2048 .f32) (w : FVec Ideal S2048x7296 .bf16) (n : Fin 8192) (j : Fin 7296) :
    projOf x mod nw w (ix2 n j) = projAt x mod nw w n j := by
  unfold projAt
  pointwise [projOf]
  simp only [inOf_at]

section Term
variable (m' : (ℓ : Loc nD τ sig) → Buf (Elt F) ℓ) (ρ : Dev nD → PrngReg)

/-- The reference's run, its result by that name. -/
theorem run : θ_run defs (onTc (τ := τ) (main (F := F))) ⟨m', fun _ => 0, ρ⟩ fun r => ∀ c : Dev nD,
      r.2.mem ((c.tc : Thread nD τ).loc main_v29) = projOf (m' ((c.tc : Thread nD τ).loc main_arg0)) (m' ((c.tc : Thread nD τ).loc main_arg1))
          (m' ((c.tc : Thread nD τ).loc main_arg2)) (m' ((c.tc : Thread nD τ).loc main_arg3))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3) :=
  Cert.Reference2Ideal.Value.run m' ρ

end Term

end Cert.Reference2Ideal.Hand

end
-- ==== Proof.InValue.lean ====
/-
  The array that the input projection's call leaves.
-/
module

public import proofs.«01_k».proof.Proof.InBlock
public import proofs.«01_k».proof.Defs
public import proofs.«01_k».proof.Proof.InRef

@[expose] public section

noncomputable section

namespace Cert.Kernel2Ideal.Hand

open Cert.Kernel2Ideal Cert.Kernel2Ideal.Gen
open Idealize.ShloMosaic Idealize.ShloMosaic.TcCoe Idealize.SL.Sem

variable (m : (ℓ : Loc nD τ sig) → Buf (Elt Ideal) ℓ) (c : Dev nD)

/-- The rows, and the modulation, as the call takes them. -/
theorem V_rows : (V m c main_v0 : S8192x2048.Idx → EReal) = shapeCast S8192x2048 (m ((c : Thread nD τ).loc main_arg0) : S2x4096x2048.Idx → EReal) shapeCasts_S2x4096x2048_S8192x2048 := by
  show StableHlo.after hostOps0 _ (Proc.devRef .tc main_v0) = _
  after_results_simp <;> rfl
theorem V_mod : (V m c main_v1 : S2x6x2048.Idx → EReal) = shapeCast S2x6x2048 (m ((c : Thread nD τ).loc main_arg1) : S2x12288.Idx → EReal) shapeCasts_S2x12288_S2x6x2048 := by
  show StableHlo.after hostOps0 _ (Proc.devRef .tc main_v1) = _
  after_results_simp <;> rfl

theorem rows_at (x : S2x4096x2048.Idx → EReal) (n : Fin 8192) (k : Fin 2048) :
    shapeCast S8192x2048 x shapeCasts_S2x4096x2048_S8192x2048 (Idealize.ShloMosaic.ix2 n k)
      = x (Idealize.ShloMosaic.ix3 (⟨n.val / 4096, by omega⟩ : Fin 2) (⟨n.val % 4096, by omega⟩ : Fin 4096) k) := by
  pointwise
theorem mod_at (x : S2x12288.Idx → EReal) (b : Fin 2) (q : Fin 6) (k : Fin 2048) :
    shapeCast S2x6x2048 x shapeCasts_S2x12288_S2x6x2048 (Idealize.ShloMosaic.ix3 b q k)
      = x (Idealize.ShloMosaic.ix2 b (⟨q.val * 2048 + k.val, by omega⟩ : Fin 12288)) := by
  pointwise

theorem points (t : Fin cfg0.N) : t.val < 48 := lt_of_lt_of_eq t.isLt N_0

/-- Which block of each array a point takes. -/
theorem index0 : ∀ t : Fin cfg0.N, win0_0.index t = ![t.val / 3, 0] := (by decide +kernel : ∀ t : Fin grid0.N, win0_0.index t = ![t.val / 3, 0])
theorem index1 : ∀ t : Fin cfg0.N, win0_1.index t = ![t.val / 24, 0, 0] := (by decide +kernel : ∀ t : Fin grid0.N, win0_1.index t = ![t.val / 24, 0, 0])
theorem index2 : ∀ t : Fin cfg0.N, win0_2.index t = ![0, 0] := (by decide +kernel : ∀ t : Fin grid0.N, win0_2.index t = ![0, 0])
theorem index3 : ∀ t : Fin cfg0.N, win0_3.index t = ![0, t.val % 3] := (by decide +kernel : ∀ t : Fin grid0.N, win0_3.index t = ![0, t.val % 3])

variable (t : Fin cfg0.N)

/-- Row `r` of the point's block of rows. -/
def rowAt (q : ℕ) (hq : q < 16) (r : Fin 512) : Fin 8192 := ⟨q * 512 + r.val, by omega⟩

theorem third : t.val / 3 < 16 := by have := points t; omega

theorem block0 (r : Fin 512) (k : Fin 2048) :
    iblk m c 0 t (Idealize.ShloMosaic.ix2 r k : S512x2048.Idx) = (V m c main_v0 : S8192x2048.Idx → EReal) (Idealize.ShloMosaic.ix2 (rowAt (t.val / 3) (third t) r) k) := by
  refine congrArg (V m c main_v0 : S8192x2048.Idx → EReal) (funext fun a => Fin.ext ?_)
  match a with
  | ⟨0, _⟩ => show win0_0.index t (0 : Fin 2) * 512 + 1 * r.val = t.val / 3 * 512 + r.val; rw [index0]; show t.val / 3 * 512 + 1 * r.val = _; omega
  | ⟨1, _⟩ => show win0_0.index t (1 : Fin 2) * 2048 + 1 * k.val = k.val; rw [index0]; show 0 * 2048 + 1 * k.val = _; omega

theorem block1 (q : Fin 6) (k : Fin 2048) :
    iblk m c 1 t (Idealize.ShloMosaic.ix3 (0 : Fin 1) q k : S1x6x2048.Idx)
      = (V m c main_v1 : S2x6x2048.Idx → EReal) (Idealize.ShloMosaic.ix3 (⟨t.val / 24, by have := points t; omega⟩ : Fin 2) q k) := by
  refine congrArg (V m c main_v1 : S2x6x2048.Idx → EReal) (funext fun a => Fin.ext ?_)
  match a with
  | ⟨0, _⟩ => show win0_1.index t (0 : Fin 3) * 1 + 1 * 0 = t.val / 24; rw [index1]; show t.val / 24 * 1 + 1 * 0 = _; omega
  | ⟨1, _⟩ => show win0_1.index t (1 : Fin 3) * 6 + 1 * q.val = q.val; rw [index1]; show 0 * 6 + 1 * q.val = _; omega
  | ⟨2, _⟩ => show win0_1.index t (2 : Fin 3) * 2048 + 1 * k.val = k.val; rw [index1]; show 0 * 2048 + 1 * k.val = _; omega

theorem block2 (k : Fin 2048) :
    iblk m c 2 t (Idealize.ShloMosaic.ix2 (0 : Fin 1) k : S1x2048.Idx) = (V m c main_arg2 : S1x2048.Idx → EReal) (Idealize.ShloMosaic.ix2 (0 : Fin 1) k) := by
  refine congrArg (V m c main_arg2 : S1x2048.Idx → EReal) (funext fun a => Fin.ext ?_)
  match a with
  | ⟨0, _⟩ => show win0_2.index t (0 : Fin 2) * 1 + 1 * 0 = 0; rw [index2]; rfl
  | ⟨1, _⟩ => show win0_2.index t (1 : Fin 2) * 2048 + 1 * k.val = k.val; rw [index2]; show 0 * 2048 + 1 * k.val = _; omega

theorem block3 (k : Fin 2048) (j : Fin 2432) :
    iblk m c 3 t (Idealize.ShloMosaic.ix2 k j : S2048x2432.Idx)
      = (V m c main_arg3 : S2048x7296.Idx → EReal) (Idealize.ShloMosaic.ix2 k (⟨t.val % 3 * 2432 + j.val, by omega⟩ : Fin 7296)) := by
  refine congrArg (V m c main_arg3 : S2048x7296.Idx → EReal) (funext fun a => Fin.ext ?_)
  match a with
  | ⟨0, _⟩ => show win0_3.index t (0 : Fin 2) * 2048 + 1 * k.val = k.val; rw [index3]; show 0 * 2048 + 1 * k.val = _; omega
  | ⟨1, _⟩ => show win0_3.index t (1 : Fin 2) * 2432 + 1 * j.val = t.val % 3 * 2432 + j.val; rw [index3]; show t.val % 3 * 2432 + 1 * j.val = _; omega

/-- Row `n`, normalized and modulated, at column `k`. -/
def hiddenAt (n : Fin 8192) (k : Fin 2048) : EReal :=
  normAt (fun k => (m ((c : Thread nD τ).loc main_arg0) : S2x4096x2048.Idx → EReal) (Idealize.ShloMosaic.ix3 (⟨n.val / 4096, by omega⟩ : Fin 2) (⟨n.val % 4096, by omega⟩ : Fin 4096) k))
    (fun k => (m ((c : Thread nD τ).loc main_arg2) : S1x2048.Idx → EReal) (Idealize.ShloMosaic.ix2 (0 : Fin 1) k))
    (fun k => (m ((c : Thread nD τ).loc main_arg1) : S2x12288.Idx → EReal) (Idealize.ShloMosaic.ix2 (⟨n.val / 4096, by omega⟩ : Fin 2) (⟨2048 + k.val, by omega⟩ : Fin 12288)))
    (fun k => (m ((c : Thread nD τ).loc main_arg1) : S2x12288.Idx → EReal) (Idealize.ShloMosaic.ix2 (⟨n.val / 4096, by omega⟩ : Fin 2) (⟨k.val, by omega⟩ : Fin 12288))) k

/-- A first column's point computes its rows so. -/
theorem fresh_at (r : Fin 512) (k : Fin 2048) :
    k0_pay1 (F := Ideal) (iblk m c 0 t) (iblk m c 2 t) (modRow (F := Ideal) 1 (iblk m c 1 t)) (modRow (F := Ideal) 0 (iblk m c 1 t)) (Idealize.ShloMosaic.ix2 r k)
      = hiddenAt m c (rowAt (t.val / 3) (third t) r) k := by
  refine (pay1_at _ _ _ _ r k).trans ?_
  have e : (⟨t.val / 24, by have := points t; omega⟩ : Fin 2) = ⟨(rowAt (t.val / 3) (third t) r).val / 4096, by omega⟩ :=
    Fin.ext (by show t.val / 24 = (t.val / 3 * 512 + r.val) / 4096; omega)
  unfold hiddenAt
  congr 1
  · funext k; exact (block0 m c t r k).trans (by rw [V_rows]; exact rows_at _ _ _)
  · funext k; exact (block2 m c t k).trans (by rw [V_main_arg2])
  · funext k
    refine (block1 m c t 1 k).trans ?_
    rw [V_mod, e]
    refine (mod_at _ _ _ _).trans ?_
    exact congrArg _ (congrArg _ (Fin.ext (by show 1 * 2048 + k.val = 2048 + k.val; omega)))
  · funext k
    refine (block1 m c t 0 k).trans ?_
    rw [V_mod, e]
    refine (mod_at _ _ _ _).trans ?_
    exact congrArg _ (congrArg _ (Fin.ext (by show 0 * 2048 + k.val = k.val; omega)))

/-- What the scratch holds after each point: the rows of the point's block. -/
theorem kept_at : ∀ (n : ℕ) (hn : n < cfg0.N) (r : Fin 512) (k : Fin 2048),
    (outsAt0 m c n hn).2 (Idealize.ShloMosaic.ix2 r k) = hiddenAt m c (rowAt (n / 3) (third ⟨n, hn⟩) r) k
  | 0, hn, r, k => by
    rw [outsAt0_A m c ⟨0, hn⟩ (Nat.zero_mod _)]
    dsimp only
    rw [kept_A]
    exact fresh_at m c ⟨0, hn⟩ r k
  | n + 1, hn, r, k => by
    by_cases h : (n + 1) % 3 = 0
    · rw [outsAt0_A m c ⟨n + 1, hn⟩ h]
      dsimp only
      rw [kept_A]
      exact fresh_at m c ⟨n + 1, hn⟩ r k
    · rw [outsAt0_B m c ⟨n + 1, hn⟩ h]
      refine (kept_at n (Nat.lt_of_succ_lt hn) r k).trans ?_
      have e : n / 3 = (n + 1) / 3 := by omega
      exact congrArg (fun i => hiddenAt m c i k) (Fin.ext (by show n / 3 * 512 + r.val = (n + 1) / 3 * 512 + r.val; rw [e]))

/-- What each point writes. -/
theorem wrote_at (r : Fin 512) (j : Fin 2432) :
    (outsAt0 m c t.val t.isLt).1 (Idealize.ShloMosaic.ix2 r j)
      = ∑ k : Fin 2048, hiddenAt m c (rowAt (t.val / 3) (third t) r) k
          * (m ((c : Thread nD τ).loc main_arg3) : S2048x7296.Idx → EReal) (Idealize.ShloMosaic.ix2 k (⟨t.val % 3 * 2432 + j.val, by omega⟩ : Fin 7296)) := by
  by_cases h : t.val % 3 = 0
  · rw [outsAt0_A m c t h]
    dsimp only
    rw [out_A]
    refine (pay2_at _ _ r j).trans (Finset.sum_congr rfl fun k _ => ?_)
    rw [fresh_at m c t r k]
    refine congrArg _ ((block3 m c t k j).trans ?_)
    rw [V_main_arg3]
  · rw [outsAt0_B m c t h]
    dsimp only
    rw [out_B]
    refine (pay2_at _ _ r j).trans (Finset.sum_congr rfl fun k _ => ?_)
    rw [kept_at m c (t.val - 1) _ r k]
    have e : (t.val - 1) / 3 = t.val / 3 := by omega
    refine congrArg₂ _ (congrArg (fun i => hiddenAt m c i k) (Fin.ext (by show (t.val - 1) / 3 * 512 + r.val = t.val / 3 * 512 + r.val; rw [e]))) ((block3 m c t k j).trans ?_)
    rw [V_main_arg3]

/-- The array after the run is what the reference says. -/
theorem result_eq : Cert.Kernel2Ideal.Value.G4 m c
    = Cert.Reference2Ideal.Hand.projOf (F := Ideal) (m ((c : Thread nD τ).loc main_arg0)) (m ((c : Thread nD τ).loc main_arg1)) (m ((c : Thread nD τ).loc main_arg2)) (m ((c : Thread nD τ).loc main_arg3)) := by
  funext i
  obtain ⟨n, j, rfl⟩ : ∃ (n : Fin 8192) (j : Fin 7296), i = (Idealize.ShloMosaic.ix2 n j : S8192x7296.Idx) := ⟨i 0, i 1, Idealize.ShloMosaic.eq_ix2 i⟩
  refine Eq.trans ?_ (Cert.Reference2Ideal.Hand.projOf_at _ _ _ _ n j).symm
  have hp : 3 * (n.val / 512) + j.val / 2432 < cfg0.N := lt_of_lt_of_eq (by have := n.isLt; have := j.isLt; omega) N_0.symm
  have hq : Cert.Kernel2Ideal.Value.pt4Of (Idealize.ShloMosaic.ix2 n j : S8192x7296.Idx) = 3 * (n.val / 512) + j.val / 2432 := by
    show 3 * (n.val / 512 - 0) + 1 * (j.val / 2432 - 0) = _
    omega
  have hl : Cert.Kernel2Ideal.Value.loc4Of (Idealize.ShloMosaic.ix2 n j : S8192x7296.Idx)
      = (Idealize.ShloMosaic.ix2 (⟨n.val % 512, by omega⟩ : Fin 512) (⟨j.val % 2432, by omega⟩ : Fin 2432) : S512x2432.Idx) := by
    funext a
    match a with
    | ⟨0, _⟩ => rfl
    | ⟨1, _⟩ => rfl
  unfold Cert.Kernel2Ideal.Value.G4
  rw [dif_pos (by rw [hq]; exact hp), hl, Cert.Kernel2Ideal.Value.fold0_congr m c _ _ (3 * (n.val / 512) + j.val / 2432) (by omega) hq,
    ← Cert.Kernel2Ideal.Value.outsAt0_sweep m c _ hp]
  refine (wrote_at m c ⟨_, hp⟩ _ _).trans ?_
  unfold Cert.Reference2Ideal.Hand.projAt
  have hj := j.isLt
  refine Finset.sum_congr rfl fun k _ => congrArg₂ _ ?_ (congrArg _ (congrArg _ (Fin.ext ?_)))
  · refine congrArg (fun i => hiddenAt m c i k) (Fin.ext (?_ : _ = n.val))
    show (3 * (n.val / 512) + j.val / 2432) / 3 * 512 + n.val % 512 = n.val
    omega
  · show (3 * (n.val / 512) + j.val / 2432) % 3 * 2432 + j.val % 2432 = j.val
    omega

/-- The two programs' results are equal, as extended reals. -/
theorem algebraic : Cert.algebraic_Kernel2Ideal_Reference2Ideal := fun m g m' g' _ hagree => by
  refine ⟨fun c => Cert.Kernel2Ideal.Value.G4 m c, Cert.Kernel2Ideal.Value.run (F := Ideal) m g, ?_⟩
  refine (θ_run Cert.Reference2Ideal.defs _ _).mono (fun r h c => ⟨(h c).1.trans ?_, (h c).2⟩) (Cert.Reference2Ideal.Hand.run (F := Ideal) m' g')
  obtain ⟨h0, h1, h2, h3⟩ := hagree c
  rw [h0, h1, h2, h3]
  exact (result_eq m c).symm

end Cert.Kernel2Ideal.Hand

end
-- ==== Proof.OutFrames.lean ====
/-
  The two programs of the output projection's call are one text, and its runs leave the arguments alone.
-/
module

public import proofs.«01_k».proof.Defs
public import proofs.«01_k».proof.Proof.Gen.Kernel3Ideal.Value
public import proofs.«01_k».proof.Proof.Gen.Reference3Ideal.Run

@[expose] public section

noncomputable section

namespace Cert.Kernel3Ideal.Hand

open Cert.Kernel3Ideal Cert.Kernel3Ideal.Gen
open Idealize.ShloMosaic Idealize.ShloMosaic.TcCoe Idealize.SL.Sem

/-- What the one text asks of its shapes and windows, the other has proved. -/
instance side₀ : Cert.Kernel3.Facts₀ where
  shapeCasts_S2x4096x2048_S8192x2048 := @Cert.Kernel3Ideal.Gen.shapeCasts_S2x4096x2048_S8192x2048
  shapeCasts_S2x12288_S2x6x2048 := @Cert.Kernel3Ideal.Gen.shapeCasts_S2x12288_S2x6x2048
  shapeCasts_S1x2048x64_S2048x64 := @Cert.Kernel3Ideal.Gen.shapeCasts_S1x2048x64_S2048x64
  transposes_S2048x64_S64x2048_1_0 := @Cert.Kernel3Ideal.Gen.transposes_S2048x64_S64x2048_1_0
  shapeCasts_S1x64_S64 := @Cert.Kernel3Ideal.Gen.shapeCasts_S1x64_S64
  bcast_S64_S64x1_0 := @Cert.Kernel3Ideal.Gen.bcast_S64_S64x1_0
  bcast_S64x1_S64x128_0_1 := @Cert.Kernel3Ideal.Gen.bcast_S64x1_S64x128_0_1
  shapeCasts_S1x2048x2048_S2048x2048 := @Cert.Kernel3Ideal.Gen.shapeCasts_S1x2048x2048_S2048x2048
  bitsLt_bf16_f32 := @Cert.Kernel3Ideal.Gen.bitsLt_bf16_f32
  inb_S64x128_S64x128_0_0 := @Cert.Kernel3Ideal.Gen.inb_S64x128_S64x128_0_0
  h_S64x128 := @Cert.Kernel3Ideal.Gen.h_S64x128
  shapeCasts_S64x128_S64x128 := @Cert.Kernel3Ideal.Gen.shapeCasts_S64x128_S64x128
  inb_S512x2048_S512x2048_0_0 := @Cert.Kernel3Ideal.Gen.inb_S512x2048_S512x2048_0_0
  h_S512x2048 := @Cert.Kernel3Ideal.Gen.h_S512x2048
  inb_S2048x2048_S2048x2048_0_0 := @Cert.Kernel3Ideal.Gen.inb_S2048x2048_S2048x2048_0_0
  h_S2048x2048 := @Cert.Kernel3Ideal.Gen.h_S2048x2048
  shapeCasts_S2048x2048_S2048x2048 := @Cert.Kernel3Ideal.Gen.shapeCasts_S2048x2048_S2048x2048
  reduces_S512x2048_S512 := @Cert.Kernel3Ideal.Gen.reduces_S512x2048_S512
  shapeCasts_S512_S512x1 := @Cert.Kernel3Ideal.Gen.shapeCasts_S512_S512x1
  broadcasts_S512x1_S512x2048 := @Cert.Kernel3Ideal.Gen.broadcasts_S512x1_S512x2048
  inb_S1x2048_S1x2048_0_0 := @Cert.Kernel3Ideal.Gen.inb_S1x2048_S1x2048_0_0
  h_S1x2048 := @Cert.Kernel3Ideal.Gen.h_S1x2048
  broadcasts_S1x2048_S512x2048 := @Cert.Kernel3Ideal.Gen.broadcasts_S1x2048_S512x2048
  shapeCasts_S512x2048_S512x2048 := @Cert.Kernel3Ideal.Gen.shapeCasts_S512x2048_S512x2048
  inb_S1x6x2048_S1x1x2048_0_2_0 := @Cert.Kernel3Ideal.Gen.inb_S1x6x2048_S1x1x2048_0_2_0
  h_S1x1x2048 := @Cert.Kernel3Ideal.Gen.h_S1x1x2048
  shapeCasts_S1x1x2048_S1x2048 := @Cert.Kernel3Ideal.Gen.shapeCasts_S1x1x2048_S1x2048
  inb_S1x6x2048_S1x1x2048_0_4_0 := @Cert.Kernel3Ideal.Gen.inb_S1x6x2048_S1x1x2048_0_4_0
  inb_S1x6x2048_S1x1x2048_0_3_0 := @Cert.Kernel3Ideal.Gen.inb_S1x6x2048_S1x1x2048_0_3_0
  packedbf16_S512x2048_S512x2048_0_0 := @Cert.Kernel3Ideal.Gen.packedbf16_S512x2048_S512x2048_0_0
  shapeCasts_S512x2048_S512x16x128 := @Cert.Kernel3Ideal.Gen.shapeCasts_S512x2048_S512x16x128
  inb_S512x16x128_S512x16x128_0_0_0 := @Cert.Kernel3Ideal.Gen.inb_S512x16x128_S512x16x128_0_0_0
  h_S512x16x128 := @Cert.Kernel3Ideal.Gen.h_S512x16x128
  packedbf16_S512x16x128_S512x16x128_0_0_0 := @Cert.Kernel3Ideal.Gen.packedbf16_S512x16x128_S512x16x128_0_0_0
  inb_S64x2048_S64x2048_0_0 := @Cert.Kernel3Ideal.Gen.inb_S64x2048_S64x2048_0_0
  h_S64x2048 := @Cert.Kernel3Ideal.Gen.h_S64x2048
  shapeCasts_S64x2048_S64x2048 := @Cert.Kernel3Ideal.Gen.shapeCasts_S64x2048_S64x2048
  inb_S64x128_S64x1_0_0 := @Cert.Kernel3Ideal.Gen.inb_S64x128_S64x1_0_0
  h_S64x1 := @Cert.Kernel3Ideal.Gen.h_S64x1
  shapeCasts_S64x1_S64x1 := @Cert.Kernel3Ideal.Gen.shapeCasts_S64x1_S64x1
  broadcasts_S64x1_S64x512 := @Cert.Kernel3Ideal.Gen.broadcasts_S64x1_S64x512
  iota_S8x512_d0_w32 := @Cert.Kernel3Ideal.Gen.iota_S8x512_d0_w32
  slices_S64x512_o0_0_S8x512 := @Cert.Kernel3Ideal.Gen.slices_S64x512_o0_0_S8x512
  reduces_S8x512_S512 := @Cert.Kernel3Ideal.Gen.reduces_S8x512_S512
  shapeCasts_S512_S1x512 := @Cert.Kernel3Ideal.Gen.shapeCasts_S512_S1x512
  broadcasts_S1x512_S8x512 := @Cert.Kernel3Ideal.Gen.broadcasts_S1x512_S8x512
  shapeCasts_S1x512_S1x512 := @Cert.Kernel3Ideal.Gen.shapeCasts_S1x512_S1x512
  slices_S64x512_o8_0_S8x512 := @Cert.Kernel3Ideal.Gen.slices_S64x512_o8_0_S8x512
  slices_S64x512_o16_0_S8x512 := @Cert.Kernel3Ideal.Gen.slices_S64x512_o16_0_S8x512
  slices_S64x512_o24_0_S8x512 := @Cert.Kernel3Ideal.Gen.slices_S64x512_o24_0_S8x512
  slices_S64x512_o32_0_S8x512 := @Cert.Kernel3Ideal.Gen.slices_S64x512_o32_0_S8x512
  slices_S64x512_o40_0_S8x512 := @Cert.Kernel3Ideal.Gen.slices_S64x512_o40_0_S8x512
  slices_S64x512_o48_0_S8x512 := @Cert.Kernel3Ideal.Gen.slices_S64x512_o48_0_S8x512
  slices_S64x512_o56_0_S8x512 := @Cert.Kernel3Ideal.Gen.slices_S64x512_o56_0_S8x512
  iota_S64x512_d0_w32 := @Cert.Kernel3Ideal.Gen.iota_S64x512_d0_w32
  slices_S8x512_o0_0_S1x512 := @Cert.Kernel3Ideal.Gen.slices_S8x512_o0_0_S1x512
  slices_S8x512_o1_0_S1x512 := @Cert.Kernel3Ideal.Gen.slices_S8x512_o1_0_S1x512
  slices_S8x512_o2_0_S1x512 := @Cert.Kernel3Ideal.Gen.slices_S8x512_o2_0_S1x512
  slices_S8x512_o3_0_S1x512 := @Cert.Kernel3Ideal.Gen.slices_S8x512_o3_0_S1x512
  slices_S8x512_o4_0_S1x512 := @Cert.Kernel3Ideal.Gen.slices_S8x512_o4_0_S1x512
  slices_S8x512_o5_0_S1x512 := @Cert.Kernel3Ideal.Gen.slices_S8x512_o5_0_S1x512
  slices_S8x512_o6_0_S1x512 := @Cert.Kernel3Ideal.Gen.slices_S8x512_o6_0_S1x512
  slices_S8x512_o7_0_S1x512 := @Cert.Kernel3Ideal.Gen.slices_S8x512_o7_0_S1x512
  concatenates_S8x512_S8x512_S8x512_S8x512_S8x512_S8x512_S8x512_S8x512_S64x512_d0 := @Cert.Kernel3Ideal.Gen.concatenates_S8x512_S8x512_S8x512_S8x512_S8x512_S8x512_S8x512_S8x512_S64x512_d0
  reduces_S64x512_S512 := @Cert.Kernel3Ideal.Gen.reduces_S64x512_S512
  broadcasts_S1x512_S64x512 := @Cert.Kernel3Ideal.Gen.broadcasts_S1x512_S64x512
  inb_S8x512_S8x512_0_0 := @Cert.Kernel3Ideal.Gen.inb_S8x512_S8x512_0_0
  h_S8x512 := @Cert.Kernel3Ideal.Gen.h_S8x512
  iota_S512x512_d0_w32 := @Cert.Kernel3Ideal.Gen.iota_S512x512_d0_w32
  iota_S512x512_d1_w32 := @Cert.Kernel3Ideal.Gen.iota_S512x512_d1_w32
  reduces_S64x512_S64 := @Cert.Kernel3Ideal.Gen.reduces_S64x512_S64
  shapeCasts_S64_S64x1 := @Cert.Kernel3Ideal.Gen.shapeCasts_S64_S64x1
  broadcasts_S64x1_S64x128 := @Cert.Kernel3Ideal.Gen.broadcasts_S64x1_S64x128
  dot_S512x2048_S2048x2048_S512x2048_1_0_0_1_n_n_wf := @Cert.Kernel3Ideal.Gen.dot_S512x2048_S2048x2048_S512x2048_1_0_0_1_n_n_wf
  dot_S64x2048_S512x2048_S64x512_1_1_0_0_n_n_wf := @Cert.Kernel3Ideal.Gen.dot_S64x2048_S512x2048_S64x512_1_1_0_0_n_n_wf
  dot_S64x512_S512x512_S64x512_1_0_0_1_n_n_wf := @Cert.Kernel3Ideal.Gen.dot_S64x512_S512x512_S64x512_1_0_0_1_n_n_wf
  hrank0 := @Cert.Kernel3Ideal.Gen.hrank0
  hstage0_0 := @Cert.Kernel3Ideal.Gen.hstage0_0
  nbuf0_0 := @Cert.Kernel3Ideal.Gen.nbuf0_0
  hreads0_0 := @Cert.Kernel3Ideal.Gen.hreads0_0
  hinb0_0 := @Cert.Kernel3Ideal.Gen.hinb0_0
  hwx0_0 := @Cert.Kernel3Ideal.Gen.hwx0_0
  hstage0_1 := @Cert.Kernel3Ideal.Gen.hstage0_1
  nbuf0_1 := @Cert.Kernel3Ideal.Gen.nbuf0_1
  hreads0_1 := @Cert.Kernel3Ideal.Gen.hreads0_1
  hinb0_1 := @Cert.Kernel3Ideal.Gen.hinb0_1
  hwx0_1 := @Cert.Kernel3Ideal.Gen.hwx0_1
  hstage0_2 := @Cert.Kernel3Ideal.Gen.hstage0_2
  nbuf0_2 := @Cert.Kernel3Ideal.Gen.nbuf0_2
  hreads0_2 := @Cert.Kernel3Ideal.Gen.hreads0_2
  hinb0_2 := @Cert.Kernel3Ideal.Gen.hinb0_2
  hwx0_2 := @Cert.Kernel3Ideal.Gen.hwx0_2
  hstage0_3 := @Cert.Kernel3Ideal.Gen.hstage0_3
  nbuf0_3 := @Cert.Kernel3Ideal.Gen.nbuf0_3
  hreads0_3 := @Cert.Kernel3Ideal.Gen.hreads0_3
  hinb0_3 := @Cert.Kernel3Ideal.Gen.hinb0_3
  hwx0_3 := @Cert.Kernel3Ideal.Gen.hwx0_3
  hstage0_4 := @Cert.Kernel3Ideal.Gen.hstage0_4
  nbuf0_4 := @Cert.Kernel3Ideal.Gen.nbuf0_4
  hreads0_4 := @Cert.Kernel3Ideal.Gen.hreads0_4
  hinb0_4 := @Cert.Kernel3Ideal.Gen.hinb0_4
  hwx0_4 := @Cert.Kernel3Ideal.Gen.hwx0_4
  hstage0_5 := @Cert.Kernel3Ideal.Gen.hstage0_5
  nbuf0_5 := @Cert.Kernel3Ideal.Gen.nbuf0_5
  hreads0_5 := @Cert.Kernel3Ideal.Gen.hreads0_5
  hinb0_5 := @Cert.Kernel3Ideal.Gen.hinb0_5
  hwx0_5 := @Cert.Kernel3Ideal.Gen.hwx0_5
  hstage0_6 := @Cert.Kernel3Ideal.Gen.hstage0_6
  nbuf0_6 := @Cert.Kernel3Ideal.Gen.nbuf0_6
  hreads0_6 := @Cert.Kernel3Ideal.Gen.hreads0_6
  hinb0_6 := @Cert.Kernel3Ideal.Gen.hinb0_6
  hwx0_6 := @Cert.Kernel3Ideal.Gen.hwx0_6
  hstage0_7 := @Cert.Kernel3Ideal.Gen.hstage0_7
  nbuf0_7 := @Cert.Kernel3Ideal.Gen.nbuf0_7
  hreads0_7 := @Cert.Kernel3Ideal.Gen.hreads0_7
  hinb0_7 := @Cert.Kernel3Ideal.Gen.hinb0_7
  hwx0_7 := @Cert.Kernel3Ideal.Gen.hwx0_7
  hstage0_8 := @Cert.Kernel3Ideal.Gen.hstage0_8
  nbuf0_8 := @Cert.Kernel3Ideal.Gen.nbuf0_8
  hreads0_8 := @Cert.Kernel3Ideal.Gen.hreads0_8
  hinb0_8 := @Cert.Kernel3Ideal.Gen.hinb0_8
  hwx0_8 := @Cert.Kernel3Ideal.Gen.hwx0_8
  hstage0_9 := @Cert.Kernel3Ideal.Gen.hstage0_9
  nbuf0_9 := @Cert.Kernel3Ideal.Gen.nbuf0_9
  hreads0_9 := @Cert.Kernel3Ideal.Gen.hreads0_9
  hinb0_9 := @Cert.Kernel3Ideal.Gen.hinb0_9
  hwx0_9 := @Cert.Kernel3Ideal.Gen.hwx0_9
  hstage0_10 := @Cert.Kernel3Ideal.Gen.hstage0_10
  nbuf0_10 := @Cert.Kernel3Ideal.Gen.nbuf0_10
  hreads0_10 := @Cert.Kernel3Ideal.Gen.hreads0_10
  hinb0_10 := @Cert.Kernel3Ideal.Gen.hinb0_10
  hwx0_10 := @Cert.Kernel3Ideal.Gen.hwx0_10
  hstage0_11 := @Cert.Kernel3Ideal.Gen.hstage0_11
  nbuf0_11 := @Cert.Kernel3Ideal.Gen.nbuf0_11
  hreads0_11 := @Cert.Kernel3Ideal.Gen.hreads0_11
  hinb0_11 := @Cert.Kernel3Ideal.Gen.hinb0_11
  hwx0_11 := @Cert.Kernel3Ideal.Gen.hwx0_11
  hstage0_12 := @Cert.Kernel3Ideal.Gen.hstage0_12
  nbuf0_12 := @Cert.Kernel3Ideal.Gen.nbuf0_12
  hreads0_12 := @Cert.Kernel3Ideal.Gen.hreads0_12
  hinb0_12 := @Cert.Kernel3Ideal.Gen.hinb0_12
  hwx0_12 := @Cert.Kernel3Ideal.Gen.hwx0_12
  hstage0_13 := @Cert.Kernel3Ideal.Gen.hstage0_13
  nbuf0_13 := @Cert.Kernel3Ideal.Gen.nbuf0_13
  hreads0_13 := @Cert.Kernel3Ideal.Gen.hreads0_13
  hinb0_13 := @Cert.Kernel3Ideal.Gen.hinb0_13
  hwx0_13 := @Cert.Kernel3Ideal.Gen.hwx0_13
  hstage0_14 := @Cert.Kernel3Ideal.Gen.hstage0_14
  nbuf0_14 := @Cert.Kernel3Ideal.Gen.nbuf0_14
  hreads0_14 := @Cert.Kernel3Ideal.Gen.hreads0_14
  hinb0_14 := @Cert.Kernel3Ideal.Gen.hinb0_14
  hwx0_14 := @Cert.Kernel3Ideal.Gen.hwx0_14

instance side : Cert.Kernel3.Facts where

variable {F : FTy → Type} [FloatOps F]

theorem bodies_same : @Cert.Kernel3.defs₀ F _ _ = @Cert.Kernel3Ideal.defs₀ F _ _ := by
  unfold Cert.Kernel3.defs₀ Cert.Kernel3Ideal.defs₀
  refine congrArg Defs.onTc (funext fun l => funext fun a => ?_)
  match l, a with
  | 0, (t, s) => exact Eq.trans rfl rfl
theorem defs_same : @Cert.Kernel3.defs F _ _ = @Cert.Kernel3Ideal.defs F _ _ := by
  unfold Cert.Kernel3.defs Cert.Kernel3Ideal.defs
  rw [bodies_same]
  rfl
theorem main_same : Cert.Kernel3.main (F := F) = Cert.Kernel3Ideal.main (F := F) := Eq.trans rfl rfl

/-- A run of the one text is a run of the other. -/
theorem same_run (s : MemSt nD τ sig (Elt F)) (Q : PUnit × MemSt nD τ sig (Elt F) → Prop)
    (h : θ_run (Cert.Kernel3Ideal.defs (F := F)) (onTc (τ := τ) (Cert.Kernel3Ideal.main (F := F))) s Q) :
    θ_run (Cert.Kernel3.defs (F := F)) (onTc (τ := Cert.Kernel3.τ) (Cert.Kernel3.main (F := F))) s Q := by
  have e : θ_run (Cert.Kernel3.defs (F := F)) (onTc (τ := Cert.Kernel3.τ) (Cert.Kernel3.main (F := F))) s
      = θ_run (Cert.Kernel3Ideal.defs (F := F)) (onTc (τ := τ) (Cert.Kernel3Ideal.main (F := F))) s := by
    rw [main_same, defs_same]
    rfl
  rw [e]
  exact h

/-- The output projection at machine arithmetic leaves its arguments alone and every counter at zero. -/
theorem frame_bits : Cert.quiescent_Kernel3 := fun m ρ _ =>
  same_run (F := Bits) _ _ (Cert.Kernel3Ideal.Gen.frame (F := Bits) m ρ)

/-- At ideal arithmetic too. -/
theorem frame_ideal : Cert.quiescent_Kernel3Ideal := fun m ρ _ => Cert.Kernel3Ideal.Gen.frame (F := Ideal) m ρ

/-- The reference, a list of host operations, does too. -/
theorem frame_reference : Cert.quiescent_Reference3Ideal := by
  intro m ρ _
  exact (θ_run Cert.Reference3Ideal.defs _ _).mono (fun r h => ⟨fun c => (h c).2.2.2,
      Idealize.ShloMosaic.sem_eq_zero_of_no_sems (by decide) r.2⟩)
    (Cert.Reference3Ideal.Value.run (F := Ideal) m ρ)

end Cert.Kernel3Ideal.Hand

end
-- ==== Proof.OutBlock.lean ====
/-
  What a grid point of the output projection's call computes, element by element.
-/
module

public import proofs.«01_k».proof.Proof.Gen.Kernel3Ideal.Value
public import proofs.«01_k».proof.Proof.Gen.Reference3Ideal.Run
public import Idealize.ShloMosaic.Lib.VecWindow
public import Idealize.ShloMosaic.Lib.Pipeline.ValueKit.Tiles
public import Idealize.ShloMosaic.Lib.Pointwise

@[expose] public section

noncomputable section

namespace Cert.Kernel3Ideal.Hand

open Cert.Kernel3Ideal Cert.Kernel3Ideal.Gen
open Idealize.ShloMosaic Idealize.ShloMosaic.TcCoe Idealize.SL.Sem

variable {F : FTy → Type} [FloatOps F]

/-- Row `n` of a block of the modulation. -/
def modRow (n : Fin 6) (x : Vec F S1x6x2048 .f32) : Vec F S1x1x2048 .f32 := fun i => x (Idealize.ShloMosaic.ix3 (0 : Fin 1) n (i 2))

/-- A block of the residual stream after the projection, of the block's rows, its mixer rows, the weights and the gate. -/
def resid (x0 : Vec F S512x2048 .bf16) (x3 : Vec F S2048x2048 .bf16) (x4 : Vec F S1x2048 .f32) (x1 : Vec F S512x2048 .f32) (g : Vec F S1x1x2048 .f32) : Vec F S512x2048 .f32 :=
  k0_pay4 x0 x3 x4 x1 g

/-- A block of the rows that the feed-forward part takes. -/
def hidden (x0 : Vec F S512x2048 .bf16) (x3 : Vec F S2048x2048 .bf16) (x4 : Vec F S1x2048 .f32) (x1 : Vec F S512x2048 .f32) (x5 : Vec F S1x2048 .f32)
    (g s b : Vec F S1x1x2048 .f32) : Vec F S512x2048 .bf16 :=
  k0_pay7 (k0_pay4 x0 x3 x4 x1 g) (k0_pay5 x0 x3 x4 x1 g) x5 s b

/-- The same block, each row in sixteen pieces of 128. -/
def hiddenTiles (x0 : Vec F S512x2048 .bf16) (x3 : Vec F S2048x2048 .bf16) (x4 : Vec F S1x2048 .f32) (x1 : Vec F S512x2048 .f32) (x5 : Vec F S1x2048 .f32)
    (g s b : Vec F S1x1x2048 .f32) : Vec F S512x16x128 .bf16 :=
  k0_pay8 (k0_pay4 x0 x3 x4 x1 g) (k0_pay5 x0 x3 x4 x1 g) x5 s b

section Case
variable (c : Dev nD) (i : grid0.Coords)
  (a1 : Memref sig .tc .vmem S512x2048 .bf16) (h1 : a1.IsWhole)
  (a2 : Memref sig .tc .vmem S512x2048 .f32) (h2 : a2.IsWhole)
  (a3 : Memref sig .tc .vmem S1x6x2048 .f32) (h3 : a3.IsWhole)
  (a4 : Memref sig .tc .vmem S2048x2048 .bf16) (h4 : a4.IsWhole)
  (a5 : Memref sig .tc .vmem S1x2048 .f32) (h5 : a5.IsWhole)
  (a6 : Memref sig .tc .vmem S1x2048 .f32) (h6 : a6.IsWhole)
  (a7 : Memref sig .tc .vmem S64x2048 .f32) (h7 : a7.IsWhole)
  (a8 : Memref sig .tc .vmem S64x128 .f32) (h8 : a8.IsWhole)
  (a9 : Memref sig .tc .vmem S512x2048 .f32) (h9 : a9.IsWhole)
  (a10 : Memref sig .tc .vmem S512x2048 .bf16) (h10 : a10.IsWhole)
  (a11 : Memref sig .tc .vmem S512x16x128 .bf16) (h11 : a11.IsWhole)
  (a12 : Memref sig .tc .vmem S8x512 .i32) (h12 : a12.IsWhole)
  (a13 : Memref sig .tc .vmem S8x512 .i32) (h13 : a13.IsWhole)
  (a14 : Memref sig .tc .vmem S8x512 .f32) (h14 : a14.IsWhole)
  (a15 : Memref sig .tc .vmem S64x128 .f32) (h15 : a15.IsWhole)
  (a16 : Memref sig .tc .vmem S64x128 .f32) (h16 : a16.IsWhole)
  (x0 : Vec F S512x2048 .bf16) (x1 : Vec F S512x2048 .f32) (x2 : Vec F S1x6x2048 .f32) (x3 : Vec F S2048x2048 .bf16) (x4 : Vec F S1x2048 .f32)
  (x5 : Vec F S1x2048 .f32) (x6 : Vec F S64x2048 .f32) (x7 : Vec F S64x128 .f32) (xs : Vec F S64x128 .f32)

theorem row_read (n : Fin 6) (off : Fin 3 → ℕ) (inb : ∀ a, off a + S1x1x2048.size a ≤ S1x6x2048.size a) (h : off = ![0, n.val, 0]) :
    View.readAt (Elt F) a3.view (Rect.unit (s := S1x6x2048) off S1x1x2048.size inb).toLoadRect (h3.unread x2) = modRow n x2 := by
  subst h
  funext j
  rw [View.readAt_apply, h3.read_unread]
  exact congrArg x2 (funext fun a => Fin.ext (match a with
    | ⟨0, _⟩ => by show 0 + 1 * (j 0).val = 0; have : (j 0).val < 1 := (j 0).isLt; omega
    | ⟨1, _⟩ => by show n.val + 1 * (j 1).val = n.val; have : (j 1).val < 1 := (j 1).isLt; omega
    | ⟨2, _⟩ => by show 0 + 1 * (j 2).val = (j 2).val; omega))

/-- The first point writes this block of the residual stream. -/
theorem out_A_8 (hc : cond0_0 i) : out0_A_8 c i a1 h1 a2 h2 a3 h3 a4 h4 a5 h5 a6 h6 a7 h7 a8 h8 a9 h9 a10 h10 a11 h11 a12 h12 a13 h13 a14 h14 a15 h15 a16 h16 hc
    x0 x1 x2 x3 x4 x5 x6 x7 = resid x0 x3 x4 x1 (modRow 2 x2) := by
  unfold out0_A_8 kernelRun0_A
  refine (View.read_writes_full _ _ _ _ _).trans ?_
  rw [View.readAt_full, View.readAt_full, View.readAt_full, View.readAt_full, h1.read_unread, h2.read_unread, h4.read_unread, h5.read_unread]
  exact congrArg (resid x0 x3 x4 x1) (row_read a3 h3 x2 2 _ _ rfl)

/-- The first point writes this block of rows. -/
theorem out_A_9 (hc : cond0_0 i) : out0_A_9 c i a1 h1 a2 h2 a3 h3 a4 h4 a5 h5 a6 h6 a7 h7 a8 h8 a9 h9 a10 h10 a11 h11 a12 h12 a13 h13 a14 h14 a15 h15 a16 h16 hc
    x0 x1 x2 x3 x4 x5 x6 x7 = hidden x0 x3 x4 x1 x5 (modRow 2 x2) (modRow 4 x2) (modRow 3 x2) := by
  unfold out0_A_9 kernelRun0_A
  refine (View.read_writes_full _ _ _ _ _).trans ?_
  unfold kernelRun0_A.sl.r kernelRun0_A.sl.r_1
  rw [View.readAt_full, View.readAt_full, View.readAt_full, View.readAt_full, View.readAt_full, h1.read_unread, h2.read_unread, h4.read_unread, h5.read_unread, h6.read_unread]
  exact congr (congrArg₂ (hidden x0 x3 x4 x1 x5) (row_read a3 h3 x2 2 _ _ rfl) (row_read a3 h3 x2 4 _ _ rfl)) (row_read a3 h3 x2 3 _ _ rfl)

/-- The first point and the same in pieces. -/
theorem out_A_10 (hc : cond0_0 i) : out0_A_10 c i a1 h1 a2 h2 a3 h3 a4 h4 a5 h5 a6 h6 a7 h7 a8 h8 a9 h9 a10 h10 a11 h11 a12 h12 a13 h13 a14 h14 a15 h15 a16 h16 hc
    x0 x1 x2 x3 x4 x5 x6 x7 = hiddenTiles x0 x3 x4 x1 x5 (modRow 2 x2) (modRow 4 x2) (modRow 3 x2) := by
  unfold out0_A_10 kernelRun0_A
  refine (View.read_writes_full _ _ _ _ _).trans ?_
  unfold kernelRun0_A.sl.r kernelRun0_A.sl.r_1
  rw [View.readAt_full, View.readAt_full, View.readAt_full, View.readAt_full, View.readAt_full, h1.read_unread, h2.read_unread, h4.read_unread, h5.read_unread, h6.read_unread]
  exact congr (congrArg₂ (hiddenTiles x0 x3 x4 x1 x5) (row_read a3 h3 x2 2 _ _ rfl) (row_read a3 h3 x2 4 _ _ rfl)) (row_read a3 h3 x2 3 _ _ rfl)

/-- A later point writes this block of the residual stream. -/
theorem out_B_8 (hc : ¬cond0_0 i) : out0_B_8 c i a1 h1 a2 h2 a3 h3 a4 h4 a5 h5 a6 h6 a7 h7 a8 h8 a9 h9 a10 h10 a11 h11 a12 h12 a13 h13 a14 h14 a15 h15 a16 h16 hc
    x0 x1 x2 x3 x4 x5 x6 x7 xs = resid x0 x3 x4 x1 (modRow 2 x2) := by
  unfold out0_B_8 kernelRun0_B
  refine (View.read_writes_full _ _ _ _ _).trans ?_
  rw [View.readAt_full, View.readAt_full, View.readAt_full, View.readAt_full, h1.read_unread, h2.read_unread, h4.read_unread, h5.read_unread]
  exact congrArg (resid x0 x3 x4 x1) (row_read a3 h3 x2 2 _ _ rfl)

/-- A later point writes this block of rows. -/
theorem out_B_9 (hc : ¬cond0_0 i) : out0_B_9 c i a1 h1 a2 h2 a3 h3 a4 h4 a5 h5 a6 h6 a7 h7 a8 h8 a9 h9 a10 h10 a11 h11 a12 h12 a13 h13 a14 h14 a15 h15 a16 h16 hc
    x0 x1 x2 x3 x4 x5 x6 x7 xs = hidden x0 x3 x4 x1 x5 (modRow 2 x2) (modRow 4 x2) (modRow 3 x2) := by
  unfold out0_B_9 kernelRun0_B
  refine (View.read_writes_full _ _ _ _ _).trans ?_
  unfold kernelRun0_B.sl.r kernelRun0_B.sl.r_1
  rw [View.readAt_full, View.readAt_full, View.readAt_full, View.readAt_full, View.readAt_full, h1.read_unread, h2.read_unread, h4.read_unread, h5.read_unread, h6.read_unread]
  exact congr (congrArg₂ (hidden x0 x3 x4 x1 x5) (row_read a3 h3 x2 2 _ _ rfl) (row_read a3 h3 x2 4 _ _ rfl)) (row_read a3 h3 x2 3 _ _ rfl)

/-- A later point and the same in pieces. -/
theorem out_B_10 (hc : ¬cond0_0 i) : out0_B_10 c i a1 h1 a2 h2 a3 h3 a4 h4 a5 h5 a6 h6 a7 h7 a8 h8 a9 h9 a10 h10 a11 h11 a12 h12 a13 h13 a14 h14 a15 h15 a16 h16 hc
    x0 x1 x2 x3 x4 x5 x6 x7 xs = hiddenTiles x0 x3 x4 x1 x5 (modRow 2 x2) (modRow 4 x2) (modRow 3 x2) := by
  unfold out0_B_10 kernelRun0_B
  refine (View.read_writes_full _ _ _ _ _).trans ?_
  unfold kernelRun0_B.sl.r kernelRun0_B.sl.r_1
  rw [View.readAt_full, View.readAt_full, View.readAt_full, View.readAt_full, View.readAt_full, h1.read_unread, h2.read_unread, h4.read_unread, h5.read_unread, h6.read_unread]
  exact congr (congrArg₂ (hiddenTiles x0 x3 x4 x1 x5) (row_read a3 h3 x2 2 _ _ rfl) (row_read a3 h3 x2 4 _ _ rfl)) (row_read a3 h3 x2 3 _ _ rfl)

end Case

section At

/-- A row times one over the root of its mean square, a little raised, and a weight, at column `k`. -/
def rmsAt (x w : Fin 2048 → EReal) (k : Fin 2048) : EReal :=
  x k * Ideal.rsqrt (Ideal.div (∑ j, x j * x j) (Ideal.ofBits FTy.f32 0x45000000#32) + Ideal.ofBits FTy.f32 0x358637BD#32) * w k

/-- A row of the residual stream after the projection, of its mixer row `o`, its row `x` before, the weights and the gate. -/
def residAt (o : Fin 2048 → EReal) (wo : Fin 2048 → Fin 2048 → EReal) (w x g : Fin 2048 → EReal) (k : Fin 2048) : EReal :=
  x k + g k * rmsAt (fun k => ∑ j, o j * wo j k) w k

/-- That row normalized, scaled and shifted. -/
def nextAt (x w s b : Fin 2048 → EReal) (k : Fin 2048) : EReal := rmsAt x w k * (1 + s k) + b k

theorem resid_at (x0 : S512x2048.Idx → EReal) (x3 : S2048x2048.Idx → EReal) (x4 : S1x2048.Idx → EReal) (x1 : S512x2048.Idx → EReal) (g : S1x1x2048.Idx → EReal) (r : Fin 512) (k : Fin 2048) :
    resid (F := Ideal) x0 x3 x4 x1 g (Idealize.ShloMosaic.ix2 r k)
      = residAt (fun k => x0 (Idealize.ShloMosaic.ix2 r k)) (fun j k => x3 (Idealize.ShloMosaic.ix2 j k)) (fun k => x4 (Idealize.ShloMosaic.ix2 (0 : Fin 1) k))
          (fun k => x1 (Idealize.ShloMosaic.ix2 r k)) (fun k => g (Idealize.ShloMosaic.ix3 (0 : Fin 1) (0 : Fin 1) k)) k := by
  unfold residAt rmsAt
  pointwise [resid, k0_pay4]

theorem hidden_of (y : S512x2048.Idx → EReal) (z : S512x1.Idx → EReal) (x5 : S1x2048.Idx → EReal) (s b : S1x1x2048.Idx → EReal) (r : Fin 512) (k : Fin 2048)
    (hz : z (Idealize.ShloMosaic.ix2 r (0 : Fin 1)) = Ideal.div (∑ j, y (Idealize.ShloMosaic.ix2 r j) * y (Idealize.ShloMosaic.ix2 r j)) (Ideal.ofBits FTy.f32 0x45000000#32) + Ideal.ofBits FTy.f32 0x358637BD#32) :
    k0_pay7 (F := Ideal) y z x5 s b (Idealize.ShloMosaic.ix2 r k)
      = nextAt (fun k => y (Idealize.ShloMosaic.ix2 r k)) (fun k => x5 (Idealize.ShloMosaic.ix2 (0 : Fin 1) k))
          (fun k => s (Idealize.ShloMosaic.ix3 (0 : Fin 1) (0 : Fin 1) k)) (fun k => b (Idealize.ShloMosaic.ix3 (0 : Fin 1) (0 : Fin 1) k)) k := by
  unfold nextAt rmsAt
  rw [← hz]
  pointwise [k0_pay7, k0_pay6]

theorem mean_at (x0 : S512x2048.Idx → EReal) (x3 : S2048x2048.Idx → EReal) (x4 : S1x2048.Idx → EReal) (x1 : S512x2048.Idx → EReal) (g : S1x1x2048.Idx → EReal) (r : Fin 512) :
    k0_pay5 (F := Ideal) x0 x3 x4 x1 g (Idealize.ShloMosaic.ix2 r (0 : Fin 1))
      = Ideal.div (∑ j : Fin 2048, k0_pay4 (F := Ideal) x0 x3 x4 x1 g (Idealize.ShloMosaic.ix2 r j) * k0_pay4 (F := Ideal) x0 x3 x4 x1 g (Idealize.ShloMosaic.ix2 r j))
          (Ideal.ofBits FTy.f32 0x45000000#32) + Ideal.ofBits FTy.f32 0x358637BD#32 := by
  unfold k0_pay5
  generalize k0_pay4 (F := Ideal) x0 x3 x4 x1 g = y
  pointwise

theorem hidden_at (x0 : S512x2048.Idx → EReal) (x3 : S2048x2048.Idx → EReal) (x4 : S1x2048.Idx → EReal) (x1 : S512x2048.Idx → EReal) (x5 : S1x2048.Idx → EReal)
    (g s b : S1x1x2048.Idx → EReal) (r : Fin 512) (k : Fin 2048) :
    hidden (F := Ideal) x0 x3 x4 x1 x5 g s b (Idealize.ShloMosaic.ix2 r k)
      = nextAt (fun k => resid (F := Ideal) x0 x3 x4 x1 g (Idealize.ShloMosaic.ix2 r k)) (fun k => x5 (Idealize.ShloMosaic.ix2 (0 : Fin 1) k))
          (fun k => s (Idealize.ShloMosaic.ix3 (0 : Fin 1) (0 : Fin 1) k)) (fun k => b (Idealize.ShloMosaic.ix3 (0 : Fin 1) (0 : Fin 1) k)) k :=
  hidden_of _ _ x5 s b r k (mean_at x0 x3 x4 x1 g r)

theorem hiddenTiles_at (x0 : S512x2048.Idx → EReal) (x3 : S2048x2048.Idx → EReal) (x4 : S1x2048.Idx → EReal) (x1 : S512x2048.Idx → EReal) (x5 : S1x2048.Idx → EReal)
    (g s b : S1x1x2048.Idx → EReal) (r : Fin 512) (p : Fin 16) (q : Fin 128) :
    hiddenTiles (F := Ideal) x0 x3 x4 x1 x5 g s b (Idealize.ShloMosaic.ix3 r p q)
      = hidden (F := Ideal) x0 x3 x4 x1 x5 g s b (Idealize.ShloMosaic.ix2 r (⟨p.val * 128 + q.val, by omega⟩ : Fin 2048)) := by
  unfold hiddenTiles k0_pay8 hidden
  generalize k0_pay7 (F := Ideal) _ _ x5 s b = y
  pointwise

end At

end Cert.Kernel3Ideal.Hand

end
-- ==== Proof.OutRef.lean ====
/-
  What the output projection's reference says, element by element.
-/
module

public import proofs.«01_k».proof.Proof.OutBlock

@[expose] public section

noncomputable section

namespace Cert.Reference3Ideal.Hand

open Cert.Reference3Ideal Cert.Reference3Ideal.Gen
open Idealize.ShloMosaic Idealize.ShloMosaic.TcCoe Idealize.SL.Sem
open Cert.Kernel3Ideal.Hand (rmsAt residAt nextAt)

variable {F : FTy → Type} [FloatOps F]

/-- One over the root of a row's mean square, a little raised. -/
def scaleOf (x : FVec F S2x4096x2048 .f32) : FVec F S2x4096x1 .f32 :=
  Host.rsqrt (addf (Host.divf (broadcastInDim S2x4096x1 ![0, 1] bcast_S2x4096_S2x4096x1_0_1
      (Host.reduceAdd (mulf x x) (constant S_ .f32 0x00000000#32) reducesTo_S2x4096x2048_S2x4096_d2 h_S_))
    (broadcastInDim S2x4096x1 ![] bcast_S_S2x4096x1 (constant S_ .f32 0x45000000#32)))
    (broadcastInDim S2x4096x1 ![] bcast_S_S2x4096x1 (constant S_ .f32 0x358637BD#32)))

/-- The rows normalized. -/
def normOf (x : FVec F S2x4096x2048 .f32) (nw : FVec F S1x2048 .f32) : FVec F S2x4096x2048 .f32 :=
  mulf (mulf x (broadcastInDim S2x4096x2048 ![0, 1, 2] bcast_S2x4096x1_S2x4096x2048_0_1_2 (scaleOf x)))
    (broadcastInDim S2x4096x2048 ![0, 1, 2] bcast_S1x1x2048_S2x4096x2048_0_1_2
      (broadcastInDim S1x1x2048 ![2] bcast_S2048_S1x1x2048_2 (shapeCast _ nw shapeCasts_S1x2048_S2048)))

/-- The modulation, with an axis for the positions. -/
def modOf (mod : FVec F S2x12288 .f32) : FVec F S2x1x12288 .f32 := broadcastInDim S2x1x12288 ![0, 2] bcast_S2x12288_S2x1x12288_0_2 mod

/-- The mixer's rows times the output weight. -/
def mixedOf (o : FVec F S8192x2048 .bf16) (wo : FVec F S1x2048x2048 .f32) : FVec F S2x4096x2048 .f32 :=
  Host.dotGeneral dot_S2x4096x2048_S2048x2048_S2x4096x2048_2_0_01_1_n_n none (shapeCast _ (extf .f32 o bitsLt_bf16_f32) shapeCasts_S8192x2048_S2x4096x2048)
    (shapeCast _ wo shapeCasts_S1x2048x2048_S2048x2048)

/-- The residual stream after the projection, of the rows `y` that it adds. -/
def addedOf (x : FVec F S2x4096x2048 .f32) (mod : FVec F S2x12288 .f32) (y : FVec F S2x4096x2048 .f32) (pw : FVec F S1x2048 .f32) : FVec F S2x4096x2048 .f32 :=
  addf x (mulf (broadcastInDim S2x4096x2048 ![0, 1, 2] bcast_S2x1x2048_S2x4096x2048_0_1_2
    (extractStridedSlice S2x1x2048 ![0, 0, 4096] (modOf mod) slices_S2x1x12288_S2x1x2048_0_0_4096)) (normOf y pw))

/-- The rows that the feed-forward part takes. -/
def nextOf (x : FVec F S2x4096x2048 .f32) (mod : FVec F S2x12288 .f32) (nw : FVec F S1x2048 .f32) : FVec F S2x4096x2048 .bf16 :=
  truncf .bf16 (addf (mulf (normOf x nw) (broadcastInDim S2x4096x2048 ![0, 1, 2] bcast_S2x1x2048_S2x4096x2048_0_1_2
      (addf (broadcastInDim S2x1x2048 ![] bcast_S_S2x1x2048 (constant S_ .f32 0x3F800000#32))
        (extractStridedSlice S2x1x2048 ![0, 0, 8192] (modOf mod) slices_S2x1x12288_S2x1x2048_0_0_8192))))
    (broadcastInDim S2x4096x2048 ![0, 1, 2] bcast_S2x1x2048_S2x4096x2048_0_1_2
      (extractStridedSlice S2x1x2048 ![0, 0, 6144] (modOf mod) slices_S2x1x12288_S2x1x2048_0_0_6144))) bitsLt_bf16_f32

section Results
variable (o : FVec F S8192x2048 .bf16) (x : FVec F S2x4096x2048 .f32) (mod : FVec F S2x12288 .f32) (wo : FVec F S1x2048x2048 .f32) (pw nw : FVec F S1x2048 .f32)

/-- The reference's three results. -/
def out0 : FVec F S8192x2048 .f32 := shapeCast _ (addedOf x mod (mixedOf o wo) pw) shapeCasts_S2x4096x2048_S8192x2048
def out1 : FVec F S8192x2048 .bf16 := shapeCast _ (nextOf (addedOf x mod (mixedOf o wo) pw) mod nw) shapeCasts_S2x4096x2048_S8192x2048
def out2 : FVec F S8192x16x128 .bf16 := shapeCast _ (nextOf (addedOf x mod (mixedOf o wo) pw) mod nw) shapeCasts_S2x4096x2048_S8192x16x128

end Results

theorem scaleOf_at (x : FVec Ideal S2x4096x2048 .f32) (b : Fin 2) (t : Fin 4096) (o : Fin 1) :
    scaleOf x (ix3 b t o) = Ideal.rsqrt (Ideal.div (∑ j : Fin 2048, x (ix3 b t j) * x (ix3 b t j)) (Ideal.ofBits FTy.f32 0x45000000#32) + Ideal.ofBits FTy.f32 0x358637BD#32) := by
  pointwise [scaleOf]

theorem normOf_at (x : FVec Ideal S2x4096x2048 .f32) (nw : FVec Ideal S1x2048 .f32) (b : Fin 2) (t : Fin 4096) (k : Fin 2048) :
    normOf x nw (ix3 b t k) = rmsAt (fun k => x (ix3 b t k)) (fun k => nw (ix2 (0 : Fin 1) k)) k := by
  unfold rmsAt
  pointwise [normOf]
  simp only [scaleOf_at]

theorem mixedOf_at (o : FVec Ideal S8192x2048 .bf16) (wo : FVec Ideal S1x2048x2048 .f32) (b : Fin 2) (t : Fin 4096) (k : Fin 2048) :
    mixedOf o wo (ix3 b t k) = ∑ j : Fin 2048, o (ix2 (⟨b.val * 4096 + t.val, by omega⟩ : Fin 8192) j) * wo (ix3 (0 : Fin 1) j k) := by
  pointwise [mixedOf]

theorem addedOf_at (x : FVec Ideal S2x4096x2048 .f32) (mod : FVec Ideal S2x12288 .f32) (y : FVec Ideal S2x4096x2048 .f32) (pw : FVec Ideal S1x2048 .f32) (b : Fin 2) (t : Fin 4096) (k : Fin 2048) :
    addedOf x mod y pw (ix3 b t k) = x (ix3 b t k) + mod (ix2 b (⟨4096 + k.val, by omega⟩ : Fin 12288)) * rmsAt (fun k => y (ix3 b t k)) (fun k => pw (ix2 (0 : Fin 1) k)) k := by
  rw [← normOf_at]
  unfold addedOf
  generalize normOf y pw = z
  pointwise [modOf]

theorem nextOf_at (x : FVec Ideal S2x4096x2048 .f32) (mod : FVec Ideal S2x12288 .f32) (nw : FVec Ideal S1x2048 .f32) (b : Fin 2) (t : Fin 4096) (k : Fin 2048) :
    nextOf x mod nw (ix3 b t k) = nextAt (fun k => x (ix3 b t k)) (fun k => nw (ix2 (0 : Fin 1) k))
      (fun k => mod (ix2 b (⟨8192 + k.val, by omega⟩ : Fin 12288))) (fun k => mod (ix2 b (⟨6144 + k.val, by omega⟩ : Fin 12288))) k := by
  unfold nextAt
  rw [← normOf_at]
  unfold nextOf
  generalize normOf x nw = z
  pointwise [modOf]

section At
variable (o : FVec Ideal S8192x2048 .bf16) (x : FVec Ideal S2x4096x2048 .f32) (mod : FVec Ideal S2x12288 .f32) (wo : FVec Ideal S1x2048x2048 .f32) (pw nw : FVec Ideal S1x2048 .f32)

/-- Row `n` of the residual stream after the projection. -/
def rowAt (n : Fin 8192) (k : Fin 2048) : EReal :=
  residAt (fun k => o (ix2 n k)) (fun j k => wo (ix3 (0 : Fin 1) j k)) (fun k => pw (ix2 (0 : Fin 1) k))
    (fun k => x (ix3 (⟨n.val / 4096, by omega⟩ : Fin 2) (⟨n.val % 4096, by omega⟩ : Fin 4096) k))
    (fun k => mod (ix2 (⟨n.val / 4096, by omega⟩ : Fin 2) (⟨4096 + k.val, by omega⟩ : Fin 12288))) k

/-- Row `n` of what the feed-forward part takes. -/
def nextRowAt (n : Fin 8192) (k : Fin 2048) : EReal :=
  nextAt (rowAt o x mod wo pw n) (fun k => nw (ix2 (0 : Fin 1) k))
    (fun k => mod (ix2 (⟨n.val / 4096, by omega⟩ : Fin 2) (⟨8192 + k.val, by omega⟩ : Fin 12288)))
    (fun k => mod (ix2 (⟨n.val / 4096, by omega⟩ : Fin 2) (⟨6144 + k.val, by omega⟩ : Fin 12288))) k

theorem added_row (n : Fin 8192) (k : Fin 2048) :
    addedOf x mod (mixedOf o wo) pw (ix3 (⟨n.val / 4096, by omega⟩ : Fin 2) (⟨n.val % 4096, by omega⟩ : Fin 4096) k) = rowAt o x mod wo pw n k := by
  rw [addedOf_at]
  unfold rowAt residAt
  have e : (⟨n.val / 4096 * 4096 + n.val % 4096, by omega⟩ : Fin 8192) = n := Fin.ext (by show n.val / 4096 * 4096 + n.val % 4096 = n.val; omega)
  simp only [mixedOf_at, e]

theorem next_row (n : Fin 8192) (k : Fin 2048) :
    nextOf (addedOf x mod (mixedOf o wo) pw) mod nw (ix3 (⟨n.val / 4096, by omega⟩ : Fin 2) (⟨n.val % 4096, by omega⟩ : Fin 4096) k) = nextRowAt o x mod wo pw nw n k := by
  rw [nextOf_at]
  unfold nextRowAt
  exact congrArg (fun f => nextAt f _ _ _ k) (funext fun k => added_row o x mod wo pw n k)

theorem flat_at {α : Type} (y : S2x4096x2048.Idx → α) (n : Fin 8192) (k : Fin 2048) :
    shapeCast S8192x2048 y shapeCasts_S2x4096x2048_S8192x2048 (ix2 n k) = y (ix3 (⟨n.val / 4096, by omega⟩ : Fin 2) (⟨n.val % 4096, by omega⟩ : Fin 4096) k) := by
  pointwise
theorem tiles_at {α : Type} (y : S2x4096x2048.Idx → α) (n : Fin 8192) (p : Fin 16) (q : Fin 128) :
    shapeCast S8192x16x128 y shapeCasts_S2x4096x2048_S8192x16x128 (ix3 n p q)
      = y (ix3 (⟨n.val / 4096, by omega⟩ : Fin 2) (⟨n.val % 4096, by omega⟩ : Fin 4096) (⟨p.val * 128 + q.val, by omega⟩ : Fin 2048)) := by
  pointwise

theorem out0_at (n : Fin 8192) (k : Fin 2048) : out0 o x mod wo pw (ix2 n k) = rowAt o x mod wo pw n k :=
  (flat_at _ n k).trans (added_row o x mod wo pw n k)
theorem out1_at (n : Fin 8192) (k : Fin 2048) : out1 o x mod wo pw nw (ix2 n k) = nextRowAt o x mod wo pw nw n k :=
  (flat_at _ n k).trans (next_row o x mod wo pw nw n k)
theorem out2_at (n : Fin 8192) (p : Fin 16) (q : Fin 128) :
    out2 o x mod wo pw nw (ix3 n p q) = nextRowAt o x mod wo pw nw n (⟨p.val * 128 + q.val, by omega⟩ : Fin 2048) :=
  (tiles_at _ n p q).trans (next_row o x mod wo pw nw n _)

end At

section Term
variable (m' : (ℓ : Loc nD τ sig) → Buf (Elt F) ℓ) (ρ : Dev nD → PrngReg)

/-- The reference's run, its results by those names. -/
theorem run : θ_run defs (onTc (τ := τ) (main (F := F))) ⟨m', fun _ => 0, ρ⟩ fun r => ∀ c : Dev nD,
      r.2.mem ((c.tc : Thread nD τ).loc main_v49) = out0 (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4))
      ∧ r.2.mem ((c.tc : Thread nD τ).loc main_v50) = out1 (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5))
      ∧ r.2.mem ((c.tc : Thread nD τ).loc main_v51) = out2 (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7) :=
  Cert.Reference3Ideal.Value.run m' ρ

end Term

end Cert.Reference3Ideal.Hand

end
-- ==== Proof.OutValue.lean ====
/-
  The arrays that the output projection's call leaves.
-/
module

public import proofs.«01_k».proof.Defs
public import proofs.«01_k».proof.Proof.OutRef

@[expose] public section

noncomputable section

namespace Cert.Kernel3Ideal.Hand

open Cert.Kernel3Ideal Cert.Kernel3Ideal.Gen
open Idealize.ShloMosaic Idealize.ShloMosaic.TcCoe Idealize.SL.Sem

variable (m : (ℓ : Loc nD τ sig) → Buf (Elt Ideal) ℓ) (c : Dev nD)

/-- The rows, the modulation and the weight, as the call takes them. -/
theorem V_rows : (V m c main_v0 : S8192x2048.Idx → EReal) = shapeCast S8192x2048 (m ((c : Thread nD τ).loc main_arg1) : S2x4096x2048.Idx → EReal) shapeCasts_S2x4096x2048_S8192x2048 := by
  show StableHlo.after hostOps0 _ (Proc.devRef .tc main_v0) = _
  after_results_simp <;> rfl
theorem V_mod : (V m c main_v1 : S2x6x2048.Idx → EReal) = shapeCast S2x6x2048 (m ((c : Thread nD τ).loc main_arg2) : S2x12288.Idx → EReal) shapeCasts_S2x12288_S2x6x2048 := by
  show StableHlo.after hostOps0 _ (Proc.devRef .tc main_v1) = _
  after_results_simp <;> rfl
theorem V_weight : (V m c main_v8 : S2048x2048.Idx → EReal) = truncf (F := Ideal) .bf16 (shapeCast S2048x2048 (m ((c : Thread nD τ).loc main_arg3) : FVec Ideal S1x2048x2048 .f32) shapeCasts_S1x2048x2048_S2048x2048) bitsLt_bf16_f32 := by
  show StableHlo.after hostOps0 _ (Proc.devRef .tc main_v8) = _
  after_results_simp <;> rfl

theorem rows_at (x : S2x4096x2048.Idx → EReal) (n : Fin 8192) (k : Fin 2048) :
    shapeCast S8192x2048 x shapeCasts_S2x4096x2048_S8192x2048 (Idealize.ShloMosaic.ix2 n k)
      = x (Idealize.ShloMosaic.ix3 (⟨n.val / 4096, by omega⟩ : Fin 2) (⟨n.val % 4096, by omega⟩ : Fin 4096) k) := by
  pointwise
theorem mod_at (x : S2x12288.Idx → EReal) (b : Fin 2) (q : Fin 6) (k : Fin 2048) :
    shapeCast S2x6x2048 x shapeCasts_S2x12288_S2x6x2048 (Idealize.ShloMosaic.ix3 b q k)
      = x (Idealize.ShloMosaic.ix2 b (⟨q.val * 2048 + k.val, by omega⟩ : Fin 12288)) := by
  pointwise
theorem weight_at (x : FVec Ideal S1x2048x2048 .f32) (j k : Fin 2048) :
    truncf (F := Ideal) .bf16 (shapeCast S2048x2048 x shapeCasts_S1x2048x2048_S2048x2048) bitsLt_bf16_f32 (Idealize.ShloMosaic.ix2 j k)
      = x (Idealize.ShloMosaic.ix3 (0 : Fin 1) j k) := by
  pointwise

theorem points (t : Fin cfg0.N) : t.val < 16 := lt_of_lt_of_eq t.isLt N_0

/-- Which block of each array a point takes. -/
theorem index0 : ∀ t : Fin cfg0.N, win0_0.index t = ![t.val, 0] := (by decide +kernel : ∀ t : Fin grid0.N, win0_0.index t = ![t.val, 0])
theorem index1 : ∀ t : Fin cfg0.N, win0_1.index t = ![t.val, 0] := (by decide +kernel : ∀ t : Fin grid0.N, win0_1.index t = ![t.val, 0])
theorem index2 : ∀ t : Fin cfg0.N, win0_2.index t = ![t.val / 8, 0, 0] := (by decide +kernel : ∀ t : Fin grid0.N, win0_2.index t = ![t.val / 8, 0, 0])
theorem index3 : ∀ t : Fin cfg0.N, win0_3.index t = ![0, 0] := (by decide +kernel : ∀ t : Fin grid0.N, win0_3.index t = ![0, 0])
theorem index4 : ∀ t : Fin cfg0.N, win0_4.index t = ![0, 0] := (by decide +kernel : ∀ t : Fin grid0.N, win0_4.index t = ![0, 0])
theorem index5 : ∀ t : Fin cfg0.N, win0_5.index t = ![0, 0] := (by decide +kernel : ∀ t : Fin grid0.N, win0_5.index t = ![0, 0])

variable (t : Fin cfg0.N)

/-- Row `r` of the point's block of rows. -/
def rowAt (q : ℕ) (hq : q < 16) (r : Fin 512) : Fin 8192 := ⟨q * 512 + r.val, by omega⟩

theorem block0 (r : Fin 512) (k : Fin 2048) :
    iblk m c 0 t (Idealize.ShloMosaic.ix2 r k : S512x2048.Idx) = (V m c main_arg0 : S8192x2048.Idx → EReal) (Idealize.ShloMosaic.ix2 (rowAt t.val (points t) r) k) := by
  refine congrArg (V m c main_arg0 : S8192x2048.Idx → EReal) (funext fun a => Fin.ext ?_)
  match a with
  | ⟨0, _⟩ => show win0_0.index t (0 : Fin 2) * 512 + 1 * r.val = t.val * 512 + r.val; rw [index0]; show t.val * 512 + 1 * r.val = _; omega
  | ⟨1, _⟩ => show win0_0.index t (1 : Fin 2) * 2048 + 1 * k.val = k.val; rw [index0]; show 0 * 2048 + 1 * k.val = _; omega

theorem block1 (r : Fin 512) (k : Fin 2048) :
    iblk m c 1 t (Idealize.ShloMosaic.ix2 r k : S512x2048.Idx) = (V m c main_v0 : S8192x2048.Idx → EReal) (Idealize.ShloMosaic.ix2 (rowAt t.val (points t) r) k) := by
  refine congrArg (V m c main_v0 : S8192x2048.Idx → EReal) (funext fun a => Fin.ext ?_)
  match a with
  | ⟨0, _⟩ => show win0_1.index t (0 : Fin 2) * 512 + 1 * r.val = t.val * 512 + r.val; rw [index1]; show t.val * 512 + 1 * r.val = _; omega
  | ⟨1, _⟩ => show win0_1.index t (1 : Fin 2) * 2048 + 1 * k.val = k.val; rw [index1]; show 0 * 2048 + 1 * k.val = _; omega

theorem block2 (q : Fin 6) (k : Fin 2048) :
    iblk m c 2 t (Idealize.ShloMosaic.ix3 (0 : Fin 1) q k : S1x6x2048.Idx)
      = (V m c main_v1 : S2x6x2048.Idx → EReal) (Idealize.ShloMosaic.ix3 (⟨t.val / 8, by have := points t; omega⟩ : Fin 2) q k) := by
  refine congrArg (V m c main_v1 : S2x6x2048.Idx → EReal) (funext fun a => Fin.ext ?_)
  match a with
  | ⟨0, _⟩ => show win0_2.index t (0 : Fin 3) * 1 + 1 * 0 = t.val / 8; rw [index2]; show t.val / 8 * 1 + 1 * 0 = _; omega
  | ⟨1, _⟩ => show win0_2.index t (1 : Fin 3) * 6 + 1 * q.val = q.val; rw [index2]; show 0 * 6 + 1 * q.val = _; omega
  | ⟨2, _⟩ => show win0_2.index t (2 : Fin 3) * 2048 + 1 * k.val = k.val; rw [index2]; show 0 * 2048 + 1 * k.val = _; omega

theorem block3 (j k : Fin 2048) :
    iblk m c 3 t (Idealize.ShloMosaic.ix2 j k : S2048x2048.Idx) = (V m c main_v8 : S2048x2048.Idx → EReal) (Idealize.ShloMosaic.ix2 j k) := by
  refine congrArg (V m c main_v8 : S2048x2048.Idx → EReal) (funext fun a => Fin.ext ?_)
  match a with
  | ⟨0, _⟩ => show win0_3.index t (0 : Fin 2) * 2048 + 1 * j.val = j.val; rw [index3]; show 0 * 2048 + 1 * j.val = _; omega
  | ⟨1, _⟩ => show win0_3.index t (1 : Fin 2) * 2048 + 1 * k.val = k.val; rw [index3]; show 0 * 2048 + 1 * k.val = _; omega

theorem block4 (k : Fin 2048) :
    iblk m c 4 t (Idealize.ShloMosaic.ix2 (0 : Fin 1) k : S1x2048.Idx) = (V m c main_arg4 : S1x2048.Idx → EReal) (Idealize.ShloMosaic.ix2 (0 : Fin 1) k) := by
  refine congrArg (V m c main_arg4 : S1x2048.Idx → EReal) (funext fun a => Fin.ext ?_)
  match a with
  | ⟨0, _⟩ => show win0_4.index t (0 : Fin 2) * 1 + 1 * 0 = 0; rw [index4]; rfl
  | ⟨1, _⟩ => show win0_4.index t (1 : Fin 2) * 2048 + 1 * k.val = k.val; rw [index4]; show 0 * 2048 + 1 * k.val = _; omega

theorem block5 (k : Fin 2048) :
    iblk m c 5 t (Idealize.ShloMosaic.ix2 (0 : Fin 1) k : S1x2048.Idx) = (V m c main_arg5 : S1x2048.Idx → EReal) (Idealize.ShloMosaic.ix2 (0 : Fin 1) k) := by
  refine congrArg (V m c main_arg5 : S1x2048.Idx → EReal) (funext fun a => Fin.ext ?_)
  match a with
  | ⟨0, _⟩ => show win0_5.index t (0 : Fin 2) * 1 + 1 * 0 = 0; rw [index5]; rfl
  | ⟨1, _⟩ => show win0_5.index t (1 : Fin 2) * 2048 + 1 * k.val = k.val; rw [index5]; show 0 * 2048 + 1 * k.val = _; omega

/-- Row `q` of the modulation at the point, as the row of its batch. -/
theorem mod_row (q : Fin 6) (r : Fin 512) (k : Fin 2048) :
    modRow (F := Ideal) q (iblk m c 2 t) (Idealize.ShloMosaic.ix3 (0 : Fin 1) (0 : Fin 1) k)
      = (m ((c : Thread nD τ).loc main_arg2) : S2x12288.Idx → EReal) (Idealize.ShloMosaic.ix2 (⟨(rowAt t.val (points t) r).val / 4096, by omega⟩ : Fin 2) (⟨q.val * 2048 + k.val, by omega⟩ : Fin 12288)) := by
  have e : (⟨t.val / 8, by have := points t; omega⟩ : Fin 2) = ⟨(rowAt t.val (points t) r).val / 4096, by omega⟩ :=
    Fin.ext (by show t.val / 8 = (t.val * 512 + r.val) / 4096; omega)
  refine (block2 m c t q k).trans ?_
  rw [V_mod, e]
  exact mod_at _ _ _ _

/-- The residual stream that a point computes. -/
theorem stream_at (r : Fin 512) (k : Fin 2048) :
    resid (F := Ideal) (iblk m c 0 t) (iblk m c 3 t) (iblk m c 4 t) (iblk m c 1 t) (modRow (F := Ideal) 2 (iblk m c 2 t)) (Idealize.ShloMosaic.ix2 r k)
      = Cert.Reference3Ideal.Hand.rowAt (m ((c : Thread nD τ).loc main_arg0)) (m ((c : Thread nD τ).loc main_arg1)) (m ((c : Thread nD τ).loc main_arg2)) (m ((c : Thread nD τ).loc main_arg3)) (m ((c : Thread nD τ).loc main_arg4)) (rowAt t.val (points t) r) k := by
  refine (resid_at _ _ _ _ _ r k).trans ?_
  unfold Cert.Reference3Ideal.Hand.rowAt
  congr 1
  · funext k; exact (block0 m c t r k).trans (by rw [V_main_arg0])
  · funext j k; exact (block3 m c t j k).trans (by rw [V_weight]; exact weight_at _ _ _)
  · funext k; exact (block4 m c t k).trans (by rw [V_main_arg4])
  · funext k; exact (block1 m c t r k).trans (by rw [V_rows]; exact rows_at _ _ _)
  · funext k
    refine (mod_row m c t 2 r k).trans ?_
    exact congrArg _ (congrArg _ (Fin.ext (by show 2 * 2048 + k.val = 4096 + k.val; omega)))

/-- The rows that it computes for the feed-forward part. -/
theorem next_at (r : Fin 512) (k : Fin 2048) :
    hidden (F := Ideal) (iblk m c 0 t) (iblk m c 3 t) (iblk m c 4 t) (iblk m c 1 t) (iblk m c 5 t) (modRow (F := Ideal) 2 (iblk m c 2 t)) (modRow (F := Ideal) 4 (iblk m c 2 t)) (modRow (F := Ideal) 3 (iblk m c 2 t)) (Idealize.ShloMosaic.ix2 r k)
      = Cert.Reference3Ideal.Hand.nextRowAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (rowAt t.val (points t) r) k := by
  refine (hidden_at _ _ _ _ _ _ _ _ r k).trans ?_
  unfold Cert.Reference3Ideal.Hand.nextRowAt
  congr 1
  · funext k; exact stream_at m c t r k
  · funext k; exact (block5 m c t k).trans (by rw [V_main_arg5])
  · funext k
    refine (mod_row m c t 4 r k).trans ?_
    exact congrArg _ (congrArg _ (Fin.ext (by show 4 * 2048 + k.val = 8192 + k.val; omega)))
  · funext k
    refine (mod_row m c t 3 r k).trans ?_
    exact congrArg _ (congrArg _ (Fin.ext (by show 3 * 2048 + k.val = 6144 + k.val; omega)))

/-- What each point writes. -/
theorem wrote8 : (outsAt0 m c t.val t.isLt).1 = resid (F := Ideal) (iblk m c 0 t) (iblk m c 3 t) (iblk m c 4 t) (iblk m c 1 t) (modRow (F := Ideal) 2 (iblk m c 2 t)) := by
  by_cases h : t.val % 16 = 0
  · rw [outsAt0_A m c t h]; dsimp only; rw [out_A_8]
  · rw [outsAt0_B m c t h]; dsimp only; rw [out_B_8]
theorem wrote9 : (outsAt0 m c t.val t.isLt).2.1 = hidden (F := Ideal) (iblk m c 0 t) (iblk m c 3 t) (iblk m c 4 t) (iblk m c 1 t) (iblk m c 5 t) (modRow (F := Ideal) 2 (iblk m c 2 t)) (modRow (F := Ideal) 4 (iblk m c 2 t)) (modRow (F := Ideal) 3 (iblk m c 2 t)) := by
  by_cases h : t.val % 16 = 0
  · rw [outsAt0_A m c t h]; dsimp only; rw [out_A_9]
  · rw [outsAt0_B m c t h]; dsimp only; rw [out_B_9]
theorem wrote10 : (outsAt0 m c t.val t.isLt).2.2.1 = hiddenTiles (F := Ideal) (iblk m c 0 t) (iblk m c 3 t) (iblk m c 4 t) (iblk m c 1 t) (iblk m c 5 t) (modRow (F := Ideal) 2 (iblk m c 2 t)) (modRow (F := Ideal) 4 (iblk m c 2 t)) (modRow (F := Ideal) 3 (iblk m c 2 t)) := by
  by_cases h : t.val % 16 = 0
  · rw [outsAt0_A m c t h]; dsimp only; rw [out_A_10]
  · rw [outsAt0_B m c t h]; dsimp only; rw [out_B_10]

theorem row_of (n : Fin 8192) (h : n.val / 512 < 16) : rowAt (n.val / 512) h (⟨n.val % 512, by omega⟩ : Fin 512) = n :=
  Fin.ext (by show n.val / 512 * 512 + n.val % 512 = n.val; omega)

/-- The residual stream after the run is what the reference says. -/
theorem result8 : Cert.Kernel3Ideal.Value.G8 m c = Cert.Reference3Ideal.Hand.out0 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  funext i
  obtain ⟨n, k, rfl⟩ : ∃ (n : Fin 8192) (k : Fin 2048), i = (Idealize.ShloMosaic.ix2 n k : S8192x2048.Idx) := ⟨i 0, i 1, Idealize.ShloMosaic.eq_ix2 i⟩
  refine Eq.trans ?_ (Cert.Reference3Ideal.Hand.out0_at _ _ _ _ _ n k).symm
  have hn := n.isLt
  have hk := k.isLt
  have hp : n.val / 512 < cfg0.N := lt_of_lt_of_eq (by omega) N_0.symm
  have hq : Cert.Kernel3Ideal.Value.pt8Of (Idealize.ShloMosaic.ix2 n k : S8192x2048.Idx) = n.val / 512 := by
    show 1 * (n.val / 512 - 0) + 1 * (k.val / 2048 - 0) = _
    omega
  have hl : Cert.Kernel3Ideal.Value.loc8Of (Idealize.ShloMosaic.ix2 n k : S8192x2048.Idx)
      = (Idealize.ShloMosaic.ix2 (⟨n.val % 512, by omega⟩ : Fin 512) k : S512x2048.Idx) := by
    funext a
    match a with
    | ⟨0, _⟩ => rfl
    | ⟨1, _⟩ => exact Fin.ext (Nat.mod_eq_of_lt hk)
  unfold Cert.Kernel3Ideal.Value.G8
  rw [dif_pos (by rw [hq]; exact hp), hl, Cert.Kernel3Ideal.Value.fold0_congr m c _ _ (n.val / 512) (by omega) hq]
  have hs := Cert.Kernel3Ideal.Value.outsAt0_sweep m c _ hp
  refine (congrArg (fun s => s.1 (Idealize.ShloMosaic.ix2 (⟨n.val % 512, by omega⟩ : Fin 512) k : S512x2048.Idx)) hs.symm).trans ?_
  refine (congrFun (wrote8 m c ⟨_, hp⟩) _).trans ((stream_at m c ⟨_, hp⟩ _ k).trans ?_)
  exact congrArg (fun i => Cert.Reference3Ideal.Hand.rowAt (m ((c : Thread nD τ).loc main_arg0)) (m ((c : Thread nD τ).loc main_arg1)) (m ((c : Thread nD τ).loc main_arg2)) (m ((c : Thread nD τ).loc main_arg3)) (m ((c : Thread nD τ).loc main_arg4)) i k) (row_of n _)

/-- The rows for the feed-forward part after the run are what the reference says. -/
theorem result9 : Cert.Kernel3Ideal.Value.G9 m c = Cert.Reference3Ideal.Hand.out1 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  funext i
  obtain ⟨n, k, rfl⟩ : ∃ (n : Fin 8192) (k : Fin 2048), i = (Idealize.ShloMosaic.ix2 n k : S8192x2048.Idx) := ⟨i 0, i 1, Idealize.ShloMosaic.eq_ix2 i⟩
  refine Eq.trans ?_ (Cert.Reference3Ideal.Hand.out1_at _ _ _ _ _ _ n k).symm
  have hn := n.isLt
  have hk := k.isLt
  have hp : n.val / 512 < cfg0.N := lt_of_lt_of_eq (by omega) N_0.symm
  have hq : Cert.Kernel3Ideal.Value.pt9Of (Idealize.ShloMosaic.ix2 n k : S8192x2048.Idx) = n.val / 512 := by
    show 1 * (n.val / 512 - 0) + 1 * (k.val / 2048 - 0) = _
    omega
  have hl : Cert.Kernel3Ideal.Value.loc9Of (Idealize.ShloMosaic.ix2 n k : S8192x2048.Idx)
      = (Idealize.ShloMosaic.ix2 (⟨n.val % 512, by omega⟩ : Fin 512) k : S512x2048.Idx) := by
    funext a
    match a with
    | ⟨0, _⟩ => rfl
    | ⟨1, _⟩ => exact Fin.ext (Nat.mod_eq_of_lt hk)
  unfold Cert.Kernel3Ideal.Value.G9
  rw [dif_pos (by rw [hq]; exact hp), hl, Cert.Kernel3Ideal.Value.fold0_congr m c _ _ (n.val / 512) (by omega) hq]
  have hs := Cert.Kernel3Ideal.Value.outsAt0_sweep m c _ hp
  refine (congrArg (fun s => s.2.1 (Idealize.ShloMosaic.ix2 (⟨n.val % 512, by omega⟩ : Fin 512) k : S512x2048.Idx)) hs.symm).trans ?_
  refine (congrFun (wrote9 m c ⟨_, hp⟩) _).trans ((next_at m c ⟨_, hp⟩ _ k).trans ?_)
  exact congrArg (fun i => Cert.Reference3Ideal.Hand.nextRowAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) i k) (row_of n _)

/-- Those rows in pieces. -/
theorem result10 : Cert.Kernel3Ideal.Value.G10 m c = Cert.Reference3Ideal.Hand.out2 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  funext i
  obtain ⟨n, p, q, rfl⟩ : ∃ (n : Fin 8192) (p : Fin 16) (q : Fin 128), i = (Idealize.ShloMosaic.ix3 n p q : S8192x16x128.Idx) := ⟨i 0, i 1, i 2, Idealize.ShloMosaic.eq_ix3 i⟩
  refine Eq.trans ?_ (Cert.Reference3Ideal.Hand.out2_at _ _ _ _ _ _ n p q).symm
  have hn := n.isLt
  have hp' := p.isLt
  have hq' := q.isLt
  have hp : n.val / 512 < cfg0.N := lt_of_lt_of_eq (by omega) N_0.symm
  have hq : Cert.Kernel3Ideal.Value.pt10Of (Idealize.ShloMosaic.ix3 n p q : S8192x16x128.Idx) = n.val / 512 := by
    show 1 * (n.val / 512 - 0) + 1 * (p.val / 16 - 0) + 1 * (q.val / 128 - 0) = _
    omega
  have hl : Cert.Kernel3Ideal.Value.loc10Of (Idealize.ShloMosaic.ix3 n p q : S8192x16x128.Idx)
      = (Idealize.ShloMosaic.ix3 (⟨n.val % 512, by omega⟩ : Fin 512) p q : S512x16x128.Idx) := by
    funext a
    match a with
    | ⟨0, _⟩ => rfl
    | ⟨1, _⟩ => exact Fin.ext (Nat.mod_eq_of_lt hp')
    | ⟨2, _⟩ => exact Fin.ext (Nat.mod_eq_of_lt hq')
  unfold Cert.Kernel3Ideal.Value.G10
  rw [dif_pos (by rw [hq]; exact hp), hl, Cert.Kernel3Ideal.Value.fold0_congr m c _ _ (n.val / 512) (by omega) hq]
  have hs := Cert.Kernel3Ideal.Value.outsAt0_sweep m c _ hp
  refine (congrArg (fun s => s.2.2.1 (Idealize.ShloMosaic.ix3 (⟨n.val % 512, by omega⟩ : Fin 512) p q : S512x16x128.Idx)) hs.symm).trans ?_
  refine (congrFun (wrote10 m c ⟨_, hp⟩) _).trans ((hiddenTiles_at _ _ _ _ _ _ _ _ _ p q).trans ((next_at m c ⟨_, hp⟩ _ _).trans ?_))
  exact congrArg (fun i => Cert.Reference3Ideal.Hand.nextRowAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) i _) (row_of n _)

/-- The two programs' results are equal, as extended reals. -/
theorem algebraic : Cert.algebraic_Kernel3Ideal_Reference3Ideal := fun m g m' g' _ hagree => by
  refine ⟨fun c => Cert.Kernel3Ideal.Value.G8 m c, fun c => Cert.Kernel3Ideal.Value.G9 m c, fun c => Cert.Kernel3Ideal.Value.G10 m c, ?_, ?_⟩
  · refine (θ_run Cert.Kernel3Ideal.defs _ _).mono (fun r h c => ?_) (Cert.Kernel3Ideal.Value.run (F := Ideal) m g)
    obtain ⟨h8, h9, h10, _, _, _, _, hargs⟩ := h c
    exact ⟨h8, h9, h10, hargs⟩
  · refine (θ_run Cert.Reference3Ideal.defs _ _).mono (fun r h c => ?_) (Cert.Reference3Ideal.Hand.run (F := Ideal) m' g')
    obtain ⟨e0, e1, e2, hargs⟩ := h c
    obtain ⟨h0, h1, h2, h3, h4, h5, h6, h7⟩ := hagree c
    rw [h0, h1, h2, h3, h4] at e0
    rw [h0, h1, h2, h3, h4, h5] at e1 e2
    exact ⟨e0.trans (result8 m c).symm, e1.trans (result9 m c).symm, e2.trans (result10 m c).symm, hargs⟩

end Cert.Kernel3Ideal.Hand

end
-- ==== Proof.AdaFrames.lean ====
/-
  The two programs of the modulation's call are one text, and its runs leave the arguments alone.
-/
module

public import proofs.«01_k».proof.Defs
public import proofs.«01_k».proof.Proof.Gen.Kernel4Ideal.Value
public import proofs.«01_k».proof.Proof.Gen.Reference4Ideal.Run

@[expose] public section

noncomputable section

namespace Cert.Kernel4Ideal.Hand

open Cert.Kernel4Ideal Cert.Kernel4Ideal.Gen
open Idealize.ShloMosaic Idealize.ShloMosaic.TcCoe Idealize.SL.Sem

/-- What the one text asks of its shapes and windows, the other has proved. -/
instance side₀ : Cert.Kernel4.Facts₀ where
  bcast_S_S8x2048 := @Cert.Kernel4Ideal.Gen.bcast_S_S8x2048
  bcast_S_S1 := @Cert.Kernel4Ideal.Gen.bcast_S_S1
  shapeCasts_S1x2048x12288_S2048x12288 := @Cert.Kernel4Ideal.Gen.shapeCasts_S1x2048x12288_S2048x12288
  shapeCasts_S1x12288_S12288 := @Cert.Kernel4Ideal.Gen.shapeCasts_S1x12288_S12288
  bcast_S12288_S1x12288_1 := @Cert.Kernel4Ideal.Gen.bcast_S12288_S1x12288_1
  inb_S8x2048_S8x2048_0_0 := @Cert.Kernel4Ideal.Gen.inb_S8x2048_S8x2048_0_0
  h_S8x2048 := @Cert.Kernel4Ideal.Gen.h_S8x2048
  shapeCasts_S8x2048_S8x2048 := @Cert.Kernel4Ideal.Gen.shapeCasts_S8x2048_S8x2048
  inb_S2048x1024_S2048x1024_0_0 := @Cert.Kernel4Ideal.Gen.inb_S2048x1024_S2048x1024_0_0
  h_S2048x1024 := @Cert.Kernel4Ideal.Gen.h_S2048x1024
  shapeCasts_S2048x1024_S2048x1024 := @Cert.Kernel4Ideal.Gen.shapeCasts_S2048x1024_S2048x1024
  bitsLt_bf16_f32 := @Cert.Kernel4Ideal.Gen.bitsLt_bf16_f32
  inb_S1x1024_S1x1024_0_0 := @Cert.Kernel4Ideal.Gen.inb_S1x1024_S1x1024_0_0
  h_S1x1024 := @Cert.Kernel4Ideal.Gen.h_S1x1024
  shapeCasts_S1x1024_S1x1024 := @Cert.Kernel4Ideal.Gen.shapeCasts_S1x1024_S1x1024
  broadcasts_S1x1024_S8x1024 := @Cert.Kernel4Ideal.Gen.broadcasts_S1x1024_S8x1024
  inb_S8x1024_S8x1024_0_0 := @Cert.Kernel4Ideal.Gen.inb_S8x1024_S8x1024_0_0
  h_S8x1024 := @Cert.Kernel4Ideal.Gen.h_S8x1024
  scatter_S8x2048_S1_S2x2048_01_n_0_0_wf := @Cert.Kernel4Ideal.Gen.scatter_S8x2048_S1_S2x2048_01_n_0_0_wf
  dot_S8x2048_S2048x1024_S8x1024_1_0_0_1_n_n_wf := @Cert.Kernel4Ideal.Gen.dot_S8x2048_S2048x1024_S8x1024_1_0_0_1_n_n_wf
  hrank0 := @Cert.Kernel4Ideal.Gen.hrank0
  hstage0_0 := @Cert.Kernel4Ideal.Gen.hstage0_0
  nbuf0_0 := @Cert.Kernel4Ideal.Gen.nbuf0_0
  hreads0_0 := @Cert.Kernel4Ideal.Gen.hreads0_0
  hinb0_0 := @Cert.Kernel4Ideal.Gen.hinb0_0
  hwx0_0 := @Cert.Kernel4Ideal.Gen.hwx0_0
  hstage0_1 := @Cert.Kernel4Ideal.Gen.hstage0_1
  nbuf0_1 := @Cert.Kernel4Ideal.Gen.nbuf0_1
  hreads0_1 := @Cert.Kernel4Ideal.Gen.hreads0_1
  hinb0_1 := @Cert.Kernel4Ideal.Gen.hinb0_1
  hwx0_1 := @Cert.Kernel4Ideal.Gen.hwx0_1
  hstage0_2 := @Cert.Kernel4Ideal.Gen.hstage0_2
  nbuf0_2 := @Cert.Kernel4Ideal.Gen.nbuf0_2
  hreads0_2 := @Cert.Kernel4Ideal.Gen.hreads0_2
  hinb0_2 := @Cert.Kernel4Ideal.Gen.hinb0_2
  hwx0_2 := @Cert.Kernel4Ideal.Gen.hwx0_2
  hstage0_3 := @Cert.Kernel4Ideal.Gen.hstage0_3
  nbuf0_3 := @Cert.Kernel4Ideal.Gen.nbuf0_3
  hreads0_3 := @Cert.Kernel4Ideal.Gen.hreads0_3
  hinb0_3 := @Cert.Kernel4Ideal.Gen.hinb0_3
  hwx0_3 := @Cert.Kernel4Ideal.Gen.hwx0_3

instance side : Cert.Kernel4.Facts where

variable {F : FTy → Type} [FloatOps F]

theorem bodies_same : @Cert.Kernel4.defs₀ F _ _ = @Cert.Kernel4Ideal.defs₀ F _ _ := by
  unfold Cert.Kernel4.defs₀ Cert.Kernel4Ideal.defs₀
  refine congrArg Defs.onTc (funext fun l => funext fun a => ?_)
  match l, a with
  | 0, (t, s) => exact Eq.trans rfl rfl
theorem defs_same : @Cert.Kernel4.defs F _ _ = @Cert.Kernel4Ideal.defs F _ _ := by
  unfold Cert.Kernel4.defs Cert.Kernel4Ideal.defs
  rw [bodies_same]
  rfl
theorem main_same : Cert.Kernel4.main (F := F) = Cert.Kernel4Ideal.main (F := F) := Eq.trans rfl rfl

/-- A run of the one text is a run of the other. -/
theorem same_run (s : MemSt nD τ sig (Elt F)) (Q : PUnit × MemSt nD τ sig (Elt F) → Prop)
    (h : θ_run (Cert.Kernel4Ideal.defs (F := F)) (onTc (τ := τ) (Cert.Kernel4Ideal.main (F := F))) s Q) :
    θ_run (Cert.Kernel4.defs (F := F)) (onTc (τ := Cert.Kernel4.τ) (Cert.Kernel4.main (F := F))) s Q := by
  have e : θ_run (Cert.Kernel4.defs (F := F)) (onTc (τ := Cert.Kernel4.τ) (Cert.Kernel4.main (F := F))) s
      = θ_run (Cert.Kernel4Ideal.defs (F := F)) (onTc (τ := τ) (Cert.Kernel4Ideal.main (F := F))) s := by
    rw [main_same, defs_same]
    rfl
  rw [e]
  exact h

/-- The modulation at machine arithmetic leaves its arguments alone and every counter at zero. -/
theorem frame_bits : Cert.quiescent_Kernel4 := fun m ρ _ =>
  same_run (F := Bits) _ _ (Cert.Kernel4Ideal.Gen.frame (F := Bits) m ρ)

/-- At ideal arithmetic too. -/
theorem frame_ideal : Cert.quiescent_Kernel4Ideal := fun m ρ _ => Cert.Kernel4Ideal.Gen.frame (F := Ideal) m ρ

/-- The reference, a list of host operations, does too. -/
theorem frame_reference : Cert.quiescent_Reference4Ideal := by
  intro m ρ _
  exact (θ_run Cert.Reference4Ideal.defs _ _).mono (fun r h => ⟨fun c => (h c).2,
      Idealize.ShloMosaic.sem_eq_zero_of_no_sems (by decide) r.2⟩)
    (Cert.Reference4Ideal.Value.run (F := Ideal) m ρ)

end Cert.Kernel4Ideal.Hand

end
-- ==== Proof.AdaValue.lean ====
/-
  The modulation that the condition gives, as the call leaves it and as the reference says it.
-/
module

public import proofs.«01_k».proof.Defs
public import proofs.«01_k».proof.Proof.Gen.Kernel4Ideal.Value
public import proofs.«01_k».proof.Proof.Gen.Reference4Ideal.Run
public import Idealize.ShloMosaic.Lib.VecWindow
public import Idealize.ShloMosaic.Lib.Pipeline.ValueKit.Tiles
public import Idealize.ShloMosaic.Lib.Pipeline.ValueKit.Geometry
public import Idealize.ShloMosaic.Lib.Routing.OpsPair
public import Idealize.ShloMosaic.Lib.Routing.OpsSet
public import Idealize.ShloMosaic.Lib.Pointwise

@[expose] public section

noncomputable section

namespace Cert.Kernel4Ideal.Hand

open Cert.Kernel4Ideal Cert.Kernel4Ideal.Gen
open Idealize.ShloMosaic Idealize.ShloMosaic.TcCoe Idealize.SL.Sem

/-- A condition's row, each entry times its sigmoid, times the weight, plus the bias, at column `k`. -/
def modAt (x : Fin 2048 → EReal) (w : Fin 2048 → Fin 12288 → EReal) (b : Fin 12288 → EReal) (k : Fin 12288) : EReal :=
  (∑ j, x j * Ideal.logistic (x j) * w j k) + b k

/-- The condition's two rows and six rows of zeros below them. -/
def padded (x : S2x2048.Idx → EReal) (r : Fin 8) (k : Fin 2048) : EReal :=
  if h : r.val < 2 then x (Idealize.ShloMosaic.ix2 (⟨r.val, h⟩ : Fin 2) k) else 0

theorem pay1_at (x0 : S8x2048.Idx → EReal) (x1 : S2048x1024.Idx → EReal) (x2 : S1x1024.Idx → EReal) (r : Fin 8) (k : Fin 1024) :
    k0_pay1 (F := Ideal) x0 x1 x2 (Idealize.ShloMosaic.ix2 r k)
      = (∑ j : Fin 2048, x0 (Idealize.ShloMosaic.ix2 r j) * Ideal.logistic (x0 (Idealize.ShloMosaic.ix2 r j)) * x1 (Idealize.ShloMosaic.ix2 j k))
          + x2 (Idealize.ShloMosaic.ix2 (0 : Fin 1) k) := by
  pointwise [k0_pay1]

/-- Setting the first two rows of an array of eight: row `a` of the update lands in row `a`. -/
theorem lands (idx : IVec S1 32) (h0 : idx (Idealize.ShloMosaic.ix1 (0 : Fin 1)) = 0#32) (a : Fin 2) (e : Fin 2048) (r : Fin 8) (k : Fin 2048) :
    scatter_S8x2048_S1_S2x2048_01_n_0_0.resultIdx? (Idealize.ShloMosaic.ix2 a e) idx = some (Idealize.ShloMosaic.ix2 r k) ↔ a.val = r.val ∧ e = k := by
  have hwin0 : scatter_S8x2048_S1_S2x2048_01_n_0_0.window (Idealize.ShloMosaic.ix2 a e) 0 = a.val := rfl
  have hwin1 : scatter_S8x2048_S1_S2x2048_01_n_0_0.window (Idealize.ShloMosaic.ix2 a e) 1 = e.val := rfl
  have hs0 : scatter_S8x2048_S1_S2x2048_01_n_0_0.start (Idealize.ShloMosaic.ix2 a e) idx 0 = 0 := by
    show (idx _).toInt = 0
    rw [show (idx _ : BitVec 32) = idx (Idealize.ShloMosaic.ix1 (0 : Fin 1)) from congrArg idx (funext fun b => match b with | ⟨0, _⟩ => Subsingleton.elim (α := Fin 1) _ _), h0]
    rfl
  have hs1 : scatter_S8x2048_S1_S2x2048_01_n_0_0.start (Idealize.ShloMosaic.ix2 a e) idx 1 = 0 := rfl
  refine (Idealize.ShloMosaic.Routing.resultIdx?_ix2 (R := 8) (C := 2048) scatter_S8x2048_S1_S2x2048_01_n_0_0 _ idx r k).trans ?_
  rw [hs0, hs1, hwin0, hwin1, Fin.ext_iff]
  omega

theorem set_at (x0 : S8x2048.Idx → EReal) (idx : IVec S1 32) (h0 : idx (Idealize.ShloMosaic.ix1 (0 : Fin 1)) = 0#32) (hx : ∀ i, x0 i = 0)
    (u : S2x2048.Idx → EReal) (r : Fin 8) (k : Fin 2048) :
    Host.scatter scatter_S8x2048_S1_S2x2048_01_n_0_0 (fun _ b => b) x0 idx u (Idealize.ShloMosaic.ix2 r k) = padded u r k := by
  unfold padded
  split
  · rename_i h
    refine Idealize.ShloMosaic.Routing.scatter_set_hit _ x0 idx u _ _ (fun j hj => ?_) (Idealize.ShloMosaic.ix2 (⟨r.val, h⟩ : Fin 2) k) ((lands idx h0 _ k r k).2 ⟨rfl, rfl⟩)
    obtain ⟨a, e, rfl⟩ : ∃ (a : Fin 2) (e : Fin 2048), j = (Idealize.ShloMosaic.ix2 a e : S2x2048.Idx) := ⟨j 0, j 1, Idealize.ShloMosaic.eq_ix2 j⟩
    obtain ⟨h1, h2⟩ := (lands idx h0 a e r k).1 hj
    exact congrArg u (congrArg₂ Idealize.ShloMosaic.ix2 (Fin.ext h1) h2)
  · rename_i h
    refine (Idealize.ShloMosaic.Routing.scatter_set_miss _ x0 idx u _ fun j hj => ?_).trans (hx _)
    obtain ⟨a, e, rfl⟩ : ∃ (a : Fin 2) (e : Fin 2048), j = (Idealize.ShloMosaic.ix2 a e : S2x2048.Idx) := ⟨j 0, j 1, Idealize.ShloMosaic.eq_ix2 j⟩
    have h1 := ((lands idx h0 a e r k).1 hj).1
    have := a.isLt
    omega

variable (m : (ℓ : Loc nD τ sig) → Buf (Elt Ideal) ℓ) (c : Dev nD)

/-- The rows, the weight and the bias, as the call takes them. -/
theorem V_rows (r : Fin 8) (k : Fin 2048) :
    (V m c main_v2 : S8x2048.Idx → EReal) (Idealize.ShloMosaic.ix2 r k) = padded (m ((c : Thread nD τ).loc main_arg0) : S2x2048.Idx → EReal) r k := by
  have e : (V m c main_v2 : S8x2048.Idx → EReal) = Host.scatter scatter_S8x2048_S1_S2x2048_01_n_0_0 (fun _ b => b)
      (broadcastInDim S8x2048 ![] bcast_S_S8x2048 (constant (F := Ideal) S_ .f32 0x00000000#32)) (broadcastInDim S1 ![] bcast_S_S1 (constantI S_ 32 0#32))
      (m ((c : Thread nD τ).loc main_arg0) : S2x2048.Idx → EReal) := by
    show StableHlo.after hostOps0 _ (Proc.devRef .tc main_v2) = _
    after_results_simp <;> rfl
  rw [e]
  exact set_at _ _ rfl (fun i => Ideal.ofBits_zero_f32) _ r k

theorem weight_at (x : S1x2048x12288.Idx → EReal) (j : Fin 2048) (k : Fin 12288) :
    shapeCast S2048x12288 x shapeCasts_S1x2048x12288_S2048x12288 (Idealize.ShloMosaic.ix2 j k) = x (Idealize.ShloMosaic.ix3 (0 : Fin 1) j k) := by
  pointwise
theorem bias_at (x : S1x12288.Idx → EReal) (k : Fin 12288) :
    broadcastInDim S1x12288 ![1] bcast_S12288_S1x12288_1 (shapeCast S12288 x shapeCasts_S1x12288_S12288) (Idealize.ShloMosaic.ix2 (0 : Fin 1) k)
      = x (Idealize.ShloMosaic.ix2 (0 : Fin 1) k) := by
  pointwise

theorem V_weight (j : Fin 2048) (k : Fin 12288) :
    (V m c main_v3 : S2048x12288.Idx → EReal) (Idealize.ShloMosaic.ix2 j k) = (m ((c : Thread nD τ).loc main_arg1) : S1x2048x12288.Idx → EReal) (Idealize.ShloMosaic.ix3 (0 : Fin 1) j k) := by
  have e : (V m c main_v3 : S2048x12288.Idx → EReal) = shapeCast S2048x12288 (m ((c : Thread nD τ).loc main_arg1) : S1x2048x12288.Idx → EReal) shapeCasts_S1x2048x12288_S2048x12288 := by
    show StableHlo.after hostOps0 _ (Proc.devRef .tc main_v3) = _
    after_results_simp <;> rfl
  rw [e]
  exact weight_at _ j k

theorem V_bias (k : Fin 12288) :
    (V m c main_v5 : S1x12288.Idx → EReal) (Idealize.ShloMosaic.ix2 (0 : Fin 1) k) = (m ((c : Thread nD τ).loc main_arg2) : S1x12288.Idx → EReal) (Idealize.ShloMosaic.ix2 (0 : Fin 1) k) := by
  have e : (V m c main_v5 : S1x12288.Idx → EReal) = broadcastInDim S1x12288 ![1] bcast_S12288_S1x12288_1
      (shapeCast S12288 (m ((c : Thread nD τ).loc main_arg2) : S1x12288.Idx → EReal) shapeCasts_S1x12288_S12288) := by
    show StableHlo.after hostOps0 _ (Proc.devRef .tc main_v5) = _
    after_results_simp <;> rfl
  rw [e]
  exact bias_at _ k

theorem points (t : Fin cfg0.N) : t.val < 12 := lt_of_lt_of_eq t.isLt N_0

/-- Which block of each array a point takes. -/
theorem index0 : ∀ t : Fin cfg0.N, win0_0.index t = ![0, 0] := (by decide +kernel : ∀ t : Fin grid0.N, win0_0.index t = ![0, 0])
theorem index1 : ∀ t : Fin cfg0.N, win0_1.index t = ![0, t.val] := (by decide +kernel : ∀ t : Fin grid0.N, win0_1.index t = ![0, t.val])
theorem index2 : ∀ t : Fin cfg0.N, win0_2.index t = ![0, t.val] := (by decide +kernel : ∀ t : Fin grid0.N, win0_2.index t = ![0, t.val])
theorem index3 : ∀ t : Fin cfg0.N, win0_3.index t = ![0, t.val] := (by decide +kernel : ∀ t : Fin grid0.N, win0_3.index t = ![0, t.val])

variable (t : Fin cfg0.N)

/-- Column `k` of the point's block of columns. -/
def colAt (q : ℕ) (hq : q < 12) (k : Fin 1024) : Fin 12288 := ⟨q * 1024 + k.val, by omega⟩

theorem block0 (r : Fin 8) (k : Fin 2048) :
    iblk m c 0 t (Idealize.ShloMosaic.ix2 r k : S8x2048.Idx) = (V m c main_v2 : S8x2048.Idx → EReal) (Idealize.ShloMosaic.ix2 r k) := by
  refine congrArg (V m c main_v2 : S8x2048.Idx → EReal) (funext fun a => Fin.ext ?_)
  match a with
  | ⟨0, _⟩ => show win0_0.index t (0 : Fin 2) * 8 + 1 * r.val = r.val; rw [index0]; show 0 * 8 + 1 * r.val = _; omega
  | ⟨1, _⟩ => show win0_0.index t (1 : Fin 2) * 2048 + 1 * k.val = k.val; rw [index0]; show 0 * 2048 + 1 * k.val = _; omega

theorem block1 (j : Fin 2048) (k : Fin 1024) :
    iblk m c 1 t (Idealize.ShloMosaic.ix2 j k : S2048x1024.Idx) = (V m c main_v3 : S2048x12288.Idx → EReal) (Idealize.ShloMosaic.ix2 j (colAt t.val (points t) k)) := by
  refine congrArg (V m c main_v3 : S2048x12288.Idx → EReal) (funext fun a => Fin.ext ?_)
  match a with
  | ⟨0, _⟩ => show win0_1.index t (0 : Fin 2) * 2048 + 1 * j.val = j.val; rw [index1]; show 0 * 2048 + 1 * j.val = _; omega
  | ⟨1, _⟩ => show win0_1.index t (1 : Fin 2) * 1024 + 1 * k.val = t.val * 1024 + k.val; rw [index1]; show t.val * 1024 + 1 * k.val = _; omega

theorem block2 (k : Fin 1024) :
    iblk m c 2 t (Idealize.ShloMosaic.ix2 (0 : Fin 1) k : S1x1024.Idx) = (V m c main_v5 : S1x12288.Idx → EReal) (Idealize.ShloMosaic.ix2 (0 : Fin 1) (colAt t.val (points t) k)) := by
  refine congrArg (V m c main_v5 : S1x12288.Idx → EReal) (funext fun a => Fin.ext ?_)
  match a with
  | ⟨0, _⟩ => show win0_2.index t (0 : Fin 2) * 1 + 1 * 0 = 0; rw [index2]; rfl
  | ⟨1, _⟩ => show win0_2.index t (1 : Fin 2) * 1024 + 1 * k.val = t.val * 1024 + k.val; rw [index2]; show t.val * 1024 + 1 * k.val = _; omega

/-- What a point writes: its block of columns of the modulation. -/
theorem wrote_at (r : Fin 8) (k : Fin 1024) :
    out0_3 (F := Ideal) (iblk m c 0 t) (iblk m c 1 t) (iblk m c 2 t) (Idealize.ShloMosaic.ix2 r k)
      = modAt (padded (m ((c : Thread nD τ).loc main_arg0) : S2x2048.Idx → EReal) r) (fun j k => (m ((c : Thread nD τ).loc main_arg1) : S1x2048x12288.Idx → EReal) (Idealize.ShloMosaic.ix3 (0 : Fin 1) j k))
          (fun k => (m ((c : Thread nD τ).loc main_arg2) : S1x12288.Idx → EReal) (Idealize.ShloMosaic.ix2 (0 : Fin 1) k)) (colAt t.val (points t) k) := by
  unfold out0_3
  rw [View.canon_cons_unit_lit _ _ _ (by decide), View.ld_unit_lit _ _ (by decide), View.ld_unit_lit _ _ (by decide), View.ld_unit_lit _ _ (by decide)]
  refine (pay1_at _ _ _ r k).trans ?_
  unfold modAt
  refine congrArg₂ (· + ·) (Finset.sum_congr rfl fun j _ => ?_) ((block2 m c t k).trans (V_bias m c _))
  rw [block0 m c t r j, block1 m c t j k, V_rows, V_weight]

/-- The array after the run. -/
def G (x : S2x2048.Idx → EReal) (w : S1x2048x12288.Idx → EReal) (b : S1x12288.Idx → EReal) : S8x12288.Idx → EReal := fun i =>
  modAt (padded x (i 0)) (fun j k => w (Idealize.ShloMosaic.ix3 (0 : Fin 1) j k)) (fun k => b (Idealize.ShloMosaic.ix2 (0 : Fin 1) k)) (i 1)

theorem block3 (r : Fin 8) (k : Fin 1024) :
    (win0_3.blk t).view.emb (Idealize.ShloMosaic.ix2 r k : S8x1024.Idx) = (Idealize.ShloMosaic.ix2 r (colAt t.val (points t) k) : S8x12288.Idx) := by
  refine funext fun a => Fin.ext ?_
  match a with
  | ⟨0, _⟩ => show win0_3.index t (0 : Fin 2) * 8 + 1 * r.val = r.val; rw [index3]; show 0 * 8 + 1 * r.val = _; omega
  | ⟨1, _⟩ => show win0_3.index t (1 : Fin 2) * 1024 + 1 * k.val = t.val * 1024 + k.val; rw [index3]; show t.val * 1024 + 1 * k.val = _; omega

theorem result : (dats m 0 c).arrAt 3 cfg0.N = G (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  obtain ⟨r, k, rfl⟩ : ∃ (r : Fin 8) (k : Fin 1024), y = (Idealize.ShloMosaic.ix2 r k : S8x1024.Idx) := ⟨y 0, y 1, Idealize.ShloMosaic.eq_ix2 (y : S8x1024.Idx)⟩
  refine (wrote_at m c t r k).trans (congrArg (G (m ((c : Thread nD τ).loc main_arg0)) (m ((c : Thread nD τ).loc main_arg1)) (m ((c : Thread nD τ).loc main_arg2))) (block3 t r k)).symm

end Cert.Kernel4Ideal.Hand

end
-- ==== Proof.AdaRef.lean ====
/-
  What the modulation's reference says, element by element, and that the call's array is it.
-/
module

public import proofs.«01_k».proof.Proof.AdaValue

@[expose] public section

noncomputable section

namespace Cert.Reference4Ideal.Hand

open Cert.Reference4Ideal Cert.Reference4Ideal.Gen
open Idealize.ShloMosaic Idealize.ShloMosaic.TcCoe Idealize.SL.Sem
open Cert.Kernel4Ideal.Hand (modAt padded G)

variable {F : FTy → Type} [FloatOps F]

/-- The condition's rows with six rows of zeros below them. -/
def below (x : FVec F S2x2048 .f32) : FVec F S8x2048 .f32 :=
  concatenate S8x2048 0 [⟨S2x2048, x⟩, ⟨S6x2048, (broadcastInDim S6x2048 ![] bcast_S_S6x2048 (constant S_ .f32 0x00000000#32))⟩] concatenates_S2x2048_S6x2048_S8x2048_d0

/-- Each entry times its sigmoid. -/
def siluOf (y : FVec F S8x2048 .f32) : FVec F S8x2048 .f32 :=
  mulf y (Host.divf (broadcastInDim S8x2048 ![] bcast_S_S8x2048 (constant S_ .f32 0x3F800000#32))
    (addf (broadcastInDim S8x2048 ![] bcast_S_S8x2048 (constant S_ .f32 0x3F800000#32)) (Host.exp (Host.negf y))))

/-- The reference's result. -/
def out (x : FVec F S2x2048 .f32) (w : FVec F S1x2048x12288 .f32) (b : FVec F S1x12288 .f32) : FVec F S8x12288 .f32 :=
  addf (Host.dotGeneral dot_S8x2048_S2048x12288_S8x12288_1_0_0_1_n_n none (siluOf (below x)) (shapeCast _ w shapeCasts_S1x2048x12288_S2048x12288))
    (broadcastInDim S8x12288 ![0, 1] bcast_S1x12288_S8x12288_0_1 (broadcastInDim S1x12288 ![1] bcast_S12288_S1x12288_1 (shapeCast _ b shapeCasts_S1x12288_S12288)))

section At

theorem below_at (x : S2x2048.Idx → EReal) (r : Fin 8) (k : Fin 2048) : below (F := Ideal) x (Idealize.ShloMosaic.ix2 r k) = padded x r k := by
  unfold padded
  pointwise [below]

theorem silu_at (y : S8x2048.Idx → EReal) (r : Fin 8) (k : Fin 2048) :
    siluOf (F := Ideal) y (Idealize.ShloMosaic.ix2 r k) = y (Idealize.ShloMosaic.ix2 r k) * Ideal.logistic (y (Idealize.ShloMosaic.ix2 r k)) := by
  pointwise [siluOf]
  rfl

theorem sum_at (y : S8x2048.Idx → EReal) (w : S1x2048x12288.Idx → EReal) (b : S1x12288.Idx → EReal) (r : Fin 8) (k : Fin 12288) :
    (addf (F := Ideal) (φ := .f32) (Host.dotGeneral (F := Ideal) (φ₁ := .f32) (φ₂ := .f32) dot_S8x2048_S2048x12288_S8x12288_1_0_0_1_n_n none y (shapeCast S2048x12288 w shapeCasts_S1x2048x12288_S2048x12288))
      (broadcastInDim S8x12288 ![0, 1] bcast_S1x12288_S8x12288_0_1 (broadcastInDim S1x12288 ![1] bcast_S12288_S1x12288_1 (shapeCast S12288 b shapeCasts_S1x12288_S12288)))) (Idealize.ShloMosaic.ix2 r k)
      = (∑ j : Fin 2048, y (Idealize.ShloMosaic.ix2 r j) * w (Idealize.ShloMosaic.ix3 (0 : Fin 1) j k)) + b (Idealize.ShloMosaic.ix2 (0 : Fin 1) k) := by
  pointwise

theorem out_eq (x : S2x2048.Idx → EReal) (w : S1x2048x12288.Idx → EReal) (b : S1x12288.Idx → EReal) : out (F := Ideal) x w b = G x w b := by
  funext i
  obtain ⟨r, k, rfl⟩ : ∃ (r : Fin 8) (k : Fin 12288), i = (Idealize.ShloMosaic.ix2 r k : S8x12288.Idx) := ⟨i 0, i 1, Idealize.ShloMosaic.eq_ix2 i⟩
  refine (sum_at _ w b r k).trans ?_
  show _ = modAt (padded x r) (fun j k => w (Idealize.ShloMosaic.ix3 (0 : Fin 1) j k)) (fun k => b (Idealize.ShloMosaic.ix2 (0 : Fin 1) k)) k
  unfold modAt
  exact congrArg (· + _) (Finset.sum_congr rfl fun j _ => by rw [silu_at, below_at])

end At

end Cert.Reference4Ideal.Hand

namespace Cert.Kernel4Ideal.Hand

open Idealize.ShloMosaic Idealize.ShloMosaic.TcCoe Idealize.SL.Sem

/-- The call leaves what the reference says. -/
theorem algebraic : Cert.algebraic_Kernel4Ideal_Reference4Ideal := fun m g m' g' _ hagree => by
  refine ⟨fun c => (Cert.Kernel4Ideal.Gen.dats m 0 c).arrAt 3 Cert.Kernel4Ideal.cfg0.N, ?_, ?_⟩
  · exact Cert.Kernel4Ideal.Value.run_blocks (F := Ideal) m g
  · refine (θ_run Cert.Reference4Ideal.defs _ _).mono (fun r h c => ?_) (Cert.Reference4Ideal.Value.run (F := Ideal) m' g')
    obtain ⟨e, hargs⟩ := h c
    obtain ⟨h0, h1, h2⟩ := hagree c
    rw [h0, h1, h2] at e
    exact ⟨e.trans ((Cert.Reference4Ideal.Hand.out_eq _ _ _).trans (result m c).symm), hargs⟩

end Cert.Kernel4Ideal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Run
public import proofs.«01_k».proof.Proof.Gen.Pre_routed
public import proofs.«01_k».proof.Proof.Algebraic
public import proofs.«01_k».proof.Proof.InFrames
public import proofs.«01_k».proof.Proof.InValue
public import proofs.«01_k».proof.Proof.OutFrames
public import proofs.«01_k».proof.Proof.OutValue
public import proofs.«01_k».proof.Proof.AdaFrames
public import proofs.«01_k».proof.Proof.AdaRef
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2Ideal.Hand.side, Cert.Kernel2Ideal.Gen.facts, Cert.Reference2Ideal.Gen.facts,
  Cert.Kernel3Ideal.Hand.side, Cert.Kernel3Ideal.Gen.facts, Cert.Reference3Ideal.Gen.facts,
  Cert.Kernel4Ideal.Hand.side, Cert.Kernel4Ideal.Gen.facts, Cert.Reference4Ideal.Gen.facts, Cert.Pre_routed.Gen.facts,
  Cert.KernelIdeal.Hand.frame_bits, Cert.KernelIdeal.Hand.frame_ideal, Cert.KernelIdeal.Hand.frame_reference,
  Cert.Kernel2Ideal.Hand.frame_bits, Cert.Kernel2Ideal.Hand.frame_ideal, Cert.Kernel2Ideal.Hand.frame_reference,
  Cert.Kernel3Ideal.Hand.frame_bits, Cert.Kernel3Ideal.Hand.frame_ideal, Cert.Kernel3Ideal.Hand.frame_reference,
  Cert.Kernel4Ideal.Hand.frame_bits, Cert.Kernel4Ideal.Hand.frame_ideal, Cert.Kernel4Ideal.Hand.frame_reference,
  trivial, Cert.KernelIdeal.Hand.algebraic, trivial, Cert.Kernel2Ideal.Hand.algebraic, trivial, Cert.Kernel3Ideal.Hand.algebraic,
  trivial, Cert.Kernel4Ideal.Hand.algebraic⟩

end Cert.Proof

end
